-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 1024, 16, 128]⟩ ⟨4, ![8, 4096, 16, 128]⟩ (Layout.meshBlock [2, 4, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 1024, 16, 128]⟩ ⟨4, ![8, 4096, 16, 128]⟩ (Layout.meshBlock [2, 4, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S8x8x16x128 : Shape := ⟨4, ![8, 8, 16, 128]⟩
abbrev S8x1024x16x128 : Shape := ⟨4, ![8, 1024, 16, 128]⟩
abbrev S_ : Shape := ⟨0, ![]⟩

class Facts : Prop where
  bcast_S_S8x8x16x128 : S_.BroadcastsInDim S8x8x16x128 (![] : Fin 0 → Fin S8x8x16x128.rank)
  reducesTo_S8x8x16x128_S_d0_1_2_3 : S8x8x16x128.ReducesTo [0, 1, 2, 3] S_
  h_S_ : 0 < S_.numel
  bcast_S_S8x1024x16x128 : S_.BroadcastsInDim S8x1024x16x128 (![] : Fin 0 → Fin S8x1024x16x128.rank)
  reducesTo_S8x1024x16x128_S_d0_1_2_3 : S8x1024x16x128.ReducesTo [0, 1, 2, 3] S_

variable [Facts]

def fn {F : FTy → Type} [FloatOps F] (main_arg0 : FVec F S8x8x16x128 .f32) (main_arg1 : FVec F S8x1024x16x128 .f32) (main_arg2 : FVec F S8x1024x16x128 .f32) : IVec S_ 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_c : IVec S_ 1 := constantI S_ 1 1#1
  let main_v3 : IVec S_ 1 := (fun x v => Host.reduce IntOp.andi x v reducesTo_S8x8x16x128_S_d0_1_2_3 h_S_) main_v2 main_c
  let main_v4 : FVec F S8x1024x16x128 .f32 := Host.absf main_arg1
  let main_cst_0 : FVec F S_ .f32 := constant S_ .f32 0x7F800000#32
  let main_v5 : FVec F S8x1024x16x128 .f32 := broadcastInDim S8x1024x16x128 ![] bcast_S_S8x1024x16x128 main_cst_0
  let main_v6 : IVec S8x1024x16x128 1 := cmpf .olt main_v4 main_v5
  let main_c_1 : IVec S_ 1 := constantI S_ 1 1#1
  let main_v7 : IVec S_ 1 := (fun x v => Host.reduce IntOp.andi x v reducesTo_S8x1024x16x128_S_d0_1_2_3 h_S_) main_v6 main_c_1
  let main_v8 : IVec S_ 1 := andi main_v3 main_v7
  main_v8
-- ==== Pre_finite_qk_ReferenceIdeal.lean ====
abbrev S8x8x16x128 : Shape := ⟨4, ![8, 8, 16, 128]⟩
abbrev S8x4096x16x128 : Shape := ⟨4, ![8, 4096, 16, 128]⟩
abbrev S_ : Shape := ⟨0, ![]⟩

class Facts : Prop where
  bcast_S_S8x8x16x128 : S_.BroadcastsInDim S8x8x16x128 (![] : Fin 0 → Fin S8x8x16x128.rank)
  reducesTo_S8x8x16x128_S_d0_1_2_3 : S8x8x16x128.ReducesTo [0, 1, 2, 3] S_
  h_S_ : 0 < S_.numel
  bcast_S_S8x4096x16x128 : S_.BroadcastsInDim S8x4096x16x128 (![] : Fin 0 → Fin S8x4096x16x128.rank)
  reducesTo_S8x4096x16x128_S_d0_1_2_3 : S8x4096x16x128.ReducesTo [0, 1, 2, 3] S_

variable [Facts]

def fn {F : FTy → Type} [FloatOps F] (main_arg0 : FVec F S8x8x16x128 .f32) (main_arg1 : FVec F S8x4096x16x128 .f32) (main_arg2 : FVec F S8x4096x16x128 .f32) : IVec S_ 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_c : IVec S_ 1 := constantI S_ 1 1#1
  let main_v3 : IVec S_ 1 := (fun x v => Host.reduce IntOp.andi x v reducesTo_S8x8x16x128_S_d0_1_2_3 h_S_) main_v2 main_c
  let main_v4 : FVec F S8x4096x16x128 .f32 := Host.absf main_arg1
  let main_cst_0 : FVec F S_ .f32 := constant S_ .f32 0x7F800000#32
  let main_v5 : FVec F S8x4096x16x128 .f32 := broadcastInDim S8x4096x16x128 ![] bcast_S_S8x4096x16x128 main_cst_0
  let main_v6 : IVec S8x4096x16x128 1 := cmpf .olt main_v4 main_v5
  let main_c_1 : IVec S_ 1 := constantI S_ 1 1#1
  let main_v7 : IVec S_ 1 := (fun x v => Host.reduce IntOp.andi x v reducesTo_S8x4096x16x128_S_d0_1_2_3 h_S_) main_v6 main_c_1
  let main_v8 : IVec S_ 1 := andi main_v3 main_v7
  main_v8
-- ==== Kernel.lean ====
abbrev S8x8x16x128 : Shape := ⟨4, ![8, 8, 16, 128]⟩
abbrev S8x1024x16x128 : Shape := ⟨4, ![8, 1024, 16, 128]⟩
abbrev S8x128x128 : Shape := ⟨3, ![8, 128, 128]⟩
abbrev S16x1024x128 : Shape := ⟨3, ![16, 1024, 128]⟩
abbrev S8x16x128 : Shape := ⟨3, ![8, 16, 128]⟩
abbrev S4x256x128 : Shape := ⟨3, ![4, 256, 128]⟩
abbrev S16 : Shape := ⟨1, ![16]⟩
abbrev S3 : Shape := ⟨1, ![3]⟩
abbrev S7 : Shape := ⟨1, ![7]⟩
abbrev S1 : Shape := ⟨1, ![1]⟩
abbrev S_ : Shape := ⟨0, ![]⟩
abbrev S1x1024x128 : Shape := ⟨3, ![1, 1024, 128]⟩
abbrev S1024x128 : Shape := ⟨2, ![1024, 128]⟩
abbrev S1x1024x1x128 : Shape := ⟨4, ![1, 1024, 1, 128]⟩
abbrev S1x8x16x128 : Shape := ⟨4, ![1, 8, 16, 128]⟩
abbrev S8x1x128 : Shape := ⟨3, ![8, 1, 128]⟩
abbrev S8x128 : Shape := ⟨2, ![8, 128]⟩
abbrev S8x1024 : Shape := ⟨2, ![8, 1024]⟩
abbrev S8 : Shape := ⟨1, ![8]⟩
abbrev S8x1 : Shape := ⟨2, ![8, 1]⟩
abbrev S128x128 : Shape := ⟨2, ![128, 128]⟩
abbrev S1x128x128 : Shape := ⟨3, ![1, 128, 128]⟩
abbrev S1x256x128 : Shape := ⟨3, ![1, 256, 128]⟩
abbrev S256x128 : Shape := ⟨2, ![256, 128]⟩

abbrev nBuf : Space → Nat
  | .hbm => 4
  | .vmem => 8
  | .smem => 0
  | _ => 0

abbrev bufTy : (tb : Table) → Fin (tcTables nBuf tb) → BufTy
  | .hbm, ⟨0, _⟩ => ⟨S8x8x16x128, .f32⟩
  | .hbm, ⟨1, _⟩ => ⟨S8x1024x16x128, .f32⟩
  | .hbm, ⟨2, _⟩ => ⟨S8x1024x16x128, .f32⟩
  | .hbm, ⟨3, _⟩ => ⟨S8x128x128, .f32⟩
  | .local _ .vmem, ⟨0, _⟩ => ⟨S8x8x16x128, .f32⟩
  | .local _ .vmem, ⟨1, _⟩ => ⟨S8x128x128, .f32⟩
  | .local _ .vmem, ⟨2, _⟩ => ⟨S16x1024x128, .f32⟩
  | .local _ .vmem, ⟨3, _⟩ => ⟨S16x1024x128, .f32⟩
  | .local _ .vmem, ⟨4, _⟩ => ⟨S8x16x128, .f32⟩
  | .local _ .vmem, ⟨5, _⟩ => ⟨S8x16x128, .f32⟩
  | .local _ .vmem, ⟨6, _⟩ => ⟨S4x256x128, .bf16⟩
  | .local _ .vmem, ⟨7, _⟩ => ⟨S8x128x128, .bf16⟩
  | _, _ => ⟨S8x8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_7 : BitVec 32 := 0#32
  let c0_i32 : BitVec 32 := 0#32
  let c0_i32_8 : BitVec 32 := 0#32
  ![v10.toNat, 0, 0, 0]
def k0_off2 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_21 : BitVec 32 := 0#32
  let c1_i32_16 : BitVec 32 := 1#32
  let c0_i32_22 : BitVec 32 := 0#32
  ![v10.toNat, 0, 1, 0]
def k0_off3 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_35 : BitVec 32 := 0#32
  let c2_i32_30 : BitVec 32 := 2#32
  let c0_i32_36 : BitVec 32 := 0#32
  ![v10.toNat, 0, 2, 0]
def k0_off4 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_48 : BitVec 32 := 0#32
  let c3_i32 : BitVec 32 := 3#32
  let c0_i32_49 : BitVec 32 := 0#32
  ![v10.toNat, 0, 3, 0]
def k0_off5 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_62 : BitVec 32 := 0#32
  let c4_i32_57 : BitVec 32 := 4#32
  let c0_i32_63 : BitVec 32 := 0#32
  ![v10.toNat, 0, 4, 0]
def k0_off6 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_75 : BitVec 32 := 0#32
  let c5_i32 : BitVec 32 := 5#32
  let c0_i32_76 : BitVec 32 := 0#32
  ![v10.toNat, 0, 5, 0]
def k0_off7 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_88 : BitVec 32 := 0#32
  let c6_i32 : BitVec 32 := 6#32
  let c0_i32_89 : BitVec 32 := 0#32
  ![v10.toNat, 0, 6, 0]
def k0_off8 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_101 : BitVec 32 := 0#32
  let c7_i32 : BitVec 32 := 7#32
  let c0_i32_102 : BitVec 32 := 0#32
  ![v10.toNat, 0, 7, 0]
def k0_off9 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_114 : BitVec 32 := 0#32
  let c8_i32 : BitVec 32 := 8#32
  let c0_i32_115 : BitVec 32 := 0#32
  ![v10.toNat, 0, 8, 0]
def k0_off10 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_127 : BitVec 32 := 0#32
  let c9_i32 : BitVec 32 := 9#32
  let c0_i32_128 : BitVec 32 := 0#32
  ![v10.toNat, 0, 9, 0]
def k0_off11 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_140 : BitVec 32 := 0#32
  let c10_i32 : BitVec 32 := 10#32
  let c0_i32_141 : BitVec 32 := 0#32
  ![v10.toNat, 0, 10, 0]
def k0_off12 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_153 : BitVec 32 := 0#32
  let c11_i32 : BitVec 32 := 11#32
  let c0_i32_154 : BitVec 32 := 0#32
  ![v10.toNat, 0, 11, 0]
def k0_off13 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_166 : BitVec 32 := 0#32
  let c12_i32 : BitVec 32 := 12#32
  let c0_i32_167 : BitVec 32 := 0#32
  ![v10.toNat, 0, 12, 0]
def k0_off14 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_179 : BitVec 32 := 0#32
  let c13_i32 : BitVec 32 := 13#32
  let c0_i32_180 : BitVec 32 := 0#32
  ![v10.toNat, 0, 13, 0]
def k0_off15 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_192 : BitVec 32 := 0#32
  let c14_i32 : BitVec 32 := 14#32
  let c0_i32_193 : BitVec 32 := 0#32
  ![v10.toNat, 0, 14, 0]
def k0_off16 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_205 : BitVec 32 := 0#32
  let c15_i32 : BitVec 32 := 15#32
  let c0_i32_206 : BitVec 32 := 0#32
  ![v10.toNat, 0, 15, 0]
def k0_dev1 (d0 : Dev nD) : Nat :=
  let c0_i32_223 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_222 : BitVec 32 := 16#32
  let v215 : BitVec 32 := Scalar.muli v2 c16_i32_222
  let v216 : BitVec 32 := Scalar.addi c0_i32_223 v215
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_214 : BitVec 32 := 1#32
  let v204 : BitVec 32 := Scalar.addi v5 c1_i32_214
  let c4_i32_215 : BitVec 32 := 4#32
  let c0_i32_216 : BitVec 32 := 0#32
  let v205 : BitVec 1 := Scalar.cmpi .eq c4_i32_215 c0_i32_216
  let c1_i32_217 : BitVec 32 := 1#32
  let v206 : BitVec 32 := Scalar.select v205 c1_i32_217 c4_i32_215
  let v207 : BitVec 32 := Scalar.remsi v204 v206
  let c0_i32_219 : BitVec 32 := 0#32
  let v209 : BitVec 1 := Scalar.cmpi .slt v207 c0_i32_219
  let c0_i32_220 : BitVec 32 := 0#32
  let v210 : BitVec 1 := Scalar.cmpi .slt v206 c0_i32_220
  let v211 : BitVec 1 := Scalar.xori v209 v210
  let c0_i32_218 : BitVec 32 := 0#32
  let v208 : BitVec 1 := Scalar.cmpi .ne v207 c0_i32_218
  let v212 : BitVec 1 := Scalar.andi v211 v208
  let v213 : BitVec 32 := Scalar.addi v207 v206
  let v214 : BitVec 32 := Scalar.select v212 v213 v207
  let c4_i32_224 : BitVec 32 := 4#32
  let v217 : BitVec 32 := Scalar.muli v214 c4_i32_224
  let v218 : BitVec 32 := Scalar.addi v216 v217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_225 : BitVec 32 := 1#32
  let v219 : BitVec 32 := Scalar.muli v8 c1_i32_225
  let v220 : BitVec 32 := Scalar.addi v218 v219
  v220.toNat
def k0_dev2 (d0 : Dev nD) : Nat :=
  let c0_i32_235 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_234 : BitVec 32 := 16#32
  let v232 : BitVec 32 := Scalar.muli v2 c16_i32_234
  let v233 : BitVec 32 := Scalar.addi c0_i32_235 v232
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_226 : BitVec 32 := 2#32
  let v221 : BitVec 32 := Scalar.addi v5 c2_i32_226
  let c4_i32_227 : BitVec 32 := 4#32
  let c0_i32_228 : BitVec 32 := 0#32
  let v222 : BitVec 1 := Scalar.cmpi .eq c4_i32_227 c0_i32_228
  let c1_i32_229 : BitVec 32 := 1#32
  let v223 : BitVec 32 := Scalar.select v222 c1_i32_229 c4_i32_227
  let v224 : BitVec 32 := Scalar.remsi v221 v223
  let c0_i32_231 : BitVec 32 := 0#32
  let v226 : BitVec 1 := Scalar.cmpi .slt v224 c0_i32_231
  let c0_i32_232 : BitVec 32 := 0#32
  let v227 : BitVec 1 := Scalar.cmpi .slt v223 c0_i32_232
  let v228 : BitVec 1 := Scalar.xori v226 v227
  let c0_i32_230 : BitVec 32 := 0#32
  let v225 : BitVec 1 := Scalar.cmpi .ne v224 c0_i32_230
  let v229 : BitVec 1 := Scalar.andi v228 v225
  let v230 : BitVec 32 := Scalar.addi v224 v223
  let v231 : BitVec 32 := Scalar.select v229 v230 v224
  let c4_i32_236 : BitVec 32 := 4#32
  let v234 : BitVec 32 := Scalar.muli v231 c4_i32_236
  let v235 : BitVec 32 := Scalar.addi v233 v234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_237 : BitVec 32 := 1#32
  let v236 : BitVec 32 := Scalar.muli v8 c1_i32_237
  let v237 : BitVec 32 := Scalar.addi v235 v236
  v237.toNat
def k0_dev3 (d0 : Dev nD) : Nat :=
  let c0_i32_247 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_246 : BitVec 32 := 16#32
  let v249 : BitVec 32 := Scalar.muli v2 c16_i32_246
  let v250 : BitVec 32 := Scalar.addi c0_i32_247 v249
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_238 : BitVec 32 := 3#32
  let v238 : BitVec 32 := Scalar.addi v5 c3_i32_238
  let c4_i32_239 : BitVec 32 := 4#32
  let c0_i32_240 : BitVec 32 := 0#32
  let v239 : BitVec 1 := Scalar.cmpi .eq c4_i32_239 c0_i32_240
  let c1_i32_241 : BitVec 32 := 1#32
  let v240 : BitVec 32 := Scalar.select v239 c1_i32_241 c4_i32_239
  let v241 : BitVec 32 := Scalar.remsi v238 v240
  let c0_i32_243 : BitVec 32 := 0#32
  let v243 : BitVec 1 := Scalar.cmpi .slt v241 c0_i32_243
  let c0_i32_244 : BitVec 32 := 0#32
  let v244 : BitVec 1 := Scalar.cmpi .slt v240 c0_i32_244
  let v245 : BitVec 1 := Scalar.xori v243 v244
  let c0_i32_242 : BitVec 32 := 0#32
  let v242 : BitVec 1 := Scalar.cmpi .ne v241 c0_i32_242
  let v246 : BitVec 1 := Scalar.andi v245 v242
  let v247 : BitVec 32 := Scalar.addi v241 v240
  let v248 : BitVec 32 := Scalar.select v246 v247 v241
  let c4_i32_248 : BitVec 32 := 4#32
  let v251 : BitVec 32 := Scalar.muli v248 c4_i32_248
  let v252 : BitVec 32 := Scalar.addi v250 v251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v253 : BitVec 32 := Scalar.muli v8 c1_i32_249
  let v254 : BitVec 32 := Scalar.addi v252 v253
  v254.toNat
def k0_dev4 (d0 : Dev nD) : Nat :=
  let c0_i32_272 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_250 : BitVec 32 := 1#32
  let v255 : BitVec 32 := Scalar.addi v10 c1_i32_250
  let c8_i32_251 : BitVec 32 := 8#32
  let c0_i32_252 : BitVec 32 := 0#32
  let v256 : BitVec 1 := Scalar.cmpi .eq c8_i32_251 c0_i32_252
  let c1_i32_253 : BitVec 32 := 1#32
  let v257 : BitVec 32 := Scalar.select v256 c1_i32_253 c8_i32_251
  let v258 : BitVec 32 := Scalar.remsi v255 v257
  let c0_i32_255 : BitVec 32 := 0#32
  let v260 : BitVec 1 := Scalar.cmpi .slt v258 c0_i32_255
  let c0_i32_256 : BitVec 32 := 0#32
  let v261 : BitVec 1 := Scalar.cmpi .slt v257 c0_i32_256
  let v262 : BitVec 1 := Scalar.xori v260 v261
  let c0_i32_254 : BitVec 32 := 0#32
  let v259 : BitVec 1 := Scalar.cmpi .ne v258 c0_i32_254
  let v263 : BitVec 1 := Scalar.andi v262 v259
  let v264 : BitVec 32 := Scalar.addi v258 v257
  let v265 : BitVec 32 := Scalar.select v263 v264 v258
  let c0_i32_258 : BitVec 32 := 0#32
  let v267 : BitVec 1 := Scalar.cmpi .sgt v265 c0_i32_258
  let v268 : BitVec 32 := Scalar.extui v267
  let c0_i32_259 : BitVec 32 := 0#32
  let v269 : BitVec 1 := Scalar.cmpi .slt v265 c0_i32_259
  let v270 : BitVec 32 := Scalar.extui v269
  let v271 : BitVec 32 := Scalar.subi v268 v270
  let c4_i32_257 : BitVec 32 := 4#32
  let c0_i32_260 : BitVec 32 := 0#32
  let v272 : BitVec 1 := Scalar.cmpi .sgt c4_i32_257 c0_i32_260
  let v273 : BitVec 32 := Scalar.extui v272
  let c0_i32_261 : BitVec 32 := 0#32
  let v274 : BitVec 1 := Scalar.cmpi .slt c4_i32_257 c0_i32_261
  let v275 : BitVec 32 := Scalar.extui v274
  let v276 : BitVec 32 := Scalar.subi v273 v275
  let v277 : BitVec 1 := Scalar.cmpi .ne v271 v276
  let v278 : BitVec 32 := Scalar.remsi v265 c4_i32_257
  let c0_i32_262 : BitVec 32 := 0#32
  let v279 : BitVec 1 := Scalar.cmpi .ne v278 c0_i32_262
  let v280 : BitVec 1 := Scalar.andi v277 v279
  let v266 : BitVec 32 := Scalar.divsi v265 c4_i32_257
  let c1_i32_263 : BitVec 32 := 1#32
  let v281 : BitVec 32 := Scalar.subi v266 c1_i32_263
  let v282 : BitVec 32 := Scalar.select v280 v281 v266
  let c16_i32_271 : BitVec 32 := 16#32
  let v293 : BitVec 32 := Scalar.muli v282 c16_i32_271
  let v294 : BitVec 32 := Scalar.addi c0_i32_272 v293
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_273 : BitVec 32 := 4#32
  let v295 : BitVec 32 := Scalar.muli v5 c4_i32_273
  let v296 : BitVec 32 := Scalar.addi v294 v295
  let c4_i32_264 : BitVec 32 := 4#32
  let c0_i32_265 : BitVec 32 := 0#32
  let v283 : BitVec 1 := Scalar.cmpi .eq c4_i32_264 c0_i32_265
  let c1_i32_266 : BitVec 32 := 1#32
  let v284 : BitVec 32 := Scalar.select v283 c1_i32_266 c4_i32_264
  let v285 : BitVec 32 := Scalar.remsi v265 v284
  let c0_i32_268 : BitVec 32 := 0#32
  let v287 : BitVec 1 := Scalar.cmpi .slt v285 c0_i32_268
  let c0_i32_269 : BitVec 32 := 0#32
  let v288 : BitVec 1 := Scalar.cmpi .slt v284 c0_i32_269
  let v289 : BitVec 1 := Scalar.xori v287 v288
  let c0_i32_267 : BitVec 32 := 0#32
  let v286 : BitVec 1 := Scalar.cmpi .ne v285 c0_i32_267
  let v290 : BitVec 1 := Scalar.andi v289 v286
  let v291 : BitVec 32 := Scalar.addi v285 v284
  let v292 : BitVec 32 := Scalar.select v290 v291 v285
  let c1_i32_274 : BitVec 32 := 1#32
  let v297 : BitVec 32 := Scalar.muli v292 c1_i32_274
  let v298 : BitVec 32 := Scalar.addi v296 v297
  v298.toNat
def k0_dev5 (d0 : Dev nD) : Nat :=
  let c0_i32_297 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c2_i32_275 : BitVec 32 := 2#32
  let v299 : BitVec 32 := Scalar.addi v10 c2_i32_275
  let c8_i32_276 : BitVec 32 := 8#32
  let c0_i32_277 : BitVec 32 := 0#32
  let v300 : BitVec 1 := Scalar.cmpi .eq c8_i32_276 c0_i32_277
  let c1_i32_278 : BitVec 32 := 1#32
  let v301 : BitVec 32 := Scalar.select v300 c1_i32_278 c8_i32_276
  let v302 : BitVec 32 := Scalar.remsi v299 v301
  let c0_i32_280 : BitVec 32 := 0#32
  let v304 : BitVec 1 := Scalar.cmpi .slt v302 c0_i32_280
  let c0_i32_281 : BitVec 32 := 0#32
  let v305 : BitVec 1 := Scalar.cmpi .slt v301 c0_i32_281
  let v306 : BitVec 1 := Scalar.xori v304 v305
  let c0_i32_279 : BitVec 32 := 0#32
  let v303 : BitVec 1 := Scalar.cmpi .ne v302 c0_i32_279
  let v307 : BitVec 1 := Scalar.andi v306 v303
  let v308 : BitVec 32 := Scalar.addi v302 v301
  let v309 : BitVec 32 := Scalar.select v307 v308 v302
  let c0_i32_283 : BitVec 32 := 0#32
  let v311 : BitVec 1 := Scalar.cmpi .sgt v309 c0_i32_283
  let v312 : BitVec 32 := Scalar.extui v311
  let c0_i32_284 : BitVec 32 := 0#32
  let v313 : BitVec 1 := Scalar.cmpi .slt v309 c0_i32_284
  let v314 : BitVec 32 := Scalar.extui v313
  let v315 : BitVec 32 := Scalar.subi v312 v314
  let c4_i32_282 : BitVec 32 := 4#32
  let c0_i32_285 : BitVec 32 := 0#32
  let v316 : BitVec 1 := Scalar.cmpi .sgt c4_i32_282 c0_i32_285
  let v317 : BitVec 32 := Scalar.extui v316
  let c0_i32_286 : BitVec 32 := 0#32
  let v318 : BitVec 1 := Scalar.cmpi .slt c4_i32_282 c0_i32_286
  let v319 : BitVec 32 := Scalar.extui v318
  let v320 : BitVec 32 := Scalar.subi v317 v319
  let v321 : BitVec 1 := Scalar.cmpi .ne v315 v320
  let v322 : BitVec 32 := Scalar.remsi v309 c4_i32_282
  let c0_i32_287 : BitVec 32 := 0#32
  let v323 : BitVec 1 := Scalar.cmpi .ne v322 c0_i32_287
  let v324 : BitVec 1 := Scalar.andi v321 v323
  let v310 : BitVec 32 := Scalar.divsi v309 c4_i32_282
  let c1_i32_288 : BitVec 32 := 1#32
  let v325 : BitVec 32 := Scalar.subi v310 c1_i32_288
  let v326 : BitVec 32 := Scalar.select v324 v325 v310
  let c16_i32_296 : BitVec 32 := 16#32
  let v337 : BitVec 32 := Scalar.muli v326 c16_i32_296
  let v338 : BitVec 32 := Scalar.addi c0_i32_297 v337
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_298 : BitVec 32 := 4#32
  let v339 : BitVec 32 := Scalar.muli v5 c4_i32_298
  let v340 : BitVec 32 := Scalar.addi v338 v339
  let c4_i32_289 : BitVec 32 := 4#32
  let c0_i32_290 : BitVec 32 := 0#32
  let v327 : BitVec 1 := Scalar.cmpi .eq c4_i32_289 c0_i32_290
  let c1_i32_291 : BitVec 32 := 1#32
  let v328 : BitVec 32 := Scalar.select v327 c1_i32_291 c4_i32_289
  let v329 : BitVec 32 := Scalar.remsi v309 v328
  let c0_i32_293 : BitVec 32 := 0#32
  let v331 : BitVec 1 := Scalar.cmpi .slt v329 c0_i32_293
  let c0_i32_294 : BitVec 32 := 0#32
  let v332 : BitVec 1 := Scalar.cmpi .slt v328 c0_i32_294
  let v333 : BitVec 1 := Scalar.xori v331 v332
  let c0_i32_292 : BitVec 32 := 0#32
  let v330 : BitVec 1 := Scalar.cmpi .ne v329 c0_i32_292
  let v334 : BitVec 1 := Scalar.andi v333 v330
  let v335 : BitVec 32 := Scalar.addi v329 v328
  let v336 : BitVec 32 := Scalar.select v334 v335 v329
  let c1_i32_299 : BitVec 32 := 1#32
  let v341 : BitVec 32 := Scalar.muli v336 c1_i32_299
  let v342 : BitVec 32 := Scalar.addi v340 v341
  v342.toNat
def k0_dev6 (d0 : Dev nD) : Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c3_i32_300 : BitVec 32 := 3#32
  let v343 : BitVec 32 := Scalar.addi v10 c3_i32_300
  let c8_i32_301 : BitVec 32 := 8#32
  let c0_i32_302 : BitVec 32 := 0#32
  let v344 : BitVec 1 := Scalar.cmpi .eq c8_i32_301 c0_i32_302
  let c1_i32_303 : BitVec 32 := 1#32
  let v345 : BitVec 32 := Scalar.select v344 c1_i32_303 c8_i32_301
  let v346 : BitVec 32 := Scalar.remsi v343 v345
  let c0_i32_305 : BitVec 32 := 0#32
  let v348 : BitVec 1 := Scalar.cmpi .slt v346 c0_i32_305
  let c0_i32_306 : BitVec 32 := 0#32
  let v349 : BitVec 1 := Scalar.cmpi .slt v345 c0_i32_306
  let v350 : BitVec 1 := Scalar.xori v348 v349
  let c0_i32_304 : BitVec 32 := 0#32
  let v347 : BitVec 1 := Scalar.cmpi .ne v346 c0_i32_304
  let v351 : BitVec 1 := Scalar.andi v350 v347
  let v352 : BitVec 32 := Scalar.addi v346 v345
  let v353 : BitVec 32 := Scalar.select v351 v352 v346
  let c0_i32_308 : BitVec 32 := 0#32
  let v355 : BitVec 1 := Scalar.cmpi .sgt v353 c0_i32_308
  let v356 : BitVec 32 := Scalar.extui v355
  let c0_i32_309 : BitVec 32 := 0#32
  let v357 : BitVec 1 := Scalar.cmpi .slt v353 c0_i32_309
  let v358 : BitVec 32 := Scalar.extui v357
  let v359 : BitVec 32 := Scalar.subi v356 v358
  let c4_i32_307 : BitVec 32 := 4#32
  let c0_i32_310 : BitVec 32 := 0#32
  let v360 : BitVec 1 := Scalar.cmpi .sgt c4_i32_307 c0_i32_310
  let v361 : BitVec 32 := Scalar.extui v360
  let c0_i32_311 : BitVec 32 := 0#32
  let v362 : BitVec 1 := Scalar.cmpi .slt c4_i32_307 c0_i32_311
  let v363 : BitVec 32 := Scalar.extui v362
  let v364 : BitVec 32 := Scalar.subi v361 v363
  let v365 : BitVec 1 := Scalar.cmpi .ne v359 v364
  let v366 : BitVec 32 := Scalar.remsi v353 c4_i32_307
  let c0_i32_312 : BitVec 32 := 0#32
  let v367 : BitVec 1 := Scalar.cmpi .ne v366 c0_i32_312
  let v368 : BitVec 1 := Scalar.andi v365 v367
  let v354 : BitVec 32 := Scalar.divsi v353 c4_i32_307
  let c1_i32_313 : BitVec 32 := 1#32
  let v369 : BitVec 32 := Scalar.subi v354 c1_i32_313
  let v370 : BitVec 32 := Scalar.select v368 v369 v354
  let c16_i32_321 : BitVec 32 := 16#32
  let v381 : BitVec 32 := Scalar.muli v370 c16_i32_321
  let v382 : BitVec 32 := Scalar.addi c0_i32_322 v381
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_323 : BitVec 32 := 4#32
  let v383 : BitVec 32 := Scalar.muli v5 c4_i32_323
  let v384 : BitVec 32 := Scalar.addi v382 v383
  let c4_i32_314 : BitVec 32 := 4#32
  let c0_i32_315 : BitVec 32 := 0#32
  let v371 : BitVec 1 := Scalar.cmpi .eq c4_i32_314 c0_i32_315
  let c1_i32_316 : BitVec 32 := 1#32
  let v372 : BitVec 32 := Scalar.select v371 c1_i32_316 c4_i32_314
  let v373 : BitVec 32 := Scalar.remsi v353 v372
  let c0_i32_318 : BitVec 32 := 0#32
  let v375 : BitVec 1 := Scalar.cmpi .slt v373 c0_i32_318
  let c0_i32_319 : BitVec 32 := 0#32
  let v376 : BitVec 1 := Scalar.cmpi .slt v372 c0_i32_319
  let v377 : BitVec 1 := Scalar.xori v375 v376
  let c0_i32_317 : BitVec 32 := 0#32
  let v374 : BitVec 1 := Scalar.cmpi .ne v373 c0_i32_317
  let v378 : BitVec 1 := Scalar.andi v377 v374
  let v379 : BitVec 32 := Scalar.addi v373 v372
  let v380 : BitVec 32 := Scalar.select v378 v379 v373
  let c1_i32_324 : BitVec 32 := 1#32
  let v385 : BitVec 32 := Scalar.muli v380 c1_i32_324
  let v386 : BitVec 32 := Scalar.addi v384 v385
  v386.toNat
def k0_dev7 (d0 : Dev nD) : Nat :=
  let c0_i32_347 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c4_i32_325 : BitVec 32 := 4#32
  let v387 : BitVec 32 := Scalar.addi v10 c4_i32_325
  let c8_i32_326 : BitVec 32 := 8#32
  let c0_i32_327 : BitVec 32 := 0#32
  let v388 : BitVec 1 := Scalar.cmpi .eq c8_i32_326 c0_i32_327
  let c1_i32_328 : BitVec 32 := 1#32
  let v389 : BitVec 32 := Scalar.select v388 c1_i32_328 c8_i32_326
  let v390 : BitVec 32 := Scalar.remsi v387 v389
  let c0_i32_330 : BitVec 32 := 0#32
  let v392 : BitVec 1 := Scalar.cmpi .slt v390 c0_i32_330
  let c0_i32_331 : BitVec 32 := 0#32
  let v393 : BitVec 1 := Scalar.cmpi .slt v389 c0_i32_331
  let v394 : BitVec 1 := Scalar.xori v392 v393
  let c0_i32_329 : BitVec 32 := 0#32
  let v391 : BitVec 1 := Scalar.cmpi .ne v390 c0_i32_329
  let v395 : BitVec 1 := Scalar.andi v394 v391
  let v396 : BitVec 32 := Scalar.addi v390 v389
  let v397 : BitVec 32 := Scalar.select v395 v396 v390
  let c0_i32_333 : BitVec 32 := 0#32
  let v399 : BitVec 1 := Scalar.cmpi .sgt v397 c0_i32_333
  let v400 : BitVec 32 := Scalar.extui v399
  let c0_i32_334 : BitVec 32 := 0#32
  let v401 : BitVec 1 := Scalar.cmpi .slt v397 c0_i32_334
  let v402 : BitVec 32 := Scalar.extui v401
  let v403 : BitVec 32 := Scalar.subi v400 v402
  let c4_i32_332 : BitVec 32 := 4#32
  let c0_i32_335 : BitVec 32 := 0#32
  let v404 : BitVec 1 := Scalar.cmpi .sgt c4_i32_332 c0_i32_335
  let v405 : BitVec 32 := Scalar.extui v404
  let c0_i32_336 : BitVec 32 := 0#32
  let v406 : BitVec 1 := Scalar.cmpi .slt c4_i32_332 c0_i32_336
  let v407 : BitVec 32 := Scalar.extui v406
  let v408 : BitVec 32 := Scalar.subi v405 v407
  let v409 : BitVec 1 := Scalar.cmpi .ne v403 v408
  let v410 : BitVec 32 := Scalar.remsi v397 c4_i32_332
  let c0_i32_337 : BitVec 32 := 0#32
  let v411 : BitVec 1 := Scalar.cmpi .ne v410 c0_i32_337
  let v412 : BitVec 1 := Scalar.andi v409 v411
  let v398 : BitVec 32 := Scalar.divsi v397 c4_i32_332
  let c1_i32_338 : BitVec 32 := 1#32
  let v413 : BitVec 32 := Scalar.subi v398 c1_i32_338
  let v414 : BitVec 32 := Scalar.select v412 v413 v398
  let c16_i32_346 : BitVec 32 := 16#32
  let v425 : BitVec 32 := Scalar.muli v414 c16_i32_346
  let v426 : BitVec 32 := Scalar.addi c0_i32_347 v425
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_348 : BitVec 32 := 4#32
  let v427 : BitVec 32 := Scalar.muli v5 c4_i32_348
  let v428 : BitVec 32 := Scalar.addi v426 v427
  let c4_i32_339 : BitVec 32 := 4#32
  let c0_i32_340 : BitVec 32 := 0#32
  let v415 : BitVec 1 := Scalar.cmpi .eq c4_i32_339 c0_i32_340
  let c1_i32_341 : BitVec 32 := 1#32
  let v416 : BitVec 32 := Scalar.select v415 c1_i32_341 c4_i32_339
  let v417 : BitVec 32 := Scalar.remsi v397 v416
  let c0_i32_343 : BitVec 32 := 0#32
  let v419 : BitVec 1 := Scalar.cmpi .slt v417 c0_i32_343
  let c0_i32_344 : BitVec 32 := 0#32
  let v420 : BitVec 1 := Scalar.cmpi .slt v416 c0_i32_344
  let v421 : BitVec 1 := Scalar.xori v419 v420
  let c0_i32_342 : BitVec 32 := 0#32
  let v418 : BitVec 1 := Scalar.cmpi .ne v417 c0_i32_342
  let v422 : BitVec 1 := Scalar.andi v421 v418
  let v423 : BitVec 32 := Scalar.addi v417 v416
  let v424 : BitVec 32 := Scalar.select v422 v423 v417
  let c1_i32_349 : BitVec 32 := 1#32
  let v429 : BitVec 32 := Scalar.muli v424 c1_i32_349
  let v430 : BitVec 32 := Scalar.addi v428 v429
  v430.toNat
def k0_dev8 (d0 : Dev nD) : Nat :=
  let c0_i32_372 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c5_i32_350 : BitVec 32 := 5#32
  let v431 : BitVec 32 := Scalar.addi v10 c5_i32_350
  let c8_i32_351 : BitVec 32 := 8#32
  let c0_i32_352 : BitVec 32 := 0#32
  let v432 : BitVec 1 := Scalar.cmpi .eq c8_i32_351 c0_i32_352
  let c1_i32_353 : BitVec 32 := 1#32
  let v433 : BitVec 32 := Scalar.select v432 c1_i32_353 c8_i32_351
  let v434 : BitVec 32 := Scalar.remsi v431 v433
  let c0_i32_355 : BitVec 32 := 0#32
  let v436 : BitVec 1 := Scalar.cmpi .slt v434 c0_i32_355
  let c0_i32_356 : BitVec 32 := 0#32
  let v437 : BitVec 1 := Scalar.cmpi .slt v433 c0_i32_356
  let v438 : BitVec 1 := Scalar.xori v436 v437
  let c0_i32_354 : BitVec 32 := 0#32
  let v435 : BitVec 1 := Scalar.cmpi .ne v434 c0_i32_354
  let v439 : BitVec 1 := Scalar.andi v438 v435
  let v440 : BitVec 32 := Scalar.addi v434 v433
  let v441 : BitVec 32 := Scalar.select v439 v440 v434
  let c0_i32_358 : BitVec 32 := 0#32
  let v443 : BitVec 1 := Scalar.cmpi .sgt v441 c0_i32_358
  let v444 : BitVec 32 := Scalar.extui v443
  let c0_i32_359 : BitVec 32 := 0#32
  let v445 : BitVec 1 := Scalar.cmpi .slt v441 c0_i32_359
  let v446 : BitVec 32 := Scalar.extui v445
  let v447 : BitVec 32 := Scalar.subi v444 v446
  let c4_i32_357 : BitVec 32 := 4#32
  let c0_i32_360 : BitVec 32 := 0#32
  let v448 : BitVec 1 := Scalar.cmpi .sgt c4_i32_357 c0_i32_360
  let v449 : BitVec 32 := Scalar.extui v448
  let c0_i32_361 : BitVec 32 := 0#32
  let v450 : BitVec 1 := Scalar.cmpi .slt c4_i32_357 c0_i32_361
  let v451 : BitVec 32 := Scalar.extui v450
  let v452 : BitVec 32 := Scalar.subi v449 v451
  let v453 : BitVec 1 := Scalar.cmpi .ne v447 v452
  let v454 : BitVec 32 := Scalar.remsi v441 c4_i32_357
  let c0_i32_362 : BitVec 32 := 0#32
  let v455 : BitVec 1 := Scalar.cmpi .ne v454 c0_i32_362
  let v456 : BitVec 1 := Scalar.andi v453 v455
  let v442 : BitVec 32 := Scalar.divsi v441 c4_i32_357
  let c1_i32_363 : BitVec 32 := 1#32
  let v457 : BitVec 32 := Scalar.subi v442 c1_i32_363
  let v458 : BitVec 32 := Scalar.select v456 v457 v442
  let c16_i32_371 : BitVec 32 := 16#32
  let v469 : BitVec 32 := Scalar.muli v458 c16_i32_371
  let v470 : BitVec 32 := Scalar.addi c0_i32_372 v469
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_373 : BitVec 32 := 4#32
  let v471 : BitVec 32 := Scalar.muli v5 c4_i32_373
  let v472 : BitVec 32 := Scalar.addi v470 v471
  let c4_i32_364 : BitVec 32 := 4#32
  let c0_i32_365 : BitVec 32 := 0#32
  let v459 : BitVec 1 := Scalar.cmpi .eq c4_i32_364 c0_i32_365
  let c1_i32_366 : BitVec 32 := 1#32
  let v460 : BitVec 32 := Scalar.select v459 c1_i32_366 c4_i32_364
  let v461 : BitVec 32 := Scalar.remsi v441 v460
  let c0_i32_368 : BitVec 32 := 0#32
  let v463 : BitVec 1 := Scalar.cmpi .slt v461 c0_i32_368
  let c0_i32_369 : BitVec 32 := 0#32
  let v464 : BitVec 1 := Scalar.cmpi .slt v460 c0_i32_369
  let v465 : BitVec 1 := Scalar.xori v463 v464
  let c0_i32_367 : BitVec 32 := 0#32
  let v462 : BitVec 1 := Scalar.cmpi .ne v461 c0_i32_367
  let v466 : BitVec 1 := Scalar.andi v465 v462
  let v467 : BitVec 32 := Scalar.addi v461 v460
  let v468 : BitVec 32 := Scalar.select v466 v467 v461
  let c1_i32_374 : BitVec 32 := 1#32
  let v473 : BitVec 32 := Scalar.muli v468 c1_i32_374
  let v474 : BitVec 32 := Scalar.addi v472 v473
  v474.toNat
def k0_dev9 (d0 : Dev nD) : Nat :=
  let c0_i32_397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c6_i32_375 : BitVec 32 := 6#32
  let v475 : BitVec 32 := Scalar.addi v10 c6_i32_375
  let c8_i32_376 : BitVec 32 := 8#32
  let c0_i32_377 : BitVec 32 := 0#32
  let v476 : BitVec 1 := Scalar.cmpi .eq c8_i32_376 c0_i32_377
  let c1_i32_378 : BitVec 32 := 1#32
  let v477 : BitVec 32 := Scalar.select v476 c1_i32_378 c8_i32_376
  let v478 : BitVec 32 := Scalar.remsi v475 v477
  let c0_i32_380 : BitVec 32 := 0#32
  let v480 : BitVec 1 := Scalar.cmpi .slt v478 c0_i32_380
  let c0_i32_381 : BitVec 32 := 0#32
  let v481 : BitVec 1 := Scalar.cmpi .slt v477 c0_i32_381
  let v482 : BitVec 1 := Scalar.xori v480 v481
  let c0_i32_379 : BitVec 32 := 0#32
  let v479 : BitVec 1 := Scalar.cmpi .ne v478 c0_i32_379
  let v483 : BitVec 1 := Scalar.andi v482 v479
  let v484 : BitVec 32 := Scalar.addi v478 v477
  let v485 : BitVec 32 := Scalar.select v483 v484 v478
  let c0_i32_383 : BitVec 32 := 0#32
  let v487 : BitVec 1 := Scalar.cmpi .sgt v485 c0_i32_383
  let v488 : BitVec 32 := Scalar.extui v487
  let c0_i32_384 : BitVec 32 := 0#32
  let v489 : BitVec 1 := Scalar.cmpi .slt v485 c0_i32_384
  let v490 : BitVec 32 := Scalar.extui v489
  let v491 : BitVec 32 := Scalar.subi v488 v490
  let c4_i32_382 : BitVec 32 := 4#32
  let c0_i32_385 : BitVec 32 := 0#32
  let v492 : BitVec 1 := Scalar.cmpi .sgt c4_i32_382 c0_i32_385
  let v493 : BitVec 32 := Scalar.extui v492
  let c0_i32_386 : BitVec 32 := 0#32
  let v494 : BitVec 1 := Scalar.cmpi .slt c4_i32_382 c0_i32_386
  let v495 : BitVec 32 := Scalar.extui v494
  let v496 : BitVec 32 := Scalar.subi v493 v495
  let v497 : BitVec 1 := Scalar.cmpi .ne v491 v496
  let v498 : BitVec 32 := Scalar.remsi v485 c4_i32_382
  let c0_i32_387 : BitVec 32 := 0#32
  let v499 : BitVec 1 := Scalar.cmpi .ne v498 c0_i32_387
  let v500 : BitVec 1 := Scalar.andi v497 v499
  let v486 : BitVec 32 := Scalar.divsi v485 c4_i32_382
  let c1_i32_388 : BitVec 32 := 1#32
  let v501 : BitVec 32 := Scalar.subi v486 c1_i32_388
  let v502 : BitVec 32 := Scalar.select v500 v501 v486
  let c16_i32_396 : BitVec 32 := 16#32
  let v513 : BitVec 32 := Scalar.muli v502 c16_i32_396
  let v514 : BitVec 32 := Scalar.addi c0_i32_397 v513
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_398 : BitVec 32 := 4#32
  let v515 : BitVec 32 := Scalar.muli v5 c4_i32_398
  let v516 : BitVec 32 := Scalar.addi v514 v515
  let c4_i32_389 : BitVec 32 := 4#32
  let c0_i32_390 : BitVec 32 := 0#32
  let v503 : BitVec 1 := Scalar.cmpi .eq c4_i32_389 c0_i32_390
  let c1_i32_391 : BitVec 32 := 1#32
  let v504 : BitVec 32 := Scalar.select v503 c1_i32_391 c4_i32_389
  let v505 : BitVec 32 := Scalar.remsi v485 v504
  let c0_i32_393 : BitVec 32 := 0#32
  let v507 : BitVec 1 := Scalar.cmpi .slt v505 c0_i32_393
  let c0_i32_394 : BitVec 32 := 0#32
  let v508 : BitVec 1 := Scalar.cmpi .slt v504 c0_i32_394
  let v509 : BitVec 1 := Scalar.xori v507 v508
  let c0_i32_392 : BitVec 32 := 0#32
  let v506 : BitVec 1 := Scalar.cmpi .ne v505 c0_i32_392
  let v510 : BitVec 1 := Scalar.andi v509 v506
  let v511 : BitVec 32 := Scalar.addi v505 v504
  let v512 : BitVec 32 := Scalar.select v510 v511 v505
  let c1_i32_399 : BitVec 32 := 1#32
  let v517 : BitVec 32 := Scalar.muli v512 c1_i32_399
  let v518 : BitVec 32 := Scalar.addi v516 v517
  v518.toNat
def k0_dev10 (d0 : Dev nD) : Nat :=
  let c0_i32_422 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c7_i32_400 : BitVec 32 := 7#32
  let v519 : BitVec 32 := Scalar.addi v10 c7_i32_400
  let c8_i32_401 : BitVec 32 := 8#32
  let c0_i32_402 : BitVec 32 := 0#32
  let v520 : BitVec 1 := Scalar.cmpi .eq c8_i32_401 c0_i32_402
  let c1_i32_403 : BitVec 32 := 1#32
  let v521 : BitVec 32 := Scalar.select v520 c1_i32_403 c8_i32_401
  let v522 : BitVec 32 := Scalar.remsi v519 v521
  let c0_i32_405 : BitVec 32 := 0#32
  let v524 : BitVec 1 := Scalar.cmpi .slt v522 c0_i32_405
  let c0_i32_406 : BitVec 32 := 0#32
  let v525 : BitVec 1 := Scalar.cmpi .slt v521 c0_i32_406
  let v526 : BitVec 1 := Scalar.xori v524 v525
  let c0_i32_404 : BitVec 32 := 0#32
  let v523 : BitVec 1 := Scalar.cmpi .ne v522 c0_i32_404
  let v527 : BitVec 1 := Scalar.andi v526 v523
  let v528 : BitVec 32 := Scalar.addi v522 v521
  let v529 : BitVec 32 := Scalar.select v527 v528 v522
  let c0_i32_408 : BitVec 32 := 0#32
  let v531 : BitVec 1 := Scalar.cmpi .sgt v529 c0_i32_408
  let v532 : BitVec 32 := Scalar.extui v531
  let c0_i32_409 : BitVec 32 := 0#32
  let v533 : BitVec 1 := Scalar.cmpi .slt v529 c0_i32_409
  let v534 : BitVec 32 := Scalar.extui v533
  let v535 : BitVec 32 := Scalar.subi v532 v534
  let c4_i32_407 : BitVec 32 := 4#32
  let c0_i32_410 : BitVec 32 := 0#32
  let v536 : BitVec 1 := Scalar.cmpi .sgt c4_i32_407 c0_i32_410
  let v537 : BitVec 32 := Scalar.extui v536
  let c0_i32_411 : BitVec 32 := 0#32
  let v538 : BitVec 1 := Scalar.cmpi .slt c4_i32_407 c0_i32_411
  let v539 : BitVec 32 := Scalar.extui v538
  let v540 : BitVec 32 := Scalar.subi v537 v539
  let v541 : BitVec 1 := Scalar.cmpi .ne v535 v540
  let v542 : BitVec 32 := Scalar.remsi v529 c4_i32_407
  let c0_i32_412 : BitVec 32 := 0#32
  let v543 : BitVec 1 := Scalar.cmpi .ne v542 c0_i32_412
  let v544 : BitVec 1 := Scalar.andi v541 v543
  let v530 : BitVec 32 := Scalar.divsi v529 c4_i32_407
  let c1_i32_413 : BitVec 32 := 1#32
  let v545 : BitVec 32 := Scalar.subi v530 c1_i32_413
  let v546 : BitVec 32 := Scalar.select v544 v545 v530
  let c16_i32_421 : BitVec 32 := 16#32
  let v557 : BitVec 32 := Scalar.muli v546 c16_i32_421
  let v558 : BitVec 32 := Scalar.addi c0_i32_422 v557
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_423 : BitVec 32 := 4#32
  let v559 : BitVec 32 := Scalar.muli v5 c4_i32_423
  let v560 : BitVec 32 := Scalar.addi v558 v559
  let c4_i32_414 : BitVec 32 := 4#32
  let c0_i32_415 : BitVec 32 := 0#32
  let v547 : BitVec 1 := Scalar.cmpi .eq c4_i32_414 c0_i32_415
  let c1_i32_416 : BitVec 32 := 1#32
  let v548 : BitVec 32 := Scalar.select v547 c1_i32_416 c4_i32_414
  let v549 : BitVec 32 := Scalar.remsi v529 v548
  let c0_i32_418 : BitVec 32 := 0#32
  let v551 : BitVec 1 := Scalar.cmpi .slt v549 c0_i32_418
  let c0_i32_419 : BitVec 32 := 0#32
  let v552 : BitVec 1 := Scalar.cmpi .slt v548 c0_i32_419
  let v553 : BitVec 1 := Scalar.xori v551 v552
  let c0_i32_417 : BitVec 32 := 0#32
  let v550 : BitVec 1 := Scalar.cmpi .ne v549 c0_i32_417
  let v554 : BitVec 1 := Scalar.andi v553 v550
  let v555 : BitVec 32 := Scalar.addi v549 v548
  let v556 : BitVec 32 := Scalar.select v554 v555 v549
  let c1_i32_424 : BitVec 32 := 1#32
  let v561 : BitVec 32 := Scalar.muli v556 c1_i32_424
  let v562 : BitVec 32 := Scalar.addi v560 v561
  v562.toNat
def k0_off17 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v563 : Index := Scalar.indexCast v10
  let c0 : Index := 0#32
  let c0_426 : Index := 0#32
  let c0_427 : Index := 0#32
  ![v563.toNat, 0, 0, 0]
def k0_off18 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1097 : Index := Scalar.indexCast v5
  let c0_895 : Index := 0#32
  let c0_896 : Index := 0#32
  ![v1097.toNat, 0, 0]
def k0_off19 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1104 : Index := Scalar.indexCast v5
  let c128 : Index := 128#32
  let c0_900 : Index := 0#32
  ![v1104.toNat, 128, 0]
def k0_off20 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_914 : BitVec 32 := 0#32
  let c0_i32_915 : BitVec 32 := 0#32
  ![v5.toNat, 0, 0]
def k0_dev11 (d0 : Dev nD) : Nat :=
  let c0_i32_911 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_910 : BitVec 32 := 16#32
  let v1119 : BitVec 32 := Scalar.muli v2 c16_i32_910
  let v1120 : BitVec 32 := Scalar.addi c0_i32_911 v1119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_901 : BitVec 32 := 1#32
  let v1108 : BitVec 32 := Scalar.addi v5 c1_i32_901
  let c4_i32_902 : BitVec 32 := 4#32
  let c0_i32_903 : BitVec 32 := 0#32
  let v1109 : BitVec 1 := Scalar.cmpi .eq c4_i32_902 c0_i32_903
  let c1_i32_904 : BitVec 32 := 1#32
  let v1110 : BitVec 32 := Scalar.select v1109 c1_i32_904 c4_i32_902
  let v1111 : BitVec 32 := Scalar.remsi v1108 v1110
  let c0_i32_906 : BitVec 32 := 0#32
  let v1113 : BitVec 1 := Scalar.cmpi .slt v1111 c0_i32_906
  let c0_i32_907 : BitVec 32 := 0#32
  let v1114 : BitVec 1 := Scalar.cmpi .slt v1110 c0_i32_907
  let v1115 : BitVec 1 := Scalar.xori v1113 v1114
  let c0_i32_905 : BitVec 32 := 0#32
  let v1112 : BitVec 1 := Scalar.cmpi .ne v1111 c0_i32_905
  let v1116 : BitVec 1 := Scalar.andi v1115 v1112
  let v1117 : BitVec 32 := Scalar.addi v1111 v1110
  let v1118 : BitVec 32 := Scalar.select v1116 v1117 v1111
  let c4_i32_912 : BitVec 32 := 4#32
  let v1121 : BitVec 32 := Scalar.muli v1118 c4_i32_912
  let v1122 : BitVec 32 := Scalar.addi v1120 v1121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_913 : BitVec 32 := 1#32
  let v1123 : BitVec 32 := Scalar.muli v8 c1_i32_913
  let v1124 : BitVec 32 := Scalar.addi v1122 v1123
  v1124.toNat
def k0_dev12 (d0 : Dev nD) : Nat :=
  let c0_i32_928 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_927 : BitVec 32 := 16#32
  let v1144 : BitVec 32 := Scalar.muli v2 c16_i32_927
  let v1145 : BitVec 32 := Scalar.addi c0_i32_928 v1144
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_918 : BitVec 32 := 2#32
  let v1133 : BitVec 32 := Scalar.addi v5 c2_i32_918
  let c4_i32_919 : BitVec 32 := 4#32
  let c0_i32_920 : BitVec 32 := 0#32
  let v1134 : BitVec 1 := Scalar.cmpi .eq c4_i32_919 c0_i32_920
  let c1_i32_921 : BitVec 32 := 1#32
  let v1135 : BitVec 32 := Scalar.select v1134 c1_i32_921 c4_i32_919
  let v1136 : BitVec 32 := Scalar.remsi v1133 v1135
  let c0_i32_923 : BitVec 32 := 0#32
  let v1138 : BitVec 1 := Scalar.cmpi .slt v1136 c0_i32_923
  let c0_i32_924 : BitVec 32 := 0#32
  let v1139 : BitVec 1 := Scalar.cmpi .slt v1135 c0_i32_924
  let v1140 : BitVec 1 := Scalar.xori v1138 v1139
  let c0_i32_922 : BitVec 32 := 0#32
  let v1137 : BitVec 1 := Scalar.cmpi .ne v1136 c0_i32_922
  let v1141 : BitVec 1 := Scalar.andi v1140 v1137
  let v1142 : BitVec 32 := Scalar.addi v1136 v1135
  let v1143 : BitVec 32 := Scalar.select v1141 v1142 v1136
  let c4_i32_929 : BitVec 32 := 4#32
  let v1146 : BitVec 32 := Scalar.muli v1143 c4_i32_929
  let v1147 : BitVec 32 := Scalar.addi v1145 v1146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_930 : BitVec 32 := 1#32
  let v1148 : BitVec 32 := Scalar.muli v8 c1_i32_930
  let v1149 : BitVec 32 := Scalar.addi v1147 v1148
  v1149.toNat
def k0_dev13 (d0 : Dev nD) : Nat :=
  let c0_i32_945 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_944 : BitVec 32 := 16#32
  let v1169 : BitVec 32 := Scalar.muli v2 c16_i32_944
  let v1170 : BitVec 32 := Scalar.addi c0_i32_945 v1169
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_935 : BitVec 32 := 3#32
  let v1158 : BitVec 32 := Scalar.addi v5 c3_i32_935
  let c4_i32_936 : BitVec 32 := 4#32
  let c0_i32_937 : BitVec 32 := 0#32
  let v1159 : BitVec 1 := Scalar.cmpi .eq c4_i32_936 c0_i32_937
  let c1_i32_938 : BitVec 32 := 1#32
  let v1160 : BitVec 32 := Scalar.select v1159 c1_i32_938 c4_i32_936
  let v1161 : BitVec 32 := Scalar.remsi v1158 v1160
  let c0_i32_940 : BitVec 32 := 0#32
  let v1163 : BitVec 1 := Scalar.cmpi .slt v1161 c0_i32_940
  let c0_i32_941 : BitVec 32 := 0#32
  let v1164 : BitVec 1 := Scalar.cmpi .slt v1160 c0_i32_941
  let v1165 : BitVec 1 := Scalar.xori v1163 v1164
  let c0_i32_939 : BitVec 32 := 0#32
  let v1162 : BitVec 1 := Scalar.cmpi .ne v1161 c0_i32_939
  let v1166 : BitVec 1 := Scalar.andi v1165 v1162
  let v1167 : BitVec 32 := Scalar.addi v1161 v1160
  let v1168 : BitVec 32 := Scalar.select v1166 v1167 v1161
  let c4_i32_946 : BitVec 32 := 4#32
  let v1171 : BitVec 32 := Scalar.muli v1168 c4_i32_946
  let v1172 : BitVec 32 := Scalar.addi v1170 v1171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_947 : BitVec 32 := 1#32
  let v1173 : BitVec 32 := Scalar.muli v8 c1_i32_947
  let v1174 : BitVec 32 := Scalar.addi v1172 v1173
  v1174.toNat
def k0_off21 (d0 : Dev nD) (c1_i32_952 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1183 : BitVec 32 := Scalar.subi v5 c1_i32_952
  let c4_i32_953 : BitVec 32 := 4#32
  let v1184 : BitVec 32 := Scalar.addi v1183 c4_i32_953
  let c4_i32_954 : BitVec 32 := 4#32
  let c0_i32_955 : BitVec 32 := 0#32
  let v1185 : BitVec 1 := Scalar.cmpi .eq c4_i32_954 c0_i32_955
  let c1_i32_956 : BitVec 32 := 1#32
  let v1186 : BitVec 32 := Scalar.select v1185 c1_i32_956 c4_i32_954
  let v1187 : BitVec 32 := Scalar.remsi v1184 v1186
  let c0_i32_958 : BitVec 32 := 0#32
  let v1189 : BitVec 1 := Scalar.cmpi .slt v1187 c0_i32_958
  let c0_i32_959 : BitVec 32 := 0#32
  let v1190 : BitVec 1 := Scalar.cmpi .slt v1186 c0_i32_959
  let v1191 : BitVec 1 := Scalar.xori v1189 v1190
  let c0_i32_957 : BitVec 32 := 0#32
  let v1188 : BitVec 1 := Scalar.cmpi .ne v1187 c0_i32_957
  let v1192 : BitVec 1 := Scalar.andi v1191 v1188
  let v1193 : BitVec 32 := Scalar.addi v1187 v1186
  let v1194 : BitVec 32 := Scalar.select v1192 v1193 v1187
  let c0_i32_966 : BitVec 32 := 0#32
  let c0_i32_967 : BitVec 32 := 0#32
  ![v1194.toNat, 0, 0]
def k0_off22 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v1274 : Index := Scalar.indexCast v10
  let c0_1018 : Index := 0#32
  let c0_1019 : Index := 0#32
  ![v1274.toNat, 0, 0]
def k0_off23 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_1046 : BitVec 32 := 0#32
  let c0_i32_1047 : BitVec 32 := 0#32
  ![v10.toNat, 0, 0]
def k0_dev14 (d0 : Dev nD) : Nat :=
  let c0_i32_1043 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_1020 : BitVec 32 := 1#32
  let v1278 : BitVec 32 := Scalar.addi v10 c1_i32_1020
  let c8_i32_1021 : BitVec 32 := 8#32
  let c0_i32_1022 : BitVec 32 := 0#32
  let v1279 : BitVec 1 := Scalar.cmpi .eq c8_i32_1021 c0_i32_1022
  let c1_i32_1023 : BitVec 32 := 1#32
  let v1280 : BitVec 32 := Scalar.select v1279 c1_i32_1023 c8_i32_1021
  let v1281 : BitVec 32 := Scalar.remsi v1278 v1280
  let c0_i32_1025 : BitVec 32 := 0#32
  let v1283 : BitVec 1 := Scalar.cmpi .slt v1281 c0_i32_1025
  let c0_i32_1026 : BitVec 32 := 0#32
  let v1284 : BitVec 1 := Scalar.cmpi .slt v1280 c0_i32_1026
  let v1285 : BitVec 1 := Scalar.xori v1283 v1284
  let c0_i32_1024 : BitVec 32 := 0#32
  let v1282 : BitVec 1 := Scalar.cmpi .ne v1281 c0_i32_1024
  let v1286 : BitVec 1 := Scalar.andi v1285 v1282
  let v1287 : BitVec 32 := Scalar.addi v1281 v1280
  let v1288 : BitVec 32 := Scalar.select v1286 v1287 v1281
  let c0_i32_1028 : BitVec 32 := 0#32
  let v1290 : BitVec 1 := Scalar.cmpi .sgt v1288 c0_i32_1028
  let v1291 : BitVec 32 := Scalar.extui v1290
  let c0_i32_1029 : BitVec 32 := 0#32
  let v1292 : BitVec 1 := Scalar.cmpi .slt v1288 c0_i32_1029
  let v1293 : BitVec 32 := Scalar.extui v1292
  let v1294 : BitVec 32 := Scalar.subi v1291 v1293
  let c4_i32_1027 : BitVec 32 := 4#32
  let c0_i32_1030 : BitVec 32 := 0#32
  let v1295 : BitVec 1 := Scalar.cmpi .sgt c4_i32_1027 c0_i32_1030
  let v1296 : BitVec 32 := Scalar.extui v1295
  let c0_i32_1031 : BitVec 32 := 0#32
  let v1297 : BitVec 1 := Scalar.cmpi .slt c4_i32_1027 c0_i32_1031
  let v1298 : BitVec 32 := Scalar.extui v1297
  let v1299 : BitVec 32 := Scalar.subi v1296 v1298
  let v1300 : BitVec 1 := Scalar.cmpi .ne v1294 v1299
  let v1301 : BitVec 32 := Scalar.remsi v1288 c4_i32_1027
  let c0_i32_1032 : BitVec 32 := 0#32
  let v1302 : BitVec 1 := Scalar.cmpi .ne v1301 c0_i32_1032
  let v1303 : BitVec 1 := Scalar.andi v1300 v1302
  let v1289 : BitVec 32 := Scalar.divsi v1288 c4_i32_1027
  let c1_i32_1033 : BitVec 32 := 1#32
  let v1304 : BitVec 32 := Scalar.subi v1289 c1_i32_1033
  let v1305 : BitVec 32 := Scalar.select v1303 v1304 v1289
  let c16_i32_1042 : BitVec 32 := 16#32
  let v1316 : BitVec 32 := Scalar.muli v1305 c16_i32_1042
  let v1317 : BitVec 32 := Scalar.addi c0_i32_1043 v1316
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1044 : BitVec 32 := 4#32
  let v1318 : BitVec 32 := Scalar.muli v5 c4_i32_1044
  let v1319 : BitVec 32 := Scalar.addi v1317 v1318
  let c4_i32_1034 : BitVec 32 := 4#32
  let c0_i32_1035 : BitVec 32 := 0#32
  let v1306 : BitVec 1 := Scalar.cmpi .eq c4_i32_1034 c0_i32_1035
  let c1_i32_1036 : BitVec 32 := 1#32
  let v1307 : BitVec 32 := Scalar.select v1306 c1_i32_1036 c4_i32_1034
  let v1308 : BitVec 32 := Scalar.remsi v1288 v1307
  let c0_i32_1038 : BitVec 32 := 0#32
  let v1310 : BitVec 1 := Scalar.cmpi .slt v1308 c0_i32_1038
  let c0_i32_1039 : BitVec 32 := 0#32
  let v1311 : BitVec 1 := Scalar.cmpi .slt v1307 c0_i32_1039
  let v1312 : BitVec 1 := Scalar.xori v1310 v1311
  let c0_i32_1037 : BitVec 32 := 0#32
  let v1309 : BitVec 1 := Scalar.cmpi .ne v1308 c0_i32_1037
  let v1313 : BitVec 1 := Scalar.andi v1312 v1309
  let v1314 : BitVec 32 := Scalar.addi v1308 v1307
  let v1315 : BitVec 32 := Scalar.select v1313 v1314 v1308
  let c1_i32_1045 : BitVec 32 := 1#32
  let v1320 : BitVec 32 := Scalar.muli v1315 c1_i32_1045
  let v1321 : BitVec 32 := Scalar.addi v1319 v1320
  v1321.toNat
def k0_dev15 (d0 : Dev nD) : Nat :=
  let c0_i32_1073 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c2_i32_1050 : BitVec 32 := 2#32
  let v1330 : BitVec 32 := Scalar.addi v10 c2_i32_1050
  let c8_i32_1051 : BitVec 32 := 8#32
  let c0_i32_1052 : BitVec 32 := 0#32
  let v1331 : BitVec 1 := Scalar.cmpi .eq c8_i32_1051 c0_i32_1052
  let c1_i32_1053 : BitVec 32 := 1#32
  let v1332 : BitVec 32 := Scalar.select v1331 c1_i32_1053 c8_i32_1051
  let v1333 : BitVec 32 := Scalar.remsi v1330 v1332
  let c0_i32_1055 : BitVec 32 := 0#32
  let v1335 : BitVec 1 := Scalar.cmpi .slt v1333 c0_i32_1055
  let c0_i32_1056 : BitVec 32 := 0#32
  let v1336 : BitVec 1 := Scalar.cmpi .slt v1332 c0_i32_1056
  let v1337 : BitVec 1 := Scalar.xori v1335 v1336
  let c0_i32_1054 : BitVec 32 := 0#32
  let v1334 : BitVec 1 := Scalar.cmpi .ne v1333 c0_i32_1054
  let v1338 : BitVec 1 := Scalar.andi v1337 v1334
  let v1339 : BitVec 32 := Scalar.addi v1333 v1332
  let v1340 : BitVec 32 := Scalar.select v1338 v1339 v1333
  let c0_i32_1058 : BitVec 32 := 0#32
  let v1342 : BitVec 1 := Scalar.cmpi .sgt v1340 c0_i32_1058
  let v1343 : BitVec 32 := Scalar.extui v1342
  let c0_i32_1059 : BitVec 32 := 0#32
  let v1344 : BitVec 1 := Scalar.cmpi .slt v1340 c0_i32_1059
  let v1345 : BitVec 32 := Scalar.extui v1344
  let v1346 : BitVec 32 := Scalar.subi v1343 v1345
  let c4_i32_1057 : BitVec 32 := 4#32
  let c0_i32_1060 : BitVec 32 := 0#32
  let v1347 : BitVec 1 := Scalar.cmpi .sgt c4_i32_1057 c0_i32_1060
  let v1348 : BitVec 32 := Scalar.extui v1347
  let c0_i32_1061 : BitVec 32 := 0#32
  let v1349 : BitVec 1 := Scalar.cmpi .slt c4_i32_1057 c0_i32_1061
  let v1350 : BitVec 32 := Scalar.extui v1349
  let v1351 : BitVec 32 := Scalar.subi v1348 v1350
  let v1352 : BitVec 1 := Scalar.cmpi .ne v1346 v1351
  let v1353 : BitVec 32 := Scalar.remsi v1340 c4_i32_1057
  let c0_i32_1062 : BitVec 32 := 0#32
  let v1354 : BitVec 1 := Scalar.cmpi .ne v1353 c0_i32_1062
  let v1355 : BitVec 1 := Scalar.andi v1352 v1354
  let v1341 : BitVec 32 := Scalar.divsi v1340 c4_i32_1057
  let c1_i32_1063 : BitVec 32 := 1#32
  let v1356 : BitVec 32 := Scalar.subi v1341 c1_i32_1063
  let v1357 : BitVec 32 := Scalar.select v1355 v1356 v1341
  let c16_i32_1072 : BitVec 32 := 16#32
  let v1368 : BitVec 32 := Scalar.muli v1357 c16_i32_1072
  let v1369 : BitVec 32 := Scalar.addi c0_i32_1073 v1368
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1074 : BitVec 32 := 4#32
  let v1370 : BitVec 32 := Scalar.muli v5 c4_i32_1074
  let v1371 : BitVec 32 := Scalar.addi v1369 v1370
  let c4_i32_1064 : BitVec 32 := 4#32
  let c0_i32_1065 : BitVec 32 := 0#32
  let v1358 : BitVec 1 := Scalar.cmpi .eq c4_i32_1064 c0_i32_1065
  let c1_i32_1066 : BitVec 32 := 1#32
  let v1359 : BitVec 32 := Scalar.select v1358 c1_i32_1066 c4_i32_1064
  let v1360 : BitVec 32 := Scalar.remsi v1340 v1359
  let c0_i32_1068 : BitVec 32 := 0#32
  let v1362 : BitVec 1 := Scalar.cmpi .slt v1360 c0_i32_1068
  let c0_i32_1069 : BitVec 32 := 0#32
  let v1363 : BitVec 1 := Scalar.cmpi .slt v1359 c0_i32_1069
  let v1364 : BitVec 1 := Scalar.xori v1362 v1363
  let c0_i32_1067 : BitVec 32 := 0#32
  let v1361 : BitVec 1 := Scalar.cmpi .ne v1360 c0_i32_1067
  let v1365 : BitVec 1 := Scalar.andi v1364 v1361
  let v1366 : BitVec 32 := Scalar.addi v1360 v1359
  let v1367 : BitVec 32 := Scalar.select v1365 v1366 v1360
  let c1_i32_1075 : BitVec 32 := 1#32
  let v1372 : BitVec 32 := Scalar.muli v1367 c1_i32_1075
  let v1373 : BitVec 32 := Scalar.addi v1371 v1372
  v1373.toNat
def k0_dev16 (d0 : Dev nD) : Nat :=
  let c0_i32_1103 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c3_i32_1080 : BitVec 32 := 3#32
  let v1382 : BitVec 32 := Scalar.addi v10 c3_i32_1080
  let c8_i32_1081 : BitVec 32 := 8#32
  let c0_i32_1082 : BitVec 32 := 0#32
  let v1383 : BitVec 1 := Scalar.cmpi .eq c8_i32_1081 c0_i32_1082
  let c1_i32_1083 : BitVec 32 := 1#32
  let v1384 : BitVec 32 := Scalar.select v1383 c1_i32_1083 c8_i32_1081
  let v1385 : BitVec 32 := Scalar.remsi v1382 v1384
  let c0_i32_1085 : BitVec 32 := 0#32
  let v1387 : BitVec 1 := Scalar.cmpi .slt v1385 c0_i32_1085
  let c0_i32_1086 : BitVec 32 := 0#32
  let v1388 : BitVec 1 := Scalar.cmpi .slt v1384 c0_i32_1086
  let v1389 : BitVec 1 := Scalar.xori v1387 v1388
  let c0_i32_1084 : BitVec 32 := 0#32
  let v1386 : BitVec 1 := Scalar.cmpi .ne v1385 c0_i32_1084
  let v1390 : BitVec 1 := Scalar.andi v1389 v1386
  let v1391 : BitVec 32 := Scalar.addi v1385 v1384
  let v1392 : BitVec 32 := Scalar.select v1390 v1391 v1385
  let c0_i32_1088 : BitVec 32 := 0#32
  let v1394 : BitVec 1 := Scalar.cmpi .sgt v1392 c0_i32_1088
  let v1395 : BitVec 32 := Scalar.extui v1394
  let c0_i32_1089 : BitVec 32 := 0#32
  let v1396 : BitVec 1 := Scalar.cmpi .slt v1392 c0_i32_1089
  let v1397 : BitVec 32 := Scalar.extui v1396
  let v1398 : BitVec 32 := Scalar.subi v1395 v1397
  let c4_i32_1087 : BitVec 32 := 4#32
  let c0_i32_1090 : BitVec 32 := 0#32
  let v1399 : BitVec 1 := Scalar.cmpi .sgt c4_i32_1087 c0_i32_1090
  let v1400 : BitVec 32 := Scalar.extui v1399
  let c0_i32_1091 : BitVec 32 := 0#32
  let v1401 : BitVec 1 := Scalar.cmpi .slt c4_i32_1087 c0_i32_1091
  let v1402 : BitVec 32 := Scalar.extui v1401
  let v1403 : BitVec 32 := Scalar.subi v1400 v1402
  let v1404 : BitVec 1 := Scalar.cmpi .ne v1398 v1403
  let v1405 : BitVec 32 := Scalar.remsi v1392 c4_i32_1087
  let c0_i32_1092 : BitVec 32 := 0#32
  let v1406 : BitVec 1 := Scalar.cmpi .ne v1405 c0_i32_1092
  let v1407 : BitVec 1 := Scalar.andi v1404 v1406
  let v1393 : BitVec 32 := Scalar.divsi v1392 c4_i32_1087
  let c1_i32_1093 : BitVec 32 := 1#32
  let v1408 : BitVec 32 := Scalar.subi v1393 c1_i32_1093
  let v1409 : BitVec 32 := Scalar.select v1407 v1408 v1393
  let c16_i32_1102 : BitVec 32 := 16#32
  let v1420 : BitVec 32 := Scalar.muli v1409 c16_i32_1102
  let v1421 : BitVec 32 := Scalar.addi c0_i32_1103 v1420
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1104 : BitVec 32 := 4#32
  let v1422 : BitVec 32 := Scalar.muli v5 c4_i32_1104
  let v1423 : BitVec 32 := Scalar.addi v1421 v1422
  let c4_i32_1094 : BitVec 32 := 4#32
  let c0_i32_1095 : BitVec 32 := 0#32
  let v1410 : BitVec 1 := Scalar.cmpi .eq c4_i32_1094 c0_i32_1095
  let c1_i32_1096 : BitVec 32 := 1#32
  let v1411 : BitVec 32 := Scalar.select v1410 c1_i32_1096 c4_i32_1094
  let v1412 : BitVec 32 := Scalar.remsi v1392 v1411
  let c0_i32_1098 : BitVec 32 := 0#32
  let v1414 : BitVec 1 := Scalar.cmpi .slt v1412 c0_i32_1098
  let c0_i32_1099 : BitVec 32 := 0#32
  let v1415 : BitVec 1 := Scalar.cmpi .slt v1411 c0_i32_1099
  let v1416 : BitVec 1 := Scalar.xori v1414 v1415
  let c0_i32_1097 : BitVec 32 := 0#32
  let v1413 : BitVec 1 := Scalar.cmpi .ne v1412 c0_i32_1097
  let v1417 : BitVec 1 := Scalar.andi v1416 v1413
  let v1418 : BitVec 32 := Scalar.addi v1412 v1411
  let v1419 : BitVec 32 := Scalar.select v1417 v1418 v1412
  let c1_i32_1105 : BitVec 32 := 1#32
  let v1424 : BitVec 32 := Scalar.muli v1419 c1_i32_1105
  let v1425 : BitVec 32 := Scalar.addi v1423 v1424
  v1425.toNat
def k0_dev17 (d0 : Dev nD) : Nat :=
  let c0_i32_1133 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c4_i32_1110 : BitVec 32 := 4#32
  let v1434 : BitVec 32 := Scalar.addi v10 c4_i32_1110
  let c8_i32_1111 : BitVec 32 := 8#32
  let c0_i32_1112 : BitVec 32 := 0#32
  let v1435 : BitVec 1 := Scalar.cmpi .eq c8_i32_1111 c0_i32_1112
  let c1_i32_1113 : BitVec 32 := 1#32
  let v1436 : BitVec 32 := Scalar.select v1435 c1_i32_1113 c8_i32_1111
  let v1437 : BitVec 32 := Scalar.remsi v1434 v1436
  let c0_i32_1115 : BitVec 32 := 0#32
  let v1439 : BitVec 1 := Scalar.cmpi .slt v1437 c0_i32_1115
  let c0_i32_1116 : BitVec 32 := 0#32
  let v1440 : BitVec 1 := Scalar.cmpi .slt v1436 c0_i32_1116
  let v1441 : BitVec 1 := Scalar.xori v1439 v1440
  let c0_i32_1114 : BitVec 32 := 0#32
  let v1438 : BitVec 1 := Scalar.cmpi .ne v1437 c0_i32_1114
  let v1442 : BitVec 1 := Scalar.andi v1441 v1438
  let v1443 : BitVec 32 := Scalar.addi v1437 v1436
  let v1444 : BitVec 32 := Scalar.select v1442 v1443 v1437
  let c0_i32_1118 : BitVec 32 := 0#32
  let v1446 : BitVec 1 := Scalar.cmpi .sgt v1444 c0_i32_1118
  let v1447 : BitVec 32 := Scalar.extui v1446
  let c0_i32_1119 : BitVec 32 := 0#32
  let v1448 : BitVec 1 := Scalar.cmpi .slt v1444 c0_i32_1119
  let v1449 : BitVec 32 := Scalar.extui v1448
  let v1450 : BitVec 32 := Scalar.subi v1447 v1449
  let c4_i32_1117 : BitVec 32 := 4#32
  let c0_i32_1120 : BitVec 32 := 0#32
  let v1451 : BitVec 1 := Scalar.cmpi .sgt c4_i32_1117 c0_i32_1120
  let v1452 : BitVec 32 := Scalar.extui v1451
  let c0_i32_1121 : BitVec 32 := 0#32
  let v1453 : BitVec 1 := Scalar.cmpi .slt c4_i32_1117 c0_i32_1121
  let v1454 : BitVec 32 := Scalar.extui v1453
  let v1455 : BitVec 32 := Scalar.subi v1452 v1454
  let v1456 : BitVec 1 := Scalar.cmpi .ne v1450 v1455
  let v1457 : BitVec 32 := Scalar.remsi v1444 c4_i32_1117
  let c0_i32_1122 : BitVec 32 := 0#32
  let v1458 : BitVec 1 := Scalar.cmpi .ne v1457 c0_i32_1122
  let v1459 : BitVec 1 := Scalar.andi v1456 v1458
  let v1445 : BitVec 32 := Scalar.divsi v1444 c4_i32_1117
  let c1_i32_1123 : BitVec 32 := 1#32
  let v1460 : BitVec 32 := Scalar.subi v1445 c1_i32_1123
  let v1461 : BitVec 32 := Scalar.select v1459 v1460 v1445
  let c16_i32_1132 : BitVec 32 := 16#32
  let v1472 : BitVec 32 := Scalar.muli v1461 c16_i32_1132
  let v1473 : BitVec 32 := Scalar.addi c0_i32_1133 v1472
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1134 : BitVec 32 := 4#32
  let v1474 : BitVec 32 := Scalar.muli v5 c4_i32_1134
  let v1475 : BitVec 32 := Scalar.addi v1473 v1474
  let c4_i32_1124 : BitVec 32 := 4#32
  let c0_i32_1125 : BitVec 32 := 0#32
  let v1462 : BitVec 1 := Scalar.cmpi .eq c4_i32_1124 c0_i32_1125
  let c1_i32_1126 : BitVec 32 := 1#32
  let v1463 : BitVec 32 := Scalar.select v1462 c1_i32_1126 c4_i32_1124
  let v1464 : BitVec 32 := Scalar.remsi v1444 v1463
  let c0_i32_1128 : BitVec 32 := 0#32
  let v1466 : BitVec 1 := Scalar.cmpi .slt v1464 c0_i32_1128
  let c0_i32_1129 : BitVec 32 := 0#32
  let v1467 : BitVec 1 := Scalar.cmpi .slt v1463 c0_i32_1129
  let v1468 : BitVec 1 := Scalar.xori v1466 v1467
  let c0_i32_1127 : BitVec 32 := 0#32
  let v1465 : BitVec 1 := Scalar.cmpi .ne v1464 c0_i32_1127
  let v1469 : BitVec 1 := Scalar.andi v1468 v1465
  let v1470 : BitVec 32 := Scalar.addi v1464 v1463
  let v1471 : BitVec 32 := Scalar.select v1469 v1470 v1464
  let c1_i32_1135 : BitVec 32 := 1#32
  let v1476 : BitVec 32 := Scalar.muli v1471 c1_i32_1135
  let v1477 : BitVec 32 := Scalar.addi v1475 v1476
  v1477.toNat
def k0_dev18 (d0 : Dev nD) : Nat :=
  let c0_i32_1163 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c5_i32_1140 : BitVec 32 := 5#32
  let v1486 : BitVec 32 := Scalar.addi v10 c5_i32_1140
  let c8_i32_1141 : BitVec 32 := 8#32
  let c0_i32_1142 : BitVec 32 := 0#32
  let v1487 : BitVec 1 := Scalar.cmpi .eq c8_i32_1141 c0_i32_1142
  let c1_i32_1143 : BitVec 32 := 1#32
  let v1488 : BitVec 32 := Scalar.select v1487 c1_i32_1143 c8_i32_1141
  let v1489 : BitVec 32 := Scalar.remsi v1486 v1488
  let c0_i32_1145 : BitVec 32 := 0#32
  let v1491 : BitVec 1 := Scalar.cmpi .slt v1489 c0_i32_1145
  let c0_i32_1146 : BitVec 32 := 0#32
  let v1492 : BitVec 1 := Scalar.cmpi .slt v1488 c0_i32_1146
  let v1493 : BitVec 1 := Scalar.xori v1491 v1492
  let c0_i32_1144 : BitVec 32 := 0#32
  let v1490 : BitVec 1 := Scalar.cmpi .ne v1489 c0_i32_1144
  let v1494 : BitVec 1 := Scalar.andi v1493 v1490
  let v1495 : BitVec 32 := Scalar.addi v1489 v1488
  let v1496 : BitVec 32 := Scalar.select v1494 v1495 v1489
  let c0_i32_1148 : BitVec 32 := 0#32
  let v1498 : BitVec 1 := Scalar.cmpi .sgt v1496 c0_i32_1148
  let v1499 : BitVec 32 := Scalar.extui v1498
  let c0_i32_1149 : BitVec 32 := 0#32
  let v1500 : BitVec 1 := Scalar.cmpi .slt v1496 c0_i32_1149
  let v1501 : BitVec 32 := Scalar.extui v1500
  let v1502 : BitVec 32 := Scalar.subi v1499 v1501
  let c4_i32_1147 : BitVec 32 := 4#32
  let c0_i32_1150 : BitVec 32 := 0#32
  let v1503 : BitVec 1 := Scalar.cmpi .sgt c4_i32_1147 c0_i32_1150
  let v1504 : BitVec 32 := Scalar.extui v1503
  let c0_i32_1151 : BitVec 32 := 0#32
  let v1505 : BitVec 1 := Scalar.cmpi .slt c4_i32_1147 c0_i32_1151
  let v1506 : BitVec 32 := Scalar.extui v1505
  let v1507 : BitVec 32 := Scalar.subi v1504 v1506
  let v1508 : BitVec 1 := Scalar.cmpi .ne v1502 v1507
  let v1509 : BitVec 32 := Scalar.remsi v1496 c4_i32_1147
  let c0_i32_1152 : BitVec 32 := 0#32
  let v1510 : BitVec 1 := Scalar.cmpi .ne v1509 c0_i32_1152
  let v1511 : BitVec 1 := Scalar.andi v1508 v1510
  let v1497 : BitVec 32 := Scalar.divsi v1496 c4_i32_1147
  let c1_i32_1153 : BitVec 32 := 1#32
  let v1512 : BitVec 32 := Scalar.subi v1497 c1_i32_1153
  let v1513 : BitVec 32 := Scalar.select v1511 v1512 v1497
  let c16_i32_1162 : BitVec 32 := 16#32
  let v1524 : BitVec 32 := Scalar.muli v1513 c16_i32_1162
  let v1525 : BitVec 32 := Scalar.addi c0_i32_1163 v1524
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1164 : BitVec 32 := 4#32
  let v1526 : BitVec 32 := Scalar.muli v5 c4_i32_1164
  let v1527 : BitVec 32 := Scalar.addi v1525 v1526
  let c4_i32_1154 : BitVec 32 := 4#32
  let c0_i32_1155 : BitVec 32 := 0#32
  let v1514 : BitVec 1 := Scalar.cmpi .eq c4_i32_1154 c0_i32_1155
  let c1_i32_1156 : BitVec 32 := 1#32
  let v1515 : BitVec 32 := Scalar.select v1514 c1_i32_1156 c4_i32_1154
  let v1516 : BitVec 32 := Scalar.remsi v1496 v1515
  let c0_i32_1158 : BitVec 32 := 0#32
  let v1518 : BitVec 1 := Scalar.cmpi .slt v1516 c0_i32_1158
  let c0_i32_1159 : BitVec 32 := 0#32
  let v1519 : BitVec 1 := Scalar.cmpi .slt v1515 c0_i32_1159
  let v1520 : BitVec 1 := Scalar.xori v1518 v1519
  let c0_i32_1157 : BitVec 32 := 0#32
  let v1517 : BitVec 1 := Scalar.cmpi .ne v1516 c0_i32_1157
  let v1521 : BitVec 1 := Scalar.andi v1520 v1517
  let v1522 : BitVec 32 := Scalar.addi v1516 v1515
  let v1523 : BitVec 32 := Scalar.select v1521 v1522 v1516
  let c1_i32_1165 : BitVec 32 := 1#32
  let v1528 : BitVec 32 := Scalar.muli v1523 c1_i32_1165
  let v1529 : BitVec 32 := Scalar.addi v1527 v1528
  v1529.toNat
def k0_dev19 (d0 : Dev nD) : Nat :=
  let c0_i32_1193 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c6_i32_1170 : BitVec 32 := 6#32
  let v1538 : BitVec 32 := Scalar.addi v10 c6_i32_1170
  let c8_i32_1171 : BitVec 32 := 8#32
  let c0_i32_1172 : BitVec 32 := 0#32
  let v1539 : BitVec 1 := Scalar.cmpi .eq c8_i32_1171 c0_i32_1172
  let c1_i32_1173 : BitVec 32 := 1#32
  let v1540 : BitVec 32 := Scalar.select v1539 c1_i32_1173 c8_i32_1171
  let v1541 : BitVec 32 := Scalar.remsi v1538 v1540
  let c0_i32_1175 : BitVec 32 := 0#32
  let v1543 : BitVec 1 := Scalar.cmpi .slt v1541 c0_i32_1175
  let c0_i32_1176 : BitVec 32 := 0#32
  let v1544 : BitVec 1 := Scalar.cmpi .slt v1540 c0_i32_1176
  let v1545 : BitVec 1 := Scalar.xori v1543 v1544
  let c0_i32_1174 : BitVec 32 := 0#32
  let v1542 : BitVec 1 := Scalar.cmpi .ne v1541 c0_i32_1174
  let v1546 : BitVec 1 := Scalar.andi v1545 v1542
  let v1547 : BitVec 32 := Scalar.addi v1541 v1540
  let v1548 : BitVec 32 := Scalar.select v1546 v1547 v1541
  let c0_i32_1178 : BitVec 32 := 0#32
  let v1550 : BitVec 1 := Scalar.cmpi .sgt v1548 c0_i32_1178
  let v1551 : BitVec 32 := Scalar.extui v1550
  let c0_i32_1179 : BitVec 32 := 0#32
  let v1552 : BitVec 1 := Scalar.cmpi .slt v1548 c0_i32_1179
  let v1553 : BitVec 32 := Scalar.extui v1552
  let v1554 : BitVec 32 := Scalar.subi v1551 v1553
  let c4_i32_1177 : BitVec 32 := 4#32
  let c0_i32_1180 : BitVec 32 := 0#32
  let v1555 : BitVec 1 := Scalar.cmpi .sgt c4_i32_1177 c0_i32_1180
  let v1556 : BitVec 32 := Scalar.extui v1555
  let c0_i32_1181 : BitVec 32 := 0#32
  let v1557 : BitVec 1 := Scalar.cmpi .slt c4_i32_1177 c0_i32_1181
  let v1558 : BitVec 32 := Scalar.extui v1557
  let v1559 : BitVec 32 := Scalar.subi v1556 v1558
  let v1560 : BitVec 1 := Scalar.cmpi .ne v1554 v1559
  let v1561 : BitVec 32 := Scalar.remsi v1548 c4_i32_1177
  let c0_i32_1182 : BitVec 32 := 0#32
  let v1562 : BitVec 1 := Scalar.cmpi .ne v1561 c0_i32_1182
  let v1563 : BitVec 1 := Scalar.andi v1560 v1562
  let v1549 : BitVec 32 := Scalar.divsi v1548 c4_i32_1177
  let c1_i32_1183 : BitVec 32 := 1#32
  let v1564 : BitVec 32 := Scalar.subi v1549 c1_i32_1183
  let v1565 : BitVec 32 := Scalar.select v1563 v1564 v1549
  let c16_i32_1192 : BitVec 32 := 16#32
  let v1576 : BitVec 32 := Scalar.muli v1565 c16_i32_1192
  let v1577 : BitVec 32 := Scalar.addi c0_i32_1193 v1576
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1194 : BitVec 32 := 4#32
  let v1578 : BitVec 32 := Scalar.muli v5 c4_i32_1194
  let v1579 : BitVec 32 := Scalar.addi v1577 v1578
  let c4_i32_1184 : BitVec 32 := 4#32
  let c0_i32_1185 : BitVec 32 := 0#32
  let v1566 : BitVec 1 := Scalar.cmpi .eq c4_i32_1184 c0_i32_1185
  let c1_i32_1186 : BitVec 32 := 1#32
  let v1567 : BitVec 32 := Scalar.select v1566 c1_i32_1186 c4_i32_1184
  let v1568 : BitVec 32 := Scalar.remsi v1548 v1567
  let c0_i32_1188 : BitVec 32 := 0#32
  let v1570 : BitVec 1 := Scalar.cmpi .slt v1568 c0_i32_1188
  let c0_i32_1189 : BitVec 32 := 0#32
  let v1571 : BitVec 1 := Scalar.cmpi .slt v1567 c0_i32_1189
  let v1572 : BitVec 1 := Scalar.xori v1570 v1571
  let c0_i32_1187 : BitVec 32 := 0#32
  let v1569 : BitVec 1 := Scalar.cmpi .ne v1568 c0_i32_1187
  let v1573 : BitVec 1 := Scalar.andi v1572 v1569
  let v1574 : BitVec 32 := Scalar.addi v1568 v1567
  let v1575 : BitVec 32 := Scalar.select v1573 v1574 v1568
  let c1_i32_1195 : BitVec 32 := 1#32
  let v1580 : BitVec 32 := Scalar.muli v1575 c1_i32_1195
  let v1581 : BitVec 32 := Scalar.addi v1579 v1580
  v1581.toNat
def k0_dev20 (d0 : Dev nD) : Nat :=
  let c0_i32_1223 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c7_i32_1200 : BitVec 32 := 7#32
  let v1590 : BitVec 32 := Scalar.addi v10 c7_i32_1200
  let c8_i32_1201 : BitVec 32 := 8#32
  let c0_i32_1202 : BitVec 32 := 0#32
  let v1591 : BitVec 1 := Scalar.cmpi .eq c8_i32_1201 c0_i32_1202
  let c1_i32_1203 : BitVec 32 := 1#32
  let v1592 : BitVec 32 := Scalar.select v1591 c1_i32_1203 c8_i32_1201
  let v1593 : BitVec 32 := Scalar.remsi v1590 v1592
  let c0_i32_1205 : BitVec 32 := 0#32
  let v1595 : BitVec 1 := Scalar.cmpi .slt v1593 c0_i32_1205
  let c0_i32_1206 : BitVec 32 := 0#32
  let v1596 : BitVec 1 := Scalar.cmpi .slt v1592 c0_i32_1206
  let v1597 : BitVec 1 := Scalar.xori v1595 v1596
  let c0_i32_1204 : BitVec 32 := 0#32
  let v1594 : BitVec 1 := Scalar.cmpi .ne v1593 c0_i32_1204
  let v1598 : BitVec 1 := Scalar.andi v1597 v1594
  let v1599 : BitVec 32 := Scalar.addi v1593 v1592
  let v1600 : BitVec 32 := Scalar.select v1598 v1599 v1593
  let c0_i32_1208 : BitVec 32 := 0#32
  let v1602 : BitVec 1 := Scalar.cmpi .sgt v1600 c0_i32_1208
  let v1603 : BitVec 32 := Scalar.extui v1602
  let c0_i32_1209 : BitVec 32 := 0#32
  let v1604 : BitVec 1 := Scalar.cmpi .slt v1600 c0_i32_1209
  let v1605 : BitVec 32 := Scalar.extui v1604
  let v1606 : BitVec 32 := Scalar.subi v1603 v1605
  let c4_i32_1207 : BitVec 32 := 4#32
  let c0_i32_1210 : BitVec 32 := 0#32
  let v1607 : BitVec 1 := Scalar.cmpi .sgt c4_i32_1207 c0_i32_1210
  let v1608 : BitVec 32 := Scalar.extui v1607
  let c0_i32_1211 : BitVec 32 := 0#32
  let v1609 : BitVec 1 := Scalar.cmpi .slt c4_i32_1207 c0_i32_1211
  let v1610 : BitVec 32 := Scalar.extui v1609
  let v1611 : BitVec 32 := Scalar.subi v1608 v1610
  let v1612 : BitVec 1 := Scalar.cmpi .ne v1606 v1611
  let v1613 : BitVec 32 := Scalar.remsi v1600 c4_i32_1207
  let c0_i32_1212 : BitVec 32 := 0#32
  let v1614 : BitVec 1 := Scalar.cmpi .ne v1613 c0_i32_1212
  let v1615 : BitVec 1 := Scalar.andi v1612 v1614
  let v1601 : BitVec 32 := Scalar.divsi v1600 c4_i32_1207
  let c1_i32_1213 : BitVec 32 := 1#32
  let v1616 : BitVec 32 := Scalar.subi v1601 c1_i32_1213
  let v1617 : BitVec 32 := Scalar.select v1615 v1616 v1601
  let c16_i32_1222 : BitVec 32 := 16#32
  let v1628 : BitVec 32 := Scalar.muli v1617 c16_i32_1222
  let v1629 : BitVec 32 := Scalar.addi c0_i32_1223 v1628
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1224 : BitVec 32 := 4#32
  let v1630 : BitVec 32 := Scalar.muli v5 c4_i32_1224
  let v1631 : BitVec 32 := Scalar.addi v1629 v1630
  let c4_i32_1214 : BitVec 32 := 4#32
  let c0_i32_1215 : BitVec 32 := 0#32
  let v1618 : BitVec 1 := Scalar.cmpi .eq c4_i32_1214 c0_i32_1215
  let c1_i32_1216 : BitVec 32 := 1#32
  let v1619 : BitVec 32 := Scalar.select v1618 c1_i32_1216 c4_i32_1214
  let v1620 : BitVec 32 := Scalar.remsi v1600 v1619
  let c0_i32_1218 : BitVec 32 := 0#32
  let v1622 : BitVec 1 := Scalar.cmpi .slt v1620 c0_i32_1218
  let c0_i32_1219 : BitVec 32 := 0#32
  let v1623 : BitVec 1 := Scalar.cmpi .slt v1619 c0_i32_1219
  let v1624 : BitVec 1 := Scalar.xori v1622 v1623
  let c0_i32_1217 : BitVec 32 := 0#32
  let v1621 : BitVec 1 := Scalar.cmpi .ne v1620 c0_i32_1217
  let v1625 : BitVec 1 := Scalar.andi v1624 v1621
  let v1626 : BitVec 32 := Scalar.addi v1620 v1619
  let v1627 : BitVec 32 := Scalar.select v1625 v1626 v1620
  let c1_i32_1225 : BitVec 32 := 1#32
  let v1632 : BitVec 32 := Scalar.muli v1627 c1_i32_1225
  let v1633 : BitVec 32 := Scalar.addi v1631 v1632
  v1633.toNat
def k0_off24 (d0 : Dev nD) (c1_i32_1230 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v1642 : BitVec 32 := Scalar.subi v10 c1_i32_1230
  let c8_i32_1231 : BitVec 32 := 8#32
  let v1643 : BitVec 32 := Scalar.addi v1642 c8_i32_1231
  let c8_i32_1232 : BitVec 32 := 8#32
  let c0_i32_1233 : BitVec 32 := 0#32
  let v1644 : BitVec 1 := Scalar.cmpi .eq c8_i32_1232 c0_i32_1233
  let c1_i32_1234 : BitVec 32 := 1#32
  let v1645 : BitVec 32 := Scalar.select v1644 c1_i32_1234 c8_i32_1232
  let v1646 : BitVec 32 := Scalar.remsi v1643 v1645
  let c0_i32_1236 : BitVec 32 := 0#32
  let v1648 : BitVec 1 := Scalar.cmpi .slt v1646 c0_i32_1236
  let c0_i32_1237 : BitVec 32 := 0#32
  let v1649 : BitVec 1 := Scalar.cmpi .slt v1645 c0_i32_1237
  let v1650 : BitVec 1 := Scalar.xori v1648 v1649
  let c0_i32_1235 : BitVec 32 := 0#32
  let v1647 : BitVec 1 := Scalar.cmpi .ne v1646 c0_i32_1235
  let v1651 : BitVec 1 := Scalar.andi v1650 v1647
  let v1652 : BitVec 32 := Scalar.addi v1646 v1645
  let v1653 : BitVec 32 := Scalar.select v1651 v1652 v1646
  let c0_i32_1244 : BitVec 32 := 0#32
  let c0_i32_1245 : BitVec 32 := 0#32
  ![v1653.toNat, 0, 0]
abbrev stage0_0 : Fin 1 → Memref sig .tc .vmem S8x8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x8x16x128 : Shape := ⟨4, ![8, 8, 16, 128]⟩
abbrev S8x4096x16x128 : Shape := ⟨4, ![8, 4096, 16, 128]⟩
abbrev S8x16x8x4096 : Shape := ⟨4, ![8, 16, 8, 4096]⟩
abbrev S_ : Shape := ⟨0, ![]⟩
abbrev S8x16x8 : Shape := ⟨3, ![8, 16, 8]⟩
abbrev S8x16x8x1 : Shape := ⟨4, ![8, 16, 8, 1]⟩
abbrev S8x16x128x8 : Shape := ⟨4, ![8, 16, 128, 8]⟩
abbrev S8x128x128 : Shape := ⟨3, ![8, 128, 128]⟩

abbrev nBuf : Space → Nat
  | .hbm => 21
  | .vmem => 0
  | .smem => 0
  | _ => 0

abbrev bufTy : (tb : Table) → Fin (tcTables nBuf tb) → BufTy
  | .hbm, ⟨0, _⟩ => ⟨S8x8x16x128, .f32⟩
  | .hbm, ⟨1, _⟩ => ⟨S8x4096x16x128, .f32⟩
  | .hbm, ⟨2, _⟩ => ⟨S8x4096x16x128, .f32⟩
  | .hbm, ⟨3, _⟩ => ⟨S8x16x8x4096, .f32⟩
  | .hbm, ⟨4, _⟩ => ⟨S_, .f32⟩
  | .hbm, ⟨5, _⟩ => ⟨S8x16x8x4096, .f32⟩
  | .hbm, ⟨6, _⟩ => ⟨S8x16x8x4096, .f32⟩
  | .hbm, ⟨7, _⟩ => ⟨S_, .f32⟩
  | .hbm, ⟨8, _⟩ => ⟨S8x16x8, .f32⟩
  | .hbm, ⟨9, _⟩ => ⟨S8x16x8x1, .f32⟩
  | .hbm, ⟨10, _⟩ => ⟨S8x16x8x4096, .f32⟩
  | .hbm, ⟨11, _⟩ => ⟨S8x16x8x4096, .f32⟩
  | .hbm, ⟨12, _⟩ => ⟨S8x16x8x4096, .f32⟩
  | .hbm, ⟨13, _⟩ => ⟨S_, .f32⟩
  | .hbm, ⟨14, _⟩ => ⟨S8x16x8, .f32⟩
  | .hbm, ⟨15, _⟩ => ⟨S8x16x8x1, .f32⟩
  | .hbm, ⟨16, _⟩ => ⟨S8x16x8x4096, .f32⟩
  | .hbm, ⟨17, _⟩ => ⟨S8x16x8x4096, .f32⟩
  | .hbm, ⟨18, _⟩ => ⟨S8x16x128x8, .f32⟩
  | .hbm, ⟨19, _⟩ => ⟨S8x8x16x128, .f32⟩
  | .hbm, ⟨20, _⟩ => ⟨S8x128x128, .f32⟩
  | _, _ => ⟨S8x8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Devs.lean ====
/-
# The mesh of 32 devices as the kernel walks it

Device `c` of the 2 × 4 × 4 mesh is `16 x + 4 y + z`. It exchanges its block with the three other devices of its
`y` axis (the first exchange, `comm_a`) and with the seven other devices of its `x`–`z` plane, numbered by
`4 x + z` (the second exchange, `comm_b`). Both walks are rotations, so both are permutations of the devices.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Att

open Cert.KernelIdeal Cert.KernelIdeal.Gen
open Idealize.ShloMosaic Idealize.ShloMosaic.TcCoe

/-- The device's place on the `y` axis. -/
def yof (c : Dev nD) : ℕ := (c.val / 4) % 4
/-- The device's number in its `x`–`z` plane: the batch entry it computes. -/
def bof (c : Dev nD) : ℕ := 4 * (c.val / 16) + (c.val % 4)

/-- The device of plane number `b` at place `y`. -/
def dv (b y : ℕ) : Dev nD := ⟨(16 * (b / 4) + 4 * y + b % 4) % 32, Nat.mod_lt _ (by decide)⟩

theorem yof_lt (c : Dev nD) : yof c < 4 := Nat.mod_lt _ (by decide)
theorem bof_lt (c : Dev nD) : bof c < 8 := by have := c.isLt; change c.val < 32 at this; unfold bof; omega
theorem dv_of (c : Dev nD) : dv (bof c) (yof c) = c := by revert c; decide +kernel
theorem yof_dv : ∀ (b : Fin 8) (y : Fin 4), yof (dv b y) = y := by decide +kernel
theorem bof_dv : ∀ (b : Fin 8) (y : Fin 4), bof (dv b y) = b := by decide +kernel

/-- The device `k` places further round the `y` axis. -/
def yrot (k : ℕ) (c : Dev nD) : Dev nD := dv (bof c) ((yof c + k) % 4)
/-- The device `k` places further round the `x`–`z` plane. -/
def brot (k : ℕ) (c : Dev nD) : Dev nD := dv ((bof c + k) % 8) (yof c)

/-- One rotation of the `y` axis as a permutation of the devices. -/
def ysh (k : Fin 4) : Dev nD ≃ Dev nD :=
  ⟨yrot k, yrot (4 - k), fun c => by revert k c; decide +kernel, fun c => by revert k c; decide +kernel⟩
/-- One rotation of the `x`–`z` plane as a permutation of the devices. -/
def bsh (k : Fin 8) : Dev nD ≃ Dev nD :=
  ⟨brot k, brot (8 - k), fun c => by revert k c; decide +kernel, fun c => by revert k c; decide +kernel⟩

/-- Slot number of the block device `c` receives over `o + 1` steps of the `y` axis. -/
def fromY (c : Dev nD) (o : ℕ) : ℕ := (yof c + 3 - o) % 4
/-- Slot number of the block device `c` receives over `o + 1` steps of the plane. -/
def fromB (c : Dev nD) (o : ℕ) : ℕ := (bof c + 7 - o) % 8

theorem k0_off21_eq : ∀ (c : Dev nD) (o : Fin 3), k0_off21 c (BitVec.ofNat 32 (1 + o.val)) = ![fromY c o, 0, 0] := by decide +kernel
theorem k0_off24_eq : ∀ (c : Dev nD) (o : Fin 7), k0_off24 c (BitVec.ofNat 32 (1 + o.val)) = ![fromB c o, 0, 0] := by decide +kernel

theorem dev1_eq : ∀ c : Dev nD, (⟨k0_dev1 c, k0_dev1_lt c⟩ : Dev nD) = ysh 1 c := by decide +kernel
theorem dev2_eq : ∀ c : Dev nD, (⟨k0_dev2 c, k0_dev2_lt c⟩ : Dev nD) = ysh 2 c := by decide +kernel
theorem dev3_eq : ∀ c : Dev nD, (⟨k0_dev3 c, k0_dev3_lt c⟩ : Dev nD) = ysh 3 c := by decide +kernel
theorem dev4_eq : ∀ c : Dev nD, (⟨k0_dev4 c, k0_dev4_lt c⟩ : Dev nD) = bsh 1 c := by decide +kernel
theorem dev5_eq : ∀ c : Dev nD, (⟨k0_dev5 c, k0_dev5_lt c⟩ : Dev nD) = bsh 2 c := by decide +kernel
theorem dev6_eq : ∀ c : Dev nD, (⟨k0_dev6 c, k0_dev6_lt c⟩ : Dev nD) = bsh 3 c := by decide +kernel
theorem dev7_eq : ∀ c : Dev nD, (⟨k0_dev7 c, k0_dev7_lt c⟩ : Dev nD) = bsh 4 c := by decide +kernel
theorem dev8_eq : ∀ c : Dev nD, (⟨k0_dev8 c, k0_dev8_lt c⟩ : Dev nD) = bsh 5 c := by decide +kernel
theorem dev9_eq : ∀ c : Dev nD, (⟨k0_dev9 c, k0_dev9_lt c⟩ : Dev nD) = bsh 6 c := by decide +kernel
theorem dev10_eq : ∀ c : Dev nD, (⟨k0_dev10 c, k0_dev10_lt c⟩ : Dev nD) = bsh 7 c := by decide +kernel
theorem dev11_eq : ∀ c : Dev nD, (⟨k0_dev11 c, k0_dev11_lt c⟩ : Dev nD) = ysh 1 c := by decide +kernel
theorem dev12_eq : ∀ c : Dev nD, (⟨k0_dev12 c, k0_dev12_lt c⟩ : Dev nD) = ysh 2 c := by decide +kernel
theorem dev13_eq : ∀ c : Dev nD, (⟨k0_dev13 c, k0_dev13_lt c⟩ : Dev nD) = ysh 3 c := by decide +kernel
theorem dev14_eq : ∀ c : Dev nD, (⟨k0_dev14 c, k0_dev14_lt c⟩ : Dev nD) = bsh 1 c := by decide +kernel
theorem dev15_eq : ∀ c : Dev nD, (⟨k0_dev15 c, k0_dev15_lt c⟩ : Dev nD) = bsh 2 c := by decide +kernel
theorem dev16_eq : ∀ c : Dev nD, (⟨k0_dev16 c, k0_dev16_lt c⟩ : Dev nD) = bsh 3 c := by decide +kernel
theorem dev17_eq : ∀ c : Dev nD, (⟨k0_dev17 c, k0_dev17_lt c⟩ : Dev nD) = bsh 4 c := by decide +kernel
theorem dev18_eq : ∀ c : Dev nD, (⟨k0_dev18 c, k0_dev18_lt c⟩ : Dev nD) = bsh 5 c := by decide +kernel
theorem dev19_eq : ∀ c : Dev nD, (⟨k0_dev19 c, k0_dev19_lt c⟩ : Dev nD) = bsh 6 c := by decide +kernel
theorem dev20_eq : ∀ c : Dev nD, (⟨k0_dev20 c, k0_dev20_lt c⟩ : Dev nD) = bsh 7 c := by decide +kernel

theorem bof_ysh (k : Fin 4) (c : Dev nD) : bof (ysh k c) = bof c := by revert k c; decide +kernel
theorem yof_bsh (k : Fin 8) (c : Dev nD) : yof (bsh k c) = yof c := by revert k c; decide +kernel
theorem yof_ysh (k : Fin 4) (c : Dev nD) : yof (ysh k c) = (yof c + k) % 4 := by revert k c; decide +kernel
theorem bof_bsh (k : Fin 8) (c : Dev nD) : bof (bsh k c) = (bof c + k) % 8 := by revert k c; decide +kernel

end Cert.Att

end
-- ==== Proof.Fam.lean ====
/-
# Families of resources taken one after another

A run that treats `N` like things one after the other — copies issued, signals sent, waits passed — holds at each
moment the first `n` of them in their later form and the rest in their earlier one.
-/
module

public import proofs.«01_k».proof.Proof.Devs
public import Idealize.ShloMosaic.Lib.Pipeline.Launch
public import Idealize.ShloMosaic.Lib.Pipeline.Kit
public import Idealize.ShloMosaic.Lib.Tactic

@[expose] public section

noncomputable section

namespace Cert.Att

open Idealize.SL Idealize.SL.RA Idealize.SL.BI
open scoped Idealize.SL.BI
open Idealize.SL.BI.BIBase Idealize.SL.BI.Laws Idealize.SL.ProofMode Idealize.SL.Sem

variable {M : Type} [URA M] {N : ℕ}

/-- The first `n` things in form `B`, the others in form `A`. -/
def fam (A B : Fin N → sProp M) (n : ℕ) : sProp M := bigSep Finset.univ fun i : Fin N => if i.val < n then B i else A i

theorem fam_take (A B : Fin N → sProp M) (i : Fin N) : fam A B i.val ⊢ iprop(A i ∗ (B i -∗ fam A B (i.val + 1))) := by
  unfold fam
  rw [bigSep_univ_at _ i, bigSep_univ_at (fun j : Fin N => if j.val < i.val + 1 then B j else A j) i,
    if_neg (Nat.lt_irrefl _), if_pos (Nat.lt_succ_self _),
    bigSep_congr (s := Finset.univ.erase i) (Ψ := fun j : Fin N => if j.val < i.val + 1 then B j else A j) (fun j hj => by
      have hne : j.val ≠ i.val := fun h => (Finset.mem_erase.mp hj).1 (Fin.ext h)
      by_cases h : j.val < i.val
      · rw [if_pos h, if_pos (by omega)]
      · rw [if_neg h, if_neg (by omega)])]
  iintro ⟨HA, HR⟩
  isplitl [HA]; · iexact HA
  iintro HB
  isplitl [HB]; · iexact HB
  iexact HR

theorem fam_read (A B : Fin N → sProp M) (i : Fin N) (n : ℕ) (h : i.val < n) : fam A B n ⊢ iprop(B i ∗ (B i -∗ fam A B n)) := by
  unfold fam
  rw [bigSep_univ_at _ i, if_pos h]
  iintro ⟨HA, HR⟩
  isplitl [HA]; · iexact HA
  iintro HB
  isplitl [HB]; · iexact HB
  iexact HR

theorem fam_zero (A B : Fin N → sProp M) : fam A B 0 = bigSep Finset.univ A := by
  unfold fam; exact bigSep_congr fun i _ => if_neg (Nat.not_lt_zero _)
theorem fam_full (A B : Fin N → sProp M) (n : ℕ) (h : N ≤ n) : fam A B n = bigSep Finset.univ B := by
  unfold fam; exact bigSep_congr fun i _ => if_pos (by have := i.isLt; omega)
theorem fam_next (A B C : Fin N → sProp M) (n : ℕ) (h : N ≤ n) : fam A B n = fam B C 0 := by rw [fam_full A B n h, fam_zero]

end Cert.Att

end
-- ==== Proof.Contents.lean ====
/-
# What every buffer of the kernel comes to hold

The contents of the kernel's buffers as functions of the arrays at launch: the key and value heads a device copies
in, the numerators and denominators its 16 heads leave, the four blocks the `y` axis exchanges and the eight
normalised blocks the `x`–`z` plane exchanges.
-/
module

public import proofs.«01_k».proof.Proof.Devs
public import Idealize.ShloMosaic.Lib.ValueIdxCore
public import Idealize.ShloMosaic.Lib.ValueLayout
public import Idealize.ShloMosaic.Lib.Pipeline.Value

@[expose] public section

set_option maxRecDepth 16384

noncomputable section

namespace Cert.Att

open Cert.KernelIdeal Cert.KernelIdeal.Gen
open Idealize.ShloMosaic Idealize.ShloMosaic.TcCoe Idealize.ShloMosaic.ValueIdx

variable {F : FTy → Type} [FloatOps F]

/-! ## The buffers -/

abbrev qM : Memref sig .tc .vmem S8x8x16x128 .f32 := Memref.whole cc0_stg0_0
abbrev oM : Memref sig .tc .vmem S8x128x128 .f32 := Memref.whole cc0_stg1_0
abbrev argKM : Memref sig .tc .hbm S8x1024x16x128 .f32 := Memref.whole main_arg1
abbrev argVM : Memref sig .tc .hbm S8x1024x16x128 .f32 := Memref.whole main_arg2
abbrev kM : Memref sig .tc .vmem S16x1024x128 .f32 := Memref.whole cc0_scratch0
abbrev vM : Memref sig .tc .vmem S16x1024x128 .f32 := Memref.whole cc0_scratch1
abbrev opM : Memref sig .tc .vmem S8x16x128 .f32 := Memref.whole cc0_scratch2
abbrev lbM : Memref sig .tc .vmem S8x16x128 .f32 := Memref.whole cc0_scratch3
abbrev aM : Memref sig .tc .vmem S4x256x128 .bf16 := Memref.whole cc0_scratch4
abbrev bM : Memref sig .tc .vmem S8x128x128 .bf16 := Memref.whole cc0_scratch5

/-! ## One head -/

theorem slices_head (h : Fin 16) : S8x16x128.Slices ![0, h.val, 0] S8x1x128 := by revert h; decide

/-- The exponentials of one head's scaled scores. -/
def headP (h : Fin 16) (q : FVec F S8x16x128 .f32) (k : Vec F S1x1024x128 .f32) : FVec F S8x1024 .f32 :=
  exp (mulf
    (matmul dot_S8x128_S1024x128_S8x1024_1_1_0_0_n_n none
      (shapeCast S8x128 (extractStridedSlice S8x1x128 ![0, h.val, 0] q (slices_head h)) shapeCasts_S8x1x128_S8x128)
      (shapeCast S1024x128 k shapeCasts_S1x1024x128_S1024x128) (constant S8x1024 .f32 0x00000000#32))
    (broadcast S8x1024 (Scalar.ofBits .f32 0x3DB504F3#32)))

/-- One head's numerator: the exponentials against the values. -/
def headO (h : Fin 16) (q : FVec F S8x16x128 .f32) (k v : Vec F S1x1024x128 .f32) : FVec F S8x1x128 .f32 :=
  shapeCast S8x1x128
    (matmul dot_S8x1024_S1024x128_S8x128_1_0_0_1_n_n none (headP h q k)
      (shapeCast S1024x128 v shapeCasts_S1x1024x128_S1024x128) (constant S8x128 .f32 0x00000000#32))
    shapeCasts_S8x128_S8x1x128

/-- One head's denominator: the exponentials summed, along every lane. -/
def headL (h : Fin 16) (q : FVec F S8x16x128 .f32) (k : Vec F S1x1024x128 .f32) : FVec F S8x1x128 .f32 :=
  shapeCast S8x1x128
    (broadcastTo S8x128
      (shapeCast S8x1
        (shapeCast S8x1 (multiReduction .add [1] S8 (headP h q k) 0x00000000#32 reduces_S8x1024_S8 (.inl rfl) rfl) shapeCasts_S8_S8x1)
        shapeCasts_S8x1_S8x1)
      broadcasts_S8x1_S8x128)
    shapeCasts_S8x128_S8x1x128

/-! ## The contents -/

variable (m : (ℓ : Loc nD τ sig) → Buf (Elt F) ℓ)

/-- The queries staged on device `c`. -/
def qstg (c : Dev nD) : (cc0_stg0_0 : Ref sig .tc).ty.Contents (Elt F) :=
  (win0_0.blk (0 : Fin 1)).view.read (Elt F) (m ((c : Thread nD τ).loc main_arg0))

theorem inb_q (b : ℕ) (hb : b < 8) : ∀ a, (![b, 0, 0, 0] : Fin 4 → ℕ) a + S1x8x16x128.size a ≤ S8x8x16x128.size a := by
  intro a; fin_cases a <;> simp [S1x8x16x128, S8x8x16x128] <;> omega
theorem inb_kv (h : Fin 16) : ∀ a, (![h.val, 0, 0] : Fin 3 → ℕ) a + S1x1024x128.size a ≤ S16x1024x128.size a := by
  revert h; decide
theorem inb_hd (h : Fin 16) : ∀ a, (![0, h.val, 0] : Fin 3 → ℕ) a + S8x1x128.size a ≤ S8x16x128.size a := by
  revert h; decide

/-- The queries of device `c`'s batch entry. -/
def qb (c : Dev nD) : FVec F S8x16x128 .f32 :=
  k0_pay1 (qM.view.readAt (Elt F) (Rect.unit (s := S8x8x16x128) ![bof c, 0, 0, 0] S1x8x16x128.size (inb_q _ (bof_lt c))).toLoadRect (qstg m c))

/-- The keys of device `c`'s batch entry, heads first. -/
def KB (c : Dev nD) : (cc0_scratch0 : Ref sig .tc).ty.Contents (Elt F) :=
  fun i : S16x1024x128.Idx => m ((c : Thread nD τ).loc main_arg1) (ix4 (⟨bof c, bof_lt c⟩ : Fin 8) (i 1) (i 0) (i 2) : S8x1024x16x128.Idx)
/-- The values of device `c`'s batch entry, heads first. -/
def VB (c : Dev nD) : (cc0_scratch1 : Ref sig .tc).ty.Contents (Elt F) :=
  fun i : S16x1024x128.Idx => m ((c : Thread nD τ).loc main_arg2) (ix4 (⟨bof c, bof_lt c⟩ : Fin 8) (i 1) (i 0) (i 2) : S8x1024x16x128.Idx)

/-- Head `h` of the keys as the kernel loads it. -/
def kh (c : Dev nD) (h : Fin 16) : Vec F S1x1024x128 .f32 :=
  kM.view.readAt (Elt F) (Rect.unit (s := S16x1024x128) ![h.val, 0, 0] S1x1024x128.size (inb_kv h)).toLoadRect (KB m c)
/-- Head `h` of the values as the kernel loads it. -/
def vh (c : Dev nD) (h : Fin 16) : Vec F S1x1024x128 .f32 :=
  vM.view.readAt (Elt F) (Rect.unit (s := S16x1024x128) ![h.val, 0, 0] S1x1024x128.size (inb_kv h)).toLoadRect (VB m c)

/-- The numerators of all heads. -/
def opv (c : Dev nD) : (cc0_scratch2 : Ref sig .tc).ty.Contents (Elt F) :=
  fun i : S8x16x128.Idx => headO (i 1) (qb m c) (kh m c (i 1)) (vh m c (i 1)) (ix3 (i 0) (0 : Fin 1) (i 2))
/-- The denominators of all heads. -/
def lbv (c : Dev nD) : (cc0_scratch3 : Ref sig .tc).ty.Contents (Elt F) :=
  fun i : S8x16x128.Idx => headL (i 1) (qb m c) (kh m c (i 1)) (ix3 (i 0) (0 : Fin 1) (i 2))

/-- The block a device sends along its `y` axis: 128 rows of numerators over 128 rows of denominators. -/
def chunk (c : Dev nD) (r : Fin 256) (l : Fin 128) : Elt F .bf16 :=
  if h : r.val < 128 then k0_pay60 (opv m c) (ix3 (0 : Fin 1) (⟨r.val, h⟩ : Fin 128) l)
  else k0_pay61 (lbv m c) (ix3 (0 : Fin 1) (⟨r.val - 128, by have := r.isLt; omega⟩ : Fin 128) l)

/-- The four blocks of plane number `b` after the first exchange. -/
def Gx (b : ℕ) : (cc0_scratch4 : Ref sig .tc).ty.Contents (Elt F) :=
  fun i : S4x256x128.Idx => chunk m (dv b (i 0).val) (i 1) (i 2)
/-- The first exchange's buffer on device `c`. -/
abbrev Ga (c : Dev nD) : (cc0_scratch4 : Ref sig .tc).ty.Contents (Elt F) := Gx m (bof c)

theorem inb_a (k : Fin 4) : ∀ a, (![k.val, 0, 0] : Fin 3 → ℕ) a + S1x256x128.size a ≤ S4x256x128.size a := by
  revert k; decide

/-- Slot `k` of the first exchange's buffer as the kernel loads it. -/
def rowA (b : ℕ) (k : Fin 4) : Vec F S1x256x128 .bf16 :=
  aM.view.readAt (Elt F) (Rect.unit (s := S4x256x128) ![k.val, 0, 0] S1x256x128.size (inb_a k)).toLoadRect (Gx m b)

/-- The normalised block of plane number `b`. -/
def nrm (b : ℕ) : FVec F S1x128x128 .bf16 := k0_pay62 (rowA m b 0) (rowA m b 1) (rowA m b 2) (rowA m b 3)

/-- The second exchange's buffer, the same on every device. -/
def Gb : (cc0_scratch5 : Ref sig .tc).ty.Contents (Elt F) :=
  fun i : S8x128x128.Idx => nrm m (i 0).val (ix3 (0 : Fin 1) (i 1) (i 2))

theorem inb_b (k : Fin 8) : ∀ a, (![k.val, 0, 0] : Fin 3 → ℕ) a + S1x128x128.size a ≤ S8x128x128.size a := by
  revert k; decide

/-- Slot `k` of the second exchange's buffer as the kernel loads it. -/
def rowB (k : Fin 8) : Vec F S1x128x128 .bf16 :=
  bM.view.readAt (Elt F) (Rect.unit (s := S8x128x128) ![k.val, 0, 0] S1x128x128.size (inb_b k)).toLoadRect (Gb m)

/-- The result, the same on every device. -/
def outv : (cc0_stg1_0 : Ref sig .tc).ty.Contents (Elt F) :=
  fun i : S8x128x128.Idx => k0_pay63 (rowB m (i 0)) (ix3 (0 : Fin 1) (i 1) (i 2))

end Cert.Att

end
-- ==== Proof.Proto.lean ====
/-
# The protocol between the devices

Every device has 21 semaphores that other devices or its own remote copies raise: the barrier, three for the blocks
it sends along its `y` axis, three for those it receives, seven for the blocks it sends over its `x`–`z` plane and
seven for those it receives. Each is one cell of one round:

* a unit on the barrier cell of `d` comes from one of the ten devices that `d` will write to, and hands `d` the slot
  of that device's buffer that `d` writes;
* a send cell gives a device back the share of its own slot that the copy read;
* a receive cell gives a device its slot holding the block the sender had.
-/
module

public import proofs.«01_k».proof.Proof.Fam
public import proofs.«01_k».proof.Proof.Contents

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers

variable {F : FTy → Type} [FloatOps F]

/-! ## The resource algebra -/

abbrev UB : Type := URounds (GSem nD τ sig) (Fin 16)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

abbrev 𝒱₀ : Variants := Variants.none

variable (m : (ℓ : Loc nD τ sig) → Buf (Elt F) ℓ)

/-! ## The cells -/

/-- Semaphore `i`: the barrier, then the send and receive semaphores of the two exchanges. -/
def csem (i : Fin 21) : SemLoc sig := if i.val = 0 then .reg barrier0 else .dma (⟨33 + i.val, by omega⟩ : Fin 54)
/-- The number of a semaphore, past the last for one outside the protocol. -/
def num : SemLoc sig → ℕ
  | .reg _ => 0
  | .dma q => if 34 ≤ (q : Fin 54).val then (q : Fin 54).val - 33 else 99

theorem num_csem : ∀ i : Fin 21, num (csem i) = i.val := by decide
theorem csem_inj : Function.Injective csem := fun i j h => Fin.ext (by rw [← num_csem i, ← num_csem j, h])

abbrev cell (c : Dev nD) (i : Fin 21) : GSem nD τ sig := ((c : Thread nD τ), csem i)

theorem cell_inj {a b : Dev nD} {i j : Fin 21} (h : cell a i = cell b j) : a = b ∧ i = j :=
  ⟨Fin.ext (congrArg (fun g : GSem nD τ sig => g.1.1.val) h), csem_inj (congrArg Prod.snd h)⟩

/-! ## Slots -/

def slotA (k : ℕ) : Finset S4x256x128.Idx := Finset.univ.filter fun i => (i 0).val = k
def slotB (k : ℕ) : Finset S8x128x128.Idx := Finset.univ.filter fun i => (i 0).val = k

def ptA (d : Dev nD) (k : ℕ) (q : PosShare TreeShare) (f : (cc0_scratch4 : Ref sig .tc).ty.Contents (Elt F)) : sProp 𝕄 :=
  ((d : Thread nD τ).loc cc0_scratch4) ↦[slotA k]{q} f
def ptB (d : Dev nD) (k : ℕ) (q : PosShare TreeShare) (f : (cc0_scratch5 : Ref sig .tc).ty.Contents (Elt F)) : sProp 𝕄 :=
  ((d : Thread nD τ).loc cc0_scratch5) ↦[slotB k]{q} f

/-! ## The schedule -/

abbrev slA (off : Fin 3 → ℕ) (inb : ∀ a, off a + S1x256x128.size a ≤ S4x256x128.size a) : Memref sig .tc .vmem S256x128 .bf16 :=
  (aM.slice (Rect.unit (s := S4x256x128) off S1x256x128.size inb) (fun _ => rfl)).squeeze S256x128 squeezes_S1x256x128_S256x128
abbrev slB (off : Fin 3 → ℕ) (inb : ∀ a, off a + S1x128x128.size a ≤ S8x128x128.size a) : Memref sig .tc .vmem S128x128 .bf16 :=
  (bM.slice (Rect.unit (s := S8x128x128) off S1x128x128.size inb) (fun _ => rfl)).squeeze S128x128 squeezes_S1x128x128_S128x128

/-- What one copy of the first exchange raises its semaphores by. -/
def NA : ℕ := (slA ![0, 0, 0] (inb_a 0)).view.dmaCredit
/-- What one copy of the second exchange raises its semaphores by. -/
def NB : ℕ := (slB ![0, 0, 0] (inb_b 0)).view.dmaCredit
theorem NA_pos : 0 < NA := View.dmaCredit_pos _ (by decide)
theorem NB_pos : 0 < NB := View.dmaCredit_pos _ (by decide)

/-- What a unit on the barrier of `c` hands `c`, by who paid it. -/
def barPay (c : Dev nD) (d : Fin 16) : sProp 𝕄 :=
  if d.val < 4 then iprop(∃ f, ptA (ysh (Fin.ofNat 4 d.val) c) (yof c) fullShare f)
  else iprop(∃ f, ptB (bsh (Fin.ofNat 8 (d.val - 8)) c) (bof c) fullShare f)

/-- What the round of cell number `n` of `c` hands `c`. -/
def pay (c : Dev nD) (n : ℕ) (d : Fin 16) : sProp 𝕄 :=
  if n = 0 then barPay c d
  else if n < 4 then ptA c (yof c) (shareTokN fullShare (n - 1)) (Ga m c)
  else if n < 7 then ptA c (fromY c (n - 4)) fullShare (Ga m c)
  else if n < 14 then ptB c (bof c) (shareTokN fullShare (n - 7)) (Gb m)
  else ptB c (fromB c (n - 14)) fullShare (Gb m)

def dutiesOf (n : ℕ) : Finset (Fin 16) := if n = 0 then {1, 2, 3, 9, 10, 11, 12, 13, 14, 15} else {0}
def amt (n : ℕ) : ℕ := if n = 0 then 1 else if n < 7 then NA else NB

def Rd : Rounds.Schedule (GSem nD τ sig) (Fin 16) 𝕄 where
  duties g r := if r = 0 ∧ g.1.2 = .tc ∧ num g.2 < 21 then dutiesOf (num g.2) else ∅
  unitless _ := False
  amount g _ _ := amt (num g.2)
  payload g _ d := pay m g.1.1 (num g.2) d
  amount_pos g _ _ _ := by
    unfold amt; split
    · exact Nat.one_pos
    · split
      · exact NA_pos
      · exact NB_pos

omit [FloatOps F] in
instance ptA_storable (d : Dev nD) (k : ℕ) (q) (f) : BI.Storable (upEmb : UEmb _ 𝕄) (ptA (F := F) d k q f) := by unfold ptA; infer_instance
omit [FloatOps F] in
instance ptB_storable (d : Dev nD) (k : ℕ) (q) (f) : BI.Storable (upEmb : UEmb _ 𝕄) (ptB (F := F) d k q f) := by unfold ptB; infer_instance

instance Rd_payload_storable (g : GSem nD τ sig) (r : ℕ) (d : Fin 16) :
    BI.Storable (upEmb : UEmb _ 𝕄) ((Rd (F := F) m).payload g r d) := by
  show BI.Storable upEmb (pay m g.1.1 (num g.2) d)
  unfold pay barPay
  (repeat' split) <;> infer_instance

section Sched
variable (c : Dev nD) (i : Fin 21)

theorem duties_cell : (Rd m).duties (cell c i) 0 = dutiesOf i.val := by
  dsimp only [Rd]; rw [num_csem]; exact if_pos ⟨rfl, rfl, i.isLt⟩
theorem duties_later (g : GSem nD τ sig) : ∀ r, 0 + 1 ≤ r → (Rd m).duties g r = ∅ :=
  fun r hr => by dsimp only [Rd]; exact if_neg fun h => by omega
theorem amount_cell (d : Fin 16) : (Rd m).amount (cell c i) 0 d = amt i.val := by dsimp only [Rd]; rw [num_csem]
theorem payload_cell (d : Fin 16) : (Rd m).payload (cell c i) 0 d = pay m c i.val d := by dsimp only [Rd]; rw [num_csem]
theorem expect_bar : (Rd m).expect (cell c 0) 0 = 10 := by
  unfold Schedule.expect Schedule.amountOf
  rw [duties_cell, Finset.sum_congr rfl fun d _ => amount_cell m c 0 d, Finset.sum_const]
  rfl
theorem expect_cell (h : 0 < i.val) : (Rd m).expect (cell c i) 0 = amt i.val := by
  unfold Schedule.expect Schedule.amountOf
  rw [duties_cell, Finset.sum_congr rfl fun d _ => amount_cell m c i d, dutiesOf, if_neg (by omega), Finset.sum_singleton]
theorem rest_cell (h : 0 < i.val) :
    bigSep ((Rd m).duties (cell c i) 0 \ ∅) (fun d => (Rd m).payload (cell c i) 0 d) = pay m c i.val 0 := by
  rw [Finset.sdiff_empty, duties_cell, dutiesOf, if_neg (by omega), bigSep_singleton, payload_cell]

end Sched

/-! ## What a device pays, in program order -/

/-- The device the `t`-th payment goes to: ten barrier signals, then three and seven remote copies. -/
def peer : Fin 20 → (Dev nD ≃ Dev nD) :=
  ![ysh 1, ysh 2, ysh 3, bsh 1, bsh 2, bsh 3, bsh 4, bsh 5, bsh 6, bsh 7,
    ysh 1, ysh 2, ysh 3, bsh 1, bsh 2, bsh 3, bsh 4, bsh 5, bsh 6, bsh 7]
/-- The number of the cell it pays. -/
def pidx : Fin 20 → Fin 21 := ![0, 0, 0, 0, 0, 0, 0, 0, 0, 0, 4, 5, 6, 14, 15, 16, 17, 18, 19, 20]
/-- The duty it pays. -/
def pduty : Fin 20 → Fin 16 := ![3, 2, 1, 15, 14, 13, 12, 11, 10, 9, 0, 0, 0, 0, 0, 0, 0, 0, 0, 0]
/-- The cells of a device's own ten copies. -/
def sidx : Fin 10 → Fin 21 := ![1, 2, 3, 7, 8, 9, 10, 11, 12, 13]

abbrev pcell (t : Fin 20) (c : Dev nD) : GSem nD τ sig := cell (peer t c) (pidx t)

/-- What device `c` still owes from its `n`-th payment on. -/
def owedFrom (c : Dev nD) (n : ℕ) : CellTallies nD τ sig Unit :=
  ∑ t ∈ (Finset.univ : Finset (Fin 20)).filter (fun t => n ≤ t.val), tallyAt (pcell t c) () (amt (pidx t).val)

theorem owedFrom_peel (c : Dev nD) (t : Fin 20) :
    owedFrom c t.val = owedFrom c (t.val + 1) + tallyAt (pcell t c) () (amt (pidx t).val) := by
  unfold owedFrom
  rw [show (Finset.univ : Finset (Fin 20)).filter (fun u => t.val ≤ u.val) = insert t (Finset.univ.filter fun u : Fin 20 => t.val + 1 ≤ u.val) from by
      ext u; simp only [Finset.mem_filter, Finset.mem_univ, true_and, Finset.mem_insert]
      constructor
      · intro h
        by_cases hu : u = t
        · exact .inl hu
        · exact .inr (by have : u.val ≠ t.val := fun h' => hu (Fin.ext h'); omega)
      · rintro (rfl | h) <;> omega,
    Finset.sum_insert (by simp), add_comm]

theorem owedFrom_end (c : Dev nD) : owedFrom c 20 = 0 := by
  unfold owedFrom
  rw [Finset.filter_false_of_mem (fun t _ => by have := t.isLt; omega), Finset.sum_empty]

theorem owedFrom_apply (c : Dev nD) (n : ℕ) (g : GSem nD τ sig) (u : Unit) :
    owedFrom c n g u = ∑ t ∈ (Finset.univ : Finset (Fin 20)).filter (fun t => n ≤ t.val), (if pcell t c = g then amt (pidx t).val else 0) := by
  unfold owedFrom
  rw [Finset.sum_apply, Finsupp.finset_sum_apply]
  refine Finset.sum_congr rfl fun t _ => ?_
  rw [tallyAt_apply]
  by_cases h : pcell t c = g
  · rw [if_pos h, if_pos ⟨h.symm, rfl⟩]
  · rw [if_neg h, if_neg (fun h' => h h'.1.symm)]

theorem owedFrom_pos {c : Dev nD} {n : ℕ} {g : GSem nD τ sig} {u : Unit} (h : 0 < owedFrom c n g u) :
    ∃ t : Fin 20, n ≤ t.val ∧ g = pcell t c := by
  rw [owedFrom_apply] at h
  by_contra hn
  refine absurd h (Nat.not_lt.mpr (Nat.le_of_eq (Finset.sum_eq_zero fun t ht => if_neg fun hg => hn ⟨t, (Finset.mem_filter.mp ht).2, hg.symm⟩)))

/-! ## Levels -/

def L (g : GSem nD τ sig) : Finset Unit := if g.1.2 = .tc then {()} else ∅
/-- Barrier cells below the first exchange's receive cells, those below the second's; everything else at the bottom. -/
def lvn (n : ℕ) : ℕ := if n = 0 then 1 else if n < 4 then 0 else if n < 7 then 2 else if n < 14 then 0 else if n < 21 then 3 else 0
def lv (g : GSem nD τ sig) (_ : Unit) : ℕ := lvn (num g.2)

theorem L_of_ne (g : GSem nD τ sig) (h : g.1.2 ≠ .tc) : L g = ∅ := if_neg h
theorem L_tc (c : Dev nD) (sm : SemLoc sig) : L ((c : Thread nD τ), sm) = {()} := if_pos rfl

/-- A device may wait on a semaphore below every cell it still owes. -/
theorem mayWait (c : Dev nD) (sm : SemLoc sig) (n : ℕ) (h : ∀ t : Fin 20, n ≤ t.val → lvn (num sm) < lvn (pidx t).val) :
    (levAts L lv : sProp 𝕄) ⊢ MayWait (c : Thread nD τ) sm () (owedFrom c n) :=
  MayOwe.of_cut (L := L) (lev := lv) (lvn (num sm)) (fun p hp => by rw [Finset.mem_singleton.mp hp, L_tc]; exact Finset.mem_singleton_self _)
    (fun g u hg => by obtain ⟨t, -, rfl⟩ := owedFrom_pos hg; exact Finset.mem_singleton_self _)
    (fun p hp => by rw [Finset.mem_singleton.mp hp]; exact le_refl _)
    (fun g u hg => by
      obtain ⟨t, ht, rfl⟩ := owedFrom_pos hg
      have := h t ht
      dsimp only [lv]; rw [num_csem]; exact this)

/-! ## What every device knows -/

/-- Every cell's invariant, and that every cell is open at its round. -/
def records (K : Dev nD × Fin 21 → ℕ) : sProp 𝕄 :=
  iprop((bigSep Finset.univ fun ck : Dev nD × Fin 21 => cellInv ER (Rd m) (K ck) (cell ck.1 ck.2))
    ∗ (bigSep Finset.univ fun ck : Dev nD × Fin 21 => reached ER (cell ck.1 ck.2) 0) ∗ levAts L lv)

instance records_persistent (K : Dev nD × Fin 21 → ℕ) : BI.Persistent (records m K) := by unfold records; infer_instance

theorem records_inv (K : Dev nD × Fin 21 → ℕ) (c : Dev nD) (i : Fin 21) : records m K ⊢ cellInv ER (Rd m) (K (c, i)) (cell c i) :=
  by unfold records; exact (sep_elim_left).trans (bigSep_elim (Finset.mem_univ (c, i)))
theorem records_reached (K : Dev nD × Fin 21 → ℕ) (c : Dev nD) (i : Fin 21) : records m K ⊢ reached ER (cell c i) 0 :=
  by unfold records; exact (sep_elim_right).trans ((sep_elim_left).trans (bigSep_elim (Finset.mem_univ (c, i))))
theorem records_lev (K : Dev nD × Fin 21 → ℕ) : records m K ⊢ levAts L lv :=
  by unfold records; exact (sep_elim_right).trans sep_elim_right

/-- Device `c` owes its payments from the `n`-th on. -/
def OW (c : Dev nD) (n : ℕ) : sProp 𝕄 := iprop(∃ W, owes (c : Thread nD τ) (owedFrom c n) W)

end Cert.Att

end
-- ==== Proof.Views.lean ====
/-
# The slices the kernel copies and loads

Each slice the kernel takes of a buffer is one slot of it: the elements it covers and where its entries lie.
-/
module

public import proofs.«01_k».proof.Proof.Proto
public import Idealize.ShloMosaic.Lib.ViewIndex

@[expose] public section

set_option maxRecDepth 16384

noncomputable section

namespace Cert.Att

open Cert.KernelIdeal Cert.KernelIdeal.Gen
open Idealize.ShloMosaic Idealize.ShloMosaic.TcCoe Idealize.ShloMosaic.ValueIdx

variable {F : FTy → Type} [FloatOps F]

abbrev slKV (M : Memref sig .tc .vmem S16x1024x128 .f32) (off : Fin 3 → ℕ) (inb : ∀ a, off a + S1x1024x128.size a ≤ S16x1024x128.size a) :
    Memref sig .tc .vmem S1024x128 .f32 :=
  (M.slice (Rect.unit (s := S16x1024x128) off S1x1024x128.size inb) (fun _ => rfl)).squeeze S1024x128 squeezes_S1x1024x128_S1024x128
abbrev slArg (M : Memref sig .tc .hbm S8x1024x16x128 .f32) (off : Fin 4 → ℕ) (inb : ∀ a, off a + S1x1024x1x128.size a ≤ S8x1024x16x128.size a) :
    Memref sig .tc .hbm S1024x128 .f32 :=
  (M.slice (Rect.unit (s := S8x1024x16x128) off S1x1024x1x128.size inb) (fun _ => rfl)).squeeze S1024x128 squeezes_S1x1024x1x128_S1024x128

def slotK (h : ℕ) : Finset S16x1024x128.Idx := Finset.univ.filter fun i => (i 0).val = h
def srcK (b h : ℕ) : Finset S8x1024x16x128.Idx := Finset.univ.filter fun i => (i 0).val = b ∧ (i 2).val = h

theorem reshape_1024x128 (x : Fin 1024) (y : Fin 128) (h : S1024x128.numel = S1x1024x1x128.numel) :
    Shape.reshapeEquiv h (ix2 x y) = (ix4 (0 : Fin 1) x (0 : Fin 1) y : S1x1024x1x128.Idx) :=
  Shape.reshapeEquiv_eq_of_rowMajor h (by
    rw [Shape.rowMajor_val_four, Shape.rowMajor_val_two]
    show ((0 * 1024 + x.val) * 1 + 0) * 128 + y.val = x.val * 128 + y.val
    omega)

/-- A slice's elements are its entries' places. -/
theorem set_eq {n0 n1 : ℕ} {κ : Kind} {sp : Space} {e : EltTy} (v : View sig κ sp ⟨2, ![n0, n1]⟩ e) (S : Finset v.ty.Idx)
    (g : Fin n0 → Fin n1 → v.ty.Idx) (hg : ∀ x y, v.emb (ix2 x y) = g x y) (hS : ∀ i, i ∈ S ↔ ∃ x y, g x y = i) : v.set = S := by
  ext i; rw [hS]
  show i ∈ Finset.univ.map v.emb ↔ _
  simp only [Finset.mem_map, Finset.mem_univ, true_and]
  constructor
  · rintro ⟨j, rfl⟩; exact ⟨j 0, j 1, (hg (j 0) (j 1)).symm.trans (congrArg v.emb (eq_ix2 j).symm)⟩
  · rintro ⟨x, y, rfl⟩; exact ⟨ix2 x y, hg x y⟩

theorem mem_slotK (h : Fin 16) (i : S16x1024x128.Idx) : i ∈ slotK h.val ↔ ∃ (x : Fin 1024) (y : Fin 128), (ix3 h x y : S16x1024x128.Idx) = i := by
  unfold slotK; simp only [Finset.mem_filter, Finset.mem_univ, true_and]
  constructor
  · intro hi
    refine ⟨i 1, i 2, ?_⟩
    rw [eq_ix3 i]
    exact congrArg (fun a => ix3 a (i 1) (i 2)) (Fin.ext hi.symm)
  · rintro ⟨x, y, rfl⟩; rfl
theorem mem_srcK (b : Fin 8) (h : Fin 16) (i : S8x1024x16x128.Idx) :
    i ∈ srcK b.val h.val ↔ ∃ (x : Fin 1024) (y : Fin 128), (ix4 b x h y : S8x1024x16x128.Idx) = i := by
  unfold srcK; simp only [Finset.mem_filter, Finset.mem_univ, true_and]
  constructor
  · rintro ⟨hb, hh⟩
    refine ⟨i 1, i 3, Eq.trans ?_ (eq_ix4 i).symm⟩
    rw [show b = i 0 from Fin.ext hb.symm, show h = i 2 from Fin.ext hh.symm]
    rfl
  · rintro ⟨x, y, rfl⟩; exact ⟨rfl, rfl⟩
theorem mem_slotA (k : Fin 4) (i : S4x256x128.Idx) : i ∈ slotA k.val ↔ ∃ (x : Fin 256) (y : Fin 128), (ix3 k x y : S4x256x128.Idx) = i := by
  unfold slotA; simp only [Finset.mem_filter, Finset.mem_univ, true_and]
  constructor
  · intro hi
    refine ⟨i 1, i 2, ?_⟩
    rw [eq_ix3 i]
    exact congrArg (fun a => ix3 a (i 1) (i 2)) (Fin.ext hi.symm)
  · rintro ⟨x, y, rfl⟩; rfl
theorem mem_slotB (k : Fin 8) (i : S8x128x128.Idx) : i ∈ slotB k.val ↔ ∃ (x : Fin 128) (y : Fin 128), (ix3 k x y : S8x128x128.Idx) = i := by
  unfold slotB; simp only [Finset.mem_filter, Finset.mem_univ, true_and]
  constructor
  · intro hi
    refine ⟨i 1, i 2, ?_⟩
    rw [eq_ix3 i]
    exact congrArg (fun a => ix3 a (i 1) (i 2)) (Fin.ext hi.symm)
  · rintro ⟨x, y, rfl⟩; rfl

section
variable (h : Fin 16) (off : Fin 3 → ℕ) (inb : ∀ a, off a + S1x1024x128.size a ≤ S16x1024x128.size a) (ho : off = ![h.val, 0, 0])
include ho

theorem rect_k (x : Fin 1024) (y : Fin 128) :
    (Rect.unit (s := S16x1024x128) off S1x1024x128.size inb).emb (ix3 (0 : Fin 1) x y : S1x1024x128.Idx) = (ix3 h x y : S16x1024x128.Idx) := by
  subst ho
  funext a; apply Fin.ext; fin_cases a
  · show h.val + 1 * 0 = h.val; omega
  · show 0 + 1 * x.val = x.val; omega
  · show 0 + 1 * y.val = y.val; omega
theorem emb_k (x : Fin 1024) (y : Fin 128) : (slKV kM off inb).view.emb (ix2 x y) = (ix3 h x y : S16x1024x128.Idx) :=
  (congrArg _ (reshapeEquiv_ix2_1ab _ x y)).trans (rect_k h off inb ho x y)
theorem emb_v (x : Fin 1024) (y : Fin 128) : (slKV vM off inb).view.emb (ix2 x y) = (ix3 h x y : S16x1024x128.Idx) :=
  (congrArg _ (reshapeEquiv_ix2_1ab _ x y)).trans (rect_k h off inb ho x y)
theorem set_k : (slKV kM off inb).view.set = slotK h.val :=
  set_eq _ _ (fun x y => (ix3 h x y : S16x1024x128.Idx)) (emb_k h off inb ho) (mem_slotK h)
theorem set_v : (slKV vM off inb).view.set = slotK h.val :=
  set_eq _ _ (fun x y => (ix3 h x y : S16x1024x128.Idx)) (emb_v h off inb ho) (mem_slotK h)
end

section
variable (b : Fin 8) (h : Fin 16) (off : Fin 4 → ℕ) (inb : ∀ a, off a + S1x1024x1x128.size a ≤ S8x1024x16x128.size a) (ho : off = ![b.val, 0, h.val, 0])
include ho

theorem rect_src (x : Fin 1024) (y : Fin 128) :
    (Rect.unit (s := S8x1024x16x128) off S1x1024x1x128.size inb).emb (ix4 (0 : Fin 1) x (0 : Fin 1) y : S1x1024x1x128.Idx) = (ix4 b x h y : S8x1024x16x128.Idx) := by
  subst ho
  funext a; apply Fin.ext; fin_cases a
  · show b.val + 1 * 0 = b.val; omega
  · show 0 + 1 * x.val = x.val; omega
  · show h.val + 1 * 0 = h.val; omega
  · show 0 + 1 * y.val = y.val; omega
theorem emb_argK (x : Fin 1024) (y : Fin 128) : (slArg argKM off inb).view.emb (ix2 x y) = (ix4 b x h y : S8x1024x16x128.Idx) :=
  (congrArg _ (reshape_1024x128 x y _)).trans (rect_src b h off inb ho x y)
theorem emb_argV (x : Fin 1024) (y : Fin 128) : (slArg argVM off inb).view.emb (ix2 x y) = (ix4 b x h y : S8x1024x16x128.Idx) :=
  (congrArg _ (reshape_1024x128 x y _)).trans (rect_src b h off inb ho x y)
theorem set_argK : (slArg argKM off inb).view.set = srcK b.val h.val :=
  set_eq _ _ (fun x y => (ix4 b x h y : S8x1024x16x128.Idx)) (emb_argK b h off inb ho) (mem_srcK b h)
theorem set_argV : (slArg argVM off inb).view.set = srcK b.val h.val :=
  set_eq _ _ (fun x y => (ix4 b x h y : S8x1024x16x128.Idx)) (emb_argV b h off inb ho) (mem_srcK b h)
end

section
variable (k : Fin 4) (off : Fin 3 → ℕ) (inb : ∀ a, off a + S1x256x128.size a ≤ S4x256x128.size a) (ho : off = ![k.val, 0, 0])
include ho
theorem rect_a (x : Fin 256) (y : Fin 128) :
    (Rect.unit (s := S4x256x128) off S1x256x128.size inb).emb (ix3 (0 : Fin 1) x y : S1x256x128.Idx) = (ix3 k x y : S4x256x128.Idx) := by
  subst ho
  funext a; apply Fin.ext; fin_cases a
  · show k.val + 1 * 0 = k.val; omega
  · show 0 + 1 * x.val = x.val; omega
  · show 0 + 1 * y.val = y.val; omega
theorem emb_a (x : Fin 256) (y : Fin 128) : (slA off inb).view.emb (ix2 x y) = (ix3 k x y : S4x256x128.Idx) :=
  (congrArg _ (reshapeEquiv_ix2_1ab _ x y)).trans (rect_a k off inb ho x y)
theorem set_a : (slA off inb).view.set = slotA k.val :=
  set_eq _ _ (fun x y => (ix3 k x y : S4x256x128.Idx)) (emb_a k off inb ho) (mem_slotA k)
end

section
variable (k : Fin 8) (off : Fin 3 → ℕ) (inb : ∀ a, off a + S1x128x128.size a ≤ S8x128x128.size a) (ho : off = ![k.val, 0, 0])
include ho
theorem rect_b (x : Fin 128) (y : Fin 128) :
    (Rect.unit (s := S8x128x128) off S1x128x128.size inb).emb (ix3 (0 : Fin 1) x y : S1x128x128.Idx) = (ix3 k x y : S8x128x128.Idx) := by
  subst ho
  funext a; apply Fin.ext; fin_cases a
  · show k.val + 1 * 0 = k.val; omega
  · show 0 + 1 * x.val = x.val; omega
  · show 0 + 1 * y.val = y.val; omega
theorem emb_b (x : Fin 128) (y : Fin 128) : (slB off inb).view.emb (ix2 x y) = (ix3 k x y : S8x128x128.Idx) :=
  (congrArg _ (reshapeEquiv_ix2_1ab _ x y)).trans (rect_b k off inb ho x y)
theorem set_b : (slB off inb).view.set = slotB k.val :=
  set_eq _ _ (fun x y => (ix3 k x y : S8x128x128.Idx)) (emb_b k off inb ho) (mem_slotB k)
end

/-! ## What a copy leaves -/

variable (m : (ℓ : Loc nD τ sig) → Buf (Elt F) ℓ)

/-- Copying head `h` of the keys leaves `KB` on its slot. -/
theorem copied_k (c : Dev nD) (h : Fin 16) (off inb offs inbs) (ho : off = ![h.val, 0, 0]) (hs : offs = ![bof c, 0, h.val, 0])
    (fd : (cc0_scratch0 : Ref sig .tc).ty.Contents (Elt F)) (i : S16x1024x128.Idx) (hi : i ∈ slotK h.val) :
    (slKV kM off inb).view.write (Elt F) fd ((slArg argKM offs inbs).view.read (Elt F) (m ((c : Thread nD τ).loc main_arg1))) Finset.univ i = KB m c i := by
  obtain ⟨x, y, rfl⟩ := (mem_slotK h i).mp hi
  have e1 := emb_k h off inb ho x y
  have e2 := emb_argK ⟨bof c, bof_lt c⟩ h offs inbs hs x y
  rw [← e1]
  rw [View.write_emb_of_mem _ _ (Finset.mem_univ _)]
  show m ((c : Thread nD τ).loc main_arg1) ((slArg argKM offs inbs).view.emb (ix2 x y)) = _
  rw [e2, e1]; rfl
theorem copied_v (c : Dev nD) (h : Fin 16) (off inb offs inbs) (ho : off = ![h.val, 0, 0]) (hs : offs = ![bof c, 0, h.val, 0])
    (fd : (cc0_scratch1 : Ref sig .tc).ty.Contents (Elt F)) (i : S16x1024x128.Idx) (hi : i ∈ slotK h.val) :
    (slKV vM off inb).view.write (Elt F) fd ((slArg argVM offs inbs).view.read (Elt F) (m ((c : Thread nD τ).loc main_arg2))) Finset.univ i = VB m c i := by
  obtain ⟨x, y, rfl⟩ := (mem_slotK h i).mp hi
  have e1 := emb_v h off inb ho x y
  have e2 := emb_argV ⟨bof c, bof_lt c⟩ h offs inbs hs x y
  rw [← e1]
  rw [View.write_emb_of_mem _ _ (Finset.mem_univ _)]
  show m ((c : Thread nD τ).loc main_arg2) ((slArg argVM offs inbs).view.emb (ix2 x y)) = _
  rw [e2, e1]; rfl

/-- Copying slot `k` of the first exchange's buffer leaves its contents there. -/
theorem copied_a (k : Fin 4) (off inb off' inb') (ho : off = ![k.val, 0, 0]) (ho' : off' = ![k.val, 0, 0])
    (fd fs : (cc0_scratch4 : Ref sig .tc).ty.Contents (Elt F)) (i : S4x256x128.Idx) (hi : i ∈ slotA k.val) :
    (slA off inb).view.write (Elt F) fd ((slA off' inb').view.read (Elt F) fs) Finset.univ i = fs i := by
  obtain ⟨x, y, rfl⟩ := (mem_slotA k i).mp hi
  have e1 := emb_a k off inb ho x y
  have e2 := emb_a k off' inb' ho' x y
  rw [← e1]
  rw [View.write_emb_of_mem _ _ (Finset.mem_univ _)]
  show fs ((slA off' inb').view.emb (ix2 x y)) = _
  rw [e2, e1]
theorem copied_b (k : Fin 8) (off inb off' inb') (ho : off = ![k.val, 0, 0]) (ho' : off' = ![k.val, 0, 0])
    (fd fs : (cc0_scratch5 : Ref sig .tc).ty.Contents (Elt F)) (i : S8x128x128.Idx) (hi : i ∈ slotB k.val) :
    (slB off inb).view.write (Elt F) fd ((slB off' inb').view.read (Elt F) fs) Finset.univ i = fs i := by
  obtain ⟨x, y, rfl⟩ := (mem_slotB k i).mp hi
  have e1 := emb_b k off inb ho x y
  have e2 := emb_b k off' inb' ho' x y
  rw [← e1]
  rw [View.write_emb_of_mem _ _ (Finset.mem_univ _)]
  show fs ((slB off' inb').view.emb (ix2 x y)) = _
  rw [e2, e1]

end Cert.Att

end
-- ==== Proof.OpsHead.lean ====
/-
# The local copies, the barrier and the heads: one rule per operation

Each operation of the kernel's first half, as a step of the state it changes.
-/
module

public import proofs.«01_k».proof.Proof.Views

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × Fin 21 → ℕ)

/-! ## Semaphores of the local copies -/

abbrev semK (n : ℕ) (inb : ∀ a, (![n] : Fin 1 → ℕ) a + S1.size a ≤ S16.size a) : DmaSem sig :=
  ((cc0_scratch6.slice (Rect.unit (s := S16) ![n] S1.size inb)).squeeze S_ squeezes_S1_S_).sem
abbrev semV (n : ℕ) (inb : ∀ a, (![n] : Fin 1 → ℕ) a + S1.size a ≤ S16.size a) : DmaSem sig :=
  ((cc0_scratch7.slice (Rect.unit (s := S16) ![n] S1.size inb)).squeeze S_ squeezes_S1_S_).sem

def kSem (h : Fin 16) : DmaSem sig := (⟨2 + h.val, by omega⟩ : Fin 54)
def vSem (h : Fin 16) : DmaSem sig := (⟨18 + h.val, by omega⟩ : Fin 54)

theorem semK_eq (n : ℕ) (hn : n < 16) (inb) : semK n inb = kSem ⟨n, hn⟩ := by interval_cases n <;> decide +revert
theorem semV_eq (n : ℕ) (hn : n < 16) (inb) : semV n inb = vSem ⟨n, hn⟩ := by interval_cases n <;> decide +revert

def NK : ℕ := (slKV kM ![0, 0, 0] (inb_kv 0)).view.dmaCredit
def NV : ℕ := (slKV vM ![0, 0, 0] (inb_kv 0)).view.dmaCredit
theorem NK_pos : 0 < NK := View.dmaCredit_pos _ (by decide)
theorem NV_pos : 0 < NV := View.dmaCredit_pos _ (by decide)

/-! ## The key and value copies -/

def srcKpt (c : Dev nD) (h : Fin 16) : sProp 𝕄 :=
  ((c : Thread nD τ).loc main_arg1) ↦[srcK (bof c) h.val]{fullShare} m ((c : Thread nD τ).loc main_arg1)
def srcVpt (c : Dev nD) (h : Fin 16) : sProp 𝕄 :=
  ((c : Thread nD τ).loc main_arg2) ↦[srcK (bof c) h.val]{fullShare} m ((c : Thread nD τ).loc main_arg2)
def dstKpt (c : Dev nD) (h : Fin 16) (f : (cc0_scratch0 : Ref sig .tc).ty.Contents (Elt F)) : sProp 𝕄 :=
  ((c : Thread nD τ).loc cc0_scratch0) ↦[slotK h.val]{fullShare} f
def dstVpt (c : Dev nD) (h : Fin 16) (f : (cc0_scratch1 : Ref sig .tc).ty.Contents (Elt F)) : sProp 𝕄 :=
  ((c : Thread nD τ).loc cc0_scratch1) ↦[slotK h.val]{fullShare} f

def kIdle (c : Dev nD) (h : Fin 16) : sProp 𝕄 :=
  iprop(srcKpt m c h ∗ (∃ f, dstKpt c h f) ∗ semVal ((c : Thread nD τ), .dma (kSem h)) 0)
def kFly (c : Dev nD) (h : Fin 16) : sProp 𝕄 :=
  Flight EC (c : Thread nD τ) (.dma (kSem h)) () NK iprop(dstKpt c h (KB m c) ∗ srcKpt m c h)
def kDone (c : Dev nD) (h : Fin 16) : sProp 𝕄 :=
  iprop((dstKpt c h (KB m c) ∗ srcKpt m c h) ∗ semVal ((c : Thread nD τ), .dma (kSem h)) 0)
def vIdle (c : Dev nD) (h : Fin 16) : sProp 𝕄 :=
  iprop(srcVpt m c h ∗ (∃ f, dstVpt c h f) ∗ semVal ((c : Thread nD τ), .dma (vSem h)) 0)
def vFly (c : Dev nD) (h : Fin 16) : sProp 𝕄 :=
  Flight EC (c : Thread nD τ) (.dma (vSem h)) () NV iprop(dstVpt c h (VB m c) ∗ srcVpt m c h)
def vDone (c : Dev nD) (h : Fin 16) : sProp 𝕄 :=
  iprop((dstVpt c h (VB m c) ∗ srcVpt m c h) ∗ semVal ((c : Thread nD τ), .dma (vSem h)) 0)

/-- While the copies are issued: `p` of the keys', `q` of the values'. -/
def CP (c : Dev nD) (p q : ℕ) : sProp 𝕄 := iprop(fam (kIdle m c) (kFly m c) p ∗ fam (vIdle m c) (vFly m c) q)

theorem wp_copyK (c : Dev nD) (p q : ℕ) (hp : p < 16) {offs inb inbs inbsm} (hs : offs = ![bof c, 0, p, 0])
    {hsrc hdst hsem} {α : Type} {Q : α → sProp 𝕄} {k : PUnit → Prog (TpuEff nD τ sig (Elt F) Λ₀ .tc) α} :
    CP m c p q ⊢ iprop((CP m c (p + 1) q -∗ WP c (k ⟨⟩) Q)
      -∗ WP c (.op (.enqueueDma (slArg argKM offs inbs) (.here (slKV kM ![p, 0, 0] inb)) (.dma (semK p inbsm)) hsrc hdst hsem) k) Q) := by
  have e := fam_take (kIdle m c) (kFly m c) ⟨p, hp⟩
  have hset := set_k ⟨p, hp⟩ ![p, 0, 0] inb rfl
  have hset' := set_argK ⟨bof c, bof_lt c⟩ ⟨p, hp⟩ offs inbs hs
  have hc := copied_k m c ⟨p, hp⟩ ![p, 0, 0] inb offs inbs rfl hs
  rw [show (SemLoc.dma (semK p inbsm) : SemLoc sig) = .dma (kSem ⟨p, hp⟩) from congrArg _ (semK_eq p hp inbsm)] at hsem
  simp only [semK_eq p hp inbsm]
  unfold CP
  iintro ⟨HK, HV⟩ Hk
  ihave HK' := e $$ HK
  icases HK' with ⟨HA, HB⟩
  unfold kIdle srcKpt dstKpt
  icases HA with ⟨Hs, ⟨%f, Hd⟩, Hz⟩
  iapply (Transfers.wp_dmaLocal EC 𝒱₀ (c : Thread nD τ) none (src := slArg argKM offs inbs) (dst := slKV kM ![p, 0, 0] inb) (Sd := slotK p) (fd := f)
    (fs := m ((c : Thread nD τ).loc main_arg1)) (q := fullShare) () NK rfl NK_pos (by rw [hset])) $$ [Hs Hd Hz]
  · isplitl [Hs]; · rw [hset']; iexact Hs
    isplitl [Hd]; · iexact Hd
    iexact Hz
  iintro HF
  iapply Hk
  isplitl [HB HF]
  · iapply HB
    unfold kFly
    iapply (Transfers.Flight_mono EC (c : Thread nD τ) ?_) $$ HF
    unfold dstKpt srcKpt
    rw [hset']
    iintro ⟨H1, H2⟩
    isplitl [H1]
    · iapply (Entails.of_eq (pointsTo_congr (hc f))) $$ H1
    · iexact H2
  · iexact HV

theorem wp_copyV (c : Dev nD) (p q : ℕ) (hq : q < 16) {offs inb inbs inbsm} (hs : offs = ![bof c, 0, q, 0])
    {hsrc hdst hsem} {α : Type} {Q : α → sProp 𝕄} {k : PUnit → Prog (TpuEff nD τ sig (Elt F) Λ₀ .tc) α} :
    CP m c p q ⊢ iprop((CP m c p (q + 1) -∗ WP c (k ⟨⟩) Q)
      -∗ WP c (.op (.enqueueDma (slArg argVM offs inbs) (.here (slKV vM ![q, 0, 0] inb)) (.dma (semV q inbsm)) hsrc hdst hsem) k) Q) := by
  have e := fam_take (vIdle m c) (vFly m c) ⟨q, hq⟩
  have hset := set_v ⟨q, hq⟩ ![q, 0, 0] inb rfl
  have hset' := set_argV ⟨bof c, bof_lt c⟩ ⟨q, hq⟩ offs inbs hs
  have hc := copied_v m c ⟨q, hq⟩ ![q, 0, 0] inb offs inbs rfl hs
  rw [show (SemLoc.dma (semV q inbsm) : SemLoc sig) = .dma (vSem ⟨q, hq⟩) from congrArg _ (semV_eq q hq inbsm)] at hsem
  simp only [semV_eq q hq inbsm]
  unfold CP
  iintro ⟨HK, HV⟩ Hk
  ihave HK' := e $$ HV
  icases HK' with ⟨HA, HB⟩
  unfold vIdle srcVpt dstVpt
  icases HA with ⟨Hs, ⟨%f, Hd⟩, Hz⟩
  iapply (Transfers.wp_dmaLocal EC 𝒱₀ (c : Thread nD τ) none (src := slArg argVM offs inbs) (dst := slKV vM ![q, 0, 0] inb) (Sd := slotK q) (fd := f)
    (fs := m ((c : Thread nD τ).loc main_arg2)) (q := fullShare) () NV rfl NV_pos (by rw [hset])) $$ [Hs Hd Hz]
  · isplitl [Hs]; · rw [hset']; iexact Hs
    isplitl [Hd]; · iexact Hd
    iexact Hz
  iintro HF
  iapply Hk
  isplitr [HB HF]
  · iexact HK
  · iapply HB
    unfold vFly
    iapply (Transfers.Flight_mono EC (c : Thread nD τ) ?_) $$ HF
    unfold dstVpt srcVpt
    rw [hset']
    iintro ⟨H1, H2⟩
    isplitl [H1]
    · iapply (Entails.of_eq (pointsTo_congr (hc f))) $$ H1
    · iexact H2

/-- A program that has returned. -/
theorem wp_done (c : Dev nD) {α : Type} (a : α) (Q : α → sProp 𝕄) : Q a ⊢ WP c (.ret a) Q := by
  unfold WP
  rw [wp_ret]
  iintro H
  imodintro
  iexact H

end Cert.Att

end
-- ==== Proof.PartsA.lean ====
/-
# The body, part by part: the keys and the values are sent for
-/
module

public import proofs.«01_k».proof.Proof.OpsHead

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

theorem part_1 (c : Dev nD)  {Q : (Σ' (_ : Dev nD) (_ : BitVec 32) (_ : BitVec 32) (_ : BitVec 32), BitVec 32) → sProp 𝕄} :
    CP m c 0 0 ⊢ iprop((∀ w1 : BitVec 32, ∀ w2 : BitVec 32, ∀ w3 : BitVec 32, ∀ w4 : BitVec 32, (CP m c 1 1 -∗ Q ⟨c, w1, w2, w3, w4⟩)) -∗ WP c (k0_part1 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 ) Q) := by
  rw [k0_part1_eq_skeleton]; unfold k0_part1_skel
  simp only [Prog.lift, Prog.bind_op, Prog.bind_ret, Prog.pure_eq_ret, semSignalWord, semWaitWord, wp_deviceId]
  iintro H Hk
  iapply (wp_copyK m c 0 0 (by decide) (k0_off1_eq c)) $$ H; iintro H
  iapply (wp_copyV m c 1 0 (by decide) (k0_off1_eq c)) $$ H; iintro H
  iapply wp_done
  iapply Hk
  iexact H

theorem part_2 (c : Dev nD)  {Q : PUnit → sProp 𝕄} :
    CP m c 1 1 ⊢ iprop(((CP m c 4 3 -∗ Q ⟨⟩)) -∗ WP c (k0_part2 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c) Q) := by
  rw [k0_part2_eq_skeleton]; unfold k0_part2_skel
  simp only [Prog.lift, Prog.bind_op, Prog.bind_ret, Prog.pure_eq_ret, semSignalWord, semWaitWord, wp_deviceId]
  iintro H Hk
  iapply (wp_copyK m c 1 1 (by decide) (k0_off2_eq c)) $$ H; iintro H
  iapply (wp_copyV m c 2 1 (by decide) (k0_off2_eq c)) $$ H; iintro H
  iapply (wp_copyK m c 2 2 (by decide) (k0_off3_eq c)) $$ H; iintro H
  iapply (wp_copyV m c 3 2 (by decide) (k0_off3_eq c)) $$ H; iintro H
  iapply (wp_copyK m c 3 3 (by decide) (k0_off4_eq c)) $$ H; iintro H
  iapply wp_done
  iapply Hk
  iexact H

theorem part_3 (c : Dev nD)  {Q : PUnit → sProp 𝕄} :
    CP m c 4 3 ⊢ iprop(((CP m c 6 5 -∗ Q ⟨⟩)) -∗ WP c (k0_part3 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c) Q) := by
  rw [k0_part3_eq_skeleton]; unfold k0_part3_skel
  simp only [Prog.lift, Prog.bind_op, Prog.bind_ret, Prog.pure_eq_ret, semSignalWord, semWaitWord, wp_deviceId]
  iintro H Hk
  iapply (wp_copyV m c 4 3 (by decide) (k0_off4_eq c)) $$ H; iintro H
  iapply (wp_copyK m c 4 4 (by decide) (k0_off5_eq c)) $$ H; iintro H
  iapply (wp_copyV m c 5 4 (by decide) (k0_off5_eq c)) $$ H; iintro H
  iapply (wp_copyK m c 5 5 (by decide) (k0_off6_eq c)) $$ H; iintro H
  iapply wp_done
  iapply Hk
  iexact H

theorem part_4 (c : Dev nD)  {Q : PUnit → sProp 𝕄} :
    CP m c 6 5 ⊢ iprop(((CP m c 8 7 -∗ Q ⟨⟩)) -∗ WP c (k0_part4 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c) Q) := by
  rw [k0_part4_eq_skeleton]; unfold k0_part4_skel
  simp only [Prog.lift, Prog.bind_op, Prog.bind_ret, Prog.pure_eq_ret, semSignalWord, semWaitWord, wp_deviceId]
  iintro H Hk
  iapply (wp_copyV m c 6 5 (by decide) (k0_off6_eq c)) $$ H; iintro H
  iapply (wp_copyK m c 6 6 (by decide) (k0_off7_eq c)) $$ H; iintro H
  iapply (wp_copyV m c 7 6 (by decide) (k0_off7_eq c)) $$ H; iintro H
  iapply (wp_copyK m c 7 7 (by decide) (k0_off8_eq c)) $$ H; iintro H
  iapply wp_done
  iapply Hk
  iexact H

theorem part_5 (c : Dev nD)  {Q : PUnit → sProp 𝕄} :
    CP m c 8 7 ⊢ iprop(((CP m c 10 10 -∗ Q ⟨⟩)) -∗ WP c (k0_part5 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c) Q) := by
  rw [k0_part5_eq_skeleton]; unfold k0_part5_skel
  simp only [Prog.lift, Prog.bind_op, Prog.bind_ret, Prog.pure_eq_ret, semSignalWord, semWaitWord, wp_deviceId]
  iintro H Hk
  iapply (wp_copyV m c 8 7 (by decide) (k0_off8_eq c)) $$ H; iintro H
  iapply (wp_copyK m c 8 8 (by decide) (k0_off9_eq c)) $$ H; iintro H
  iapply (wp_copyV m c 9 8 (by decide) (k0_off9_eq c)) $$ H; iintro H
  iapply (wp_copyK m c 9 9 (by decide) (k0_off10_eq c)) $$ H; iintro H
  iapply (wp_copyV m c 10 9 (by decide) (k0_off10_eq c)) $$ H; iintro H
  iapply wp_done
  iapply Hk
  iexact H

theorem part_6 (c : Dev nD)  {Q : PUnit → sProp 𝕄} :
    CP m c 10 10 ⊢ iprop(((CP m c 12 12 -∗ Q ⟨⟩)) -∗ WP c (k0_part6 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c) Q) := by
  rw [k0_part6_eq_skeleton]; unfold k0_part6_skel
  simp only [Prog.lift, Prog.bind_op, Prog.bind_ret, Prog.pure_eq_ret, semSignalWord, semWaitWord, wp_deviceId]
  iintro H Hk
  iapply (wp_copyK m c 10 10 (by decide) (k0_off11_eq c)) $$ H; iintro H
  iapply (wp_copyV m c 11 10 (by decide) (k0_off11_eq c)) $$ H; iintro H
  iapply (wp_copyK m c 11 11 (by decide) (k0_off12_eq c)) $$ H; iintro H
  iapply (wp_copyV m c 12 11 (by decide) (k0_off12_eq c)) $$ H; iintro H
  iapply wp_done
  iapply Hk
  iexact H

theorem part_7 (c : Dev nD)  {Q : PUnit → sProp 𝕄} :
    CP m c 12 12 ⊢ iprop(((CP m c 14 14 -∗ Q ⟨⟩)) -∗ WP c (k0_part7 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c) Q) := by
  rw [k0_part7_eq_skeleton]; unfold k0_part7_skel
  simp only [Prog.lift, Prog.bind_op, Prog.bind_ret, Prog.pure_eq_ret, semSignalWord, semWaitWord, wp_deviceId]
  iintro H Hk
  iapply (wp_copyK m c 12 12 (by decide) (k0_off13_eq c)) $$ H; iintro H
  iapply (wp_copyV m c 13 12 (by decide) (k0_off13_eq c)) $$ H; iintro H
  iapply (wp_copyK m c 13 13 (by decide) (k0_off14_eq c)) $$ H; iintro H
  iapply (wp_copyV m c 14 13 (by decide) (k0_off14_eq c)) $$ H; iintro H
  iapply wp_done
  iapply Hk
  iexact H

theorem part_8 (c : Dev nD) (v5 : BitVec 32) {Q : (Σ' (_ : Sems sig S_) (_ : BitVec 32) (_ : BitVec 32) (_ : BitVec 1), BitVec 1) → sProp 𝕄} :
    CP m c 14 14 ⊢ iprop((∀ w1 : BitVec 32, ∀ w2 : BitVec 32, ∀ w3 : BitVec 1, ∀ w4 : BitVec 1, (CP m c 16 16 -∗ Q ⟨(SemArray.scalar (sig.barrier 0 rfl)), w1, w2, w3, w4⟩)) -∗ WP c (k0_part8 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v5) Q) := by
  rw [k0_part8_eq_skeleton]; unfold k0_part8_skel
  simp only [Prog.lift, Prog.bind_op, Prog.bind_ret, Prog.pure_eq_ret, semSignalWord, semWaitWord, wp_deviceId]
  iintro H Hk
  iapply (wp_copyK m c 14 14 (by decide) (k0_off15_eq c)) $$ H; iintro H
  iapply (wp_copyV m c 15 14 (by decide) (k0_off15_eq c)) $$ H; iintro H
  iapply (wp_copyK m c 15 15 (by decide) (k0_off16_eq c)) $$ H; iintro H
  iapply (wp_copyV m c 16 15 (by decide) (k0_off16_eq c)) $$ H; iintro H
  iapply wp_done
  iapply Hk
  iexact H

end Cert.Att

end
-- ==== Proof.OpsBar.lean ====
/-
# The barrier: ten signals and the wait for ten
-/
module

public import proofs.«01_k».proof.Proof.OpsHead

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

/-! ## The signals -/

/-- What the `t`-th signal hands over: the right to pay, and the slot its addressee may fill. -/
def sgIdle (c : Dev nD) (t : Fin 10) : sProp 𝕄 :=
  iprop(dutyTok ER (cell (peer ⟨t.val, by omega⟩ c) 0) 0 (pduty ⟨t.val, by omega⟩) ∗ barPay (F := F) (peer ⟨t.val, by omega⟩ c) (pduty ⟨t.val, by omega⟩))

/-- While the signals are sent: `n` of them. -/
def SG (c : Dev nD) (n : ℕ) : sProp 𝕄 :=
  iprop(records m K ∗ OW (F := F) c n ∗ fam (sgIdle (F := F) c) (fun _ => iprop(emp)) n)

theorem pidx_sig (t : Fin 20) (h : t.val < 10) : pidx t = 0 := by revert t; decide
theorem pduty_sig (t : Fin 20) (h : t.val < 10) : pduty t ∈ dutiesOf 0 := by revert t; decide

theorem wp_sig (c : Dev nD) (n : ℕ) (hn : n < 10) {d : Dev nD} (hd : d = peer ⟨n, by omega⟩ c) {sm : Sem sig} (hsm : sm = barrier0) {a : ℕ} (ha : a = 1)
    {α : Type} {Q : α → sProp 𝕄} {k : PUnit → Prog (TpuEff nD τ sig (Elt F) Λ₀ .tc) α} :
    SG m K c n ⊢ iprop((SG m K c (n + 1) -∗ WP c (k ⟨⟩) Q) -∗ WP c (.op (.semSignal (d : Thread nD τ) sm a) k) Q) := by
  subst hd; subst hsm; subst ha
  have e := fam_take (sgIdle (F := F) c) (fun _ => iprop(emp)) ⟨n, hn⟩
  have hi := pidx_sig ⟨n, by omega⟩ hn
  have hO : owedFrom c n = owedFrom c (n + 1) + tallyAt (cell (peer ⟨n, by omega⟩ c) 0) () 1 := by
    have h := owedFrom_peel c ⟨n, by omega⟩
    unfold pcell at h
    rw [hi] at h
    exact h
  have hpay : (Rd m).payload (((peer ⟨n, by omega⟩ c : Dev nD) : Thread nD τ), .reg barrier0) 0 (pduty ⟨n, by omega⟩)
      = barPay (peer ⟨n, by omega⟩ c) (pduty ⟨n, by omega⟩) :=
    (payload_cell m (peer ⟨n, by omega⟩ c) 0 (pduty ⟨n, by omega⟩)).trans (by rw [pay]; exact if_pos rfl)
  unfold SG OW
  iintro ⟨#HR, ⟨%W, HO⟩, HF⟩ Hk
  ihave HF' := e $$ HF
  icases HF' with ⟨HA, HB⟩
  unfold sgIdle
  icases HA with ⟨Ht, Hp⟩
  iapply (Rounds.wp_signal 𝒱₀ ER (Rd m) (c : Thread nD τ) none (dst := ((peer ⟨n, by omega⟩ c : Dev nD) : Thread nD τ)) (sem := barrier0) (r := 0)
    (κ := K (peer ⟨n, by omega⟩ c, 0)) (d := pduty ⟨n, by omega⟩)
    (by rw [show (((peer ⟨n, by omega⟩ c : Dev nD) : Thread nD τ), SemLoc.reg barrier0) = cell (peer ⟨n, by omega⟩ c) 0 from rfl, duties_cell]; exact pduty_sig _ hn)
    (amount_cell m (peer ⟨n, by omega⟩ c) 0 _) () (owedFrom c (n + 1)) hO) $$ [HO Ht Hp]
  · isplitr; · iapply (records_inv m K (peer ⟨n, by omega⟩ c) 0); iexact HR
    isplitl [HO]; · iexact HO
    isplitl [Ht]; · iexact Ht
    isplitl [Hp]
    · iapply (Entails.of_eq hpay.symm); iexact Hp
    · iapply (records_reached m K (peer ⟨n, by omega⟩ c) 0); iexact HR
  iintro HO
  iapply Hk
  isplitr; · iexact HR
  isplitl [HO]; · iexists W; iexact HO
  iapply HB; iempintro

/-! ## The wait -/

theorem wp_bar (c : Dev nD) {sm : Sem sig} (hsm : sm = barrier0) {a : ℕ} (ha : a = 10)
    {α : Type} {Q : α → sProp 𝕄} {k : PUnit → Prog (TpuEff nD τ sig (Elt F) Λ₀ .tc) α} :
    iprop(records m K ∗ OW (F := F) c 10 ∗ cred (tallyAt (cell c 0) () 10) ∗ atPos ER (cell c 0) 0 ∅ 0)
      ⊢ iprop((iprop(OW (F := F) c 10 ∗ semVal (cell c 0) 0 ∗ bigSep (dutiesOf 0) (fun d => barPay (F := F) c d)) -∗ WP c (k ⟨⟩) Q)
        -∗ WP c (.op (.semWait sm a) k) Q) := by
  subst hsm; subst ha
  have hpay : bigSep ((Rd m).duties (cell c 0) 0 \ ∅) (fun d => (Rd m).payload (cell c 0) 0 d) = bigSep (dutiesOf 0) (fun d => barPay (F := F) c d) := by
    rw [Finset.sdiff_empty, duties_cell]
    exact bigSep_congr fun d _ => (payload_cell m c 0 d).trans (by rw [pay]; exact if_pos rfl)
  unfold OW
  iintro ⟨#HR, ⟨%W, HO⟩, Hc, Hat⟩ Hk
  iapply (Rounds.wp_wait_rest_token 𝒱₀ ER (Rd m) (c : Thread nD τ) none (κ := K (c, 0)) (sm := .reg barrier0) (wpE_semWait_eq 𝒱₀ (c : Thread nD τ) none Set.univ)
    (Set.mem_univ _) () (O := owedFrom c 10) (W := W) (R := 0) (m := 0) (T := ∅) ((Nat.zero_add 10).trans (expect_bar m c).symm)) $$ [HO Hc Hat]
  · isplitr; · iapply (records_inv m K c 0); iexact HR
    isplitl [Hc]; · iexact Hc
    isplitl [HO]; · iexact HO
    isplitr; · iapply (mayWait c (.reg barrier0) 10 (by decide)); iapply (records_lev m K); iexact HR
    iexact Hat
  iintro ⟨HO, Hat, _, Hp⟩
  ihave #Hi := (records_inv m K c 0) $$ HR
  imod (Rounds.cell_close ER (Rd m) (Set.mem_univ (K (c, 0))) (fun h => h) (R := 0 + 1) (duties_later m (cell c 0))) $$ [Hat] with Hz
  · isplitr; · iexact Hi
    iexact Hat
  iapply Hk
  isplitl [HO]; · iexists _; iexact HO
  isplitl [Hz]; · iexact Hz
  iapply (Entails.of_eq hpay); iexact Hp

end Cert.Att

end
-- ==== Proof.Slices.lean ====
/-
# Stores and loads at unit-stride rectangles of whole buffers
-/
module

public import proofs.«01_k».proof.Proof.Views

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

/-! ## A block written into a rank-3 buffer -/

section
variable {α : Type} {n0 n1 n2 k0 k1 k2 : ℕ} (f : (⟨3, ![n0, n1, n2]⟩ : Shape).Idx → α) (w : (⟨3, ![k0, k1, k2]⟩ : Shape).Idx → α) (o0 o1 o2 : ℕ)
    (h : (⟨3, ![n0, n1, n2]⟩ : Shape).Slices ![o0, o1, o2] ⟨3, ![k0, k1, k2]⟩)

theorem us_in (i0 : Fin n0) (i1 : Fin n1) (i2 : Fin n2) (x : Fin k0) (y : Fin k1) (z : Fin k2)
    (h0 : i0.val = o0 + x.val) (h1 : i1.val = o1 + y.val) (h2 : i2.val = o2 + z.val) :
    updateSlice f w ![o0, o1, o2] h (ix3 i0 i1 i2) = w (ix3 x y z) := by
  unfold updateSlice
  rw [dif_pos]
  · congr 1; funext b; apply Fin.ext; fin_cases b
    · show i0.val - o0 = x.val; omega
    · show i1.val - o1 = y.val; omega
    · show i2.val - o2 = z.val; omega
  · intro a; fin_cases a
    · show o0 ≤ i0.val ∧ i0.val < o0 + k0; omega
    · show o1 ≤ i1.val ∧ i1.val < o1 + k1; omega
    · show o2 ≤ i2.val ∧ i2.val < o2 + k2; omega

theorem us_out (i0 : Fin n0) (i1 : Fin n1) (i2 : Fin n2)
    (hn : ¬ ((o0 ≤ i0.val ∧ i0.val < o0 + k0) ∧ (o1 ≤ i1.val ∧ i1.val < o1 + k1))) :
    updateSlice f w ![o0, o1, o2] h (ix3 i0 i1 i2) = f (ix3 i0 i1 i2) := by
  unfold updateSlice
  rw [dif_neg]
  intro hh
  exact hn ⟨hh 0, hh 1⟩
end

/-! ## The stores of the kernel -/

theorem stored_op (h : ℕ) (inb) (f : (cc0_scratch2 : Ref sig .tc).ty.Contents (Elt F)) (w : Vec F S8x1x128 .f32) (i0 : Fin 8) (i1 : Fin 16) (i2 : Fin 128) :
    (opM.access (Rect.unit (s := S8x16x128) ![0, h, 0] S8x1x128.size inb)).write (Elt F) f w Finset.univ (ix3 i0 i1 i2)
      = if i1.val = h then w (ix3 i0 (0 : Fin 1) i2) else f (ix3 i0 i1 i2) := by
  refine (congrFun (View.write_whole_slice_unit cc0_scratch2 ![0, h, 0] S8x1x128.size inb f w) _).trans ?_
  split
  · next hi => exact us_in (n0 := 8) (n1 := 16) (n2 := 128) (k0 := 8) (k1 := 1) (k2 := 128) f w 0 h 0 ⟨rfl, inb⟩ i0 i1 i2 i0 0 i2 (by omega) (by simpa using hi) (by omega)
  · next hi => exact us_out (n0 := 8) (n1 := 16) (n2 := 128) (k0 := 8) (k1 := 1) (k2 := 128) f w 0 h 0 ⟨rfl, inb⟩ i0 i1 i2 (by omega)

theorem stored_lb (h : ℕ) (inb) (f : (cc0_scratch3 : Ref sig .tc).ty.Contents (Elt F)) (w : Vec F S8x1x128 .f32) (i0 : Fin 8) (i1 : Fin 16) (i2 : Fin 128) :
    (lbM.access (Rect.unit (s := S8x16x128) ![0, h, 0] S8x1x128.size inb)).write (Elt F) f w Finset.univ (ix3 i0 i1 i2)
      = if i1.val = h then w (ix3 i0 (0 : Fin 1) i2) else f (ix3 i0 i1 i2) := by
  refine (congrFun (View.write_whole_slice_unit cc0_scratch3 ![0, h, 0] S8x1x128.size inb f w) _).trans ?_
  split
  · next hi => exact us_in (n0 := 8) (n1 := 16) (n2 := 128) (k0 := 8) (k1 := 1) (k2 := 128) f w 0 h 0 ⟨rfl, inb⟩ i0 i1 i2 i0 0 i2 (by omega) (by simpa using hi) (by omega)
  · next hi => exact us_out (n0 := 8) (n1 := 16) (n2 := 128) (k0 := 8) (k1 := 1) (k2 := 128) f w 0 h 0 ⟨rfl, inb⟩ i0 i1 i2 (by omega)

/-- The upper half of slot `k` written. -/
theorem stored_a0 (k : Fin 4) (off : Fin 3 → ℕ) (ho : off = ![k.val, 0, 0]) (inb) (f : (cc0_scratch4 : Ref sig .tc).ty.Contents (Elt F)) (w : Vec F S1x128x128 .bf16)
    (x : Fin 256) (hx : x.val < 128) (y : Fin 128) :
    (aM.access (Rect.unit (s := S4x256x128) off S1x128x128.size inb)).write (Elt F) f w Finset.univ (ix3 k x y) = w (ix3 (0 : Fin 1) (⟨x.val, hx⟩ : Fin 128) y) := by
  subst ho
  refine (congrFun (View.write_whole_slice_unit cc0_scratch4 ![k.val, 0, 0] S1x128x128.size inb f w) _).trans ?_
  exact us_in (n0 := 4) (n1 := 256) (n2 := 128) (k0 := 1) (k1 := 128) (k2 := 128) f w k.val 0 0 ⟨rfl, inb⟩ k x y 0 ⟨x.val, hx⟩ y (by simp) (by simp) (by simp)

/-- The lower half of slot `k` written, the upper kept. -/
theorem stored_a1 (k : Fin 4) (off : Fin 3 → ℕ) (ho : off = ![k.val, 128, 0]) (inb) (f : (cc0_scratch4 : Ref sig .tc).ty.Contents (Elt F)) (w : Vec F S1x128x128 .bf16)
    (x : Fin 256) (y : Fin 128) :
    (aM.access (Rect.unit (s := S4x256x128) off S1x128x128.size inb)).write (Elt F) f w Finset.univ (ix3 k x y)
      = if h : x.val < 128 then f (ix3 k x y) else w (ix3 (0 : Fin 1) (⟨x.val - 128, by have := x.isLt; omega⟩ : Fin 128) y) := by
  subst ho
  refine (congrFun (View.write_whole_slice_unit cc0_scratch4 ![k.val, 128, 0] S1x128x128.size inb f w) _).trans ?_
  split
  · next hx => exact us_out (n0 := 4) (n1 := 256) (n2 := 128) (k0 := 1) (k1 := 128) (k2 := 128) f w k.val 128 0 ⟨rfl, inb⟩ k x y (by omega)
  · next hx => exact us_in (n0 := 4) (n1 := 256) (n2 := 128) (k0 := 1) (k1 := 128) (k2 := 128) f w k.val 128 0 ⟨rfl, inb⟩ k x y 0 ⟨x.val - 128, by have := x.isLt; omega⟩ y (by simp) (by simp; omega) (by simp)

theorem stored_b (k : Fin 8) (off : Fin 3 → ℕ) (ho : off = ![k.val, 0, 0]) (inb) (f : (cc0_scratch5 : Ref sig .tc).ty.Contents (Elt F)) (w : Vec F S1x128x128 .bf16)
    (x y : Fin 128) :
    (bM.access (Rect.unit (s := S8x128x128) off S1x128x128.size inb)).write (Elt F) f w Finset.univ (ix3 k x y) = w (ix3 (0 : Fin 1) x y) := by
  subst ho
  refine (congrFun (View.write_whole_slice_unit cc0_scratch5 ![k.val, 0, 0] S1x128x128.size inb f w) _).trans ?_
  exact us_in (n0 := 8) (n1 := 128) (n2 := 128) (k0 := 1) (k1 := 128) (k2 := 128) f w k.val 0 0 ⟨rfl, inb⟩ k x y 0 x y (by simp) (by simp) (by simp)

theorem stored_o (h : ℕ) (inb) (f : (cc0_stg1_0 : Ref sig .tc).ty.Contents (Elt F)) (w : Vec F S1x128x128 .f32) (i0 : Fin 8) (i1 i2 : Fin 128) :
    (oM.access (Rect.unit (s := S8x128x128) ![h, 0, 0] S1x128x128.size inb)).write (Elt F) f w Finset.univ (ix3 i0 i1 i2)
      = if i0.val = h then w (ix3 (0 : Fin 1) i1 i2) else f (ix3 i0 i1 i2) := by
  refine (congrFun (View.write_whole_slice_unit cc0_stg1_0 ![h, 0, 0] S1x128x128.size inb f w) _).trans ?_
  split
  · next hi => exact us_in (n0 := 8) (n1 := 128) (n2 := 128) (k0 := 1) (k1 := 128) (k2 := 128) f w h 0 0 ⟨rfl, inb⟩ i0 i1 i2 0 i1 i2 (by simpa using hi) (by simp) (by simp)
  · next hi => exact us_out (n0 := 8) (n1 := 128) (n2 := 128) (k0 := 1) (k1 := 128) (k2 := 128) f w h 0 0 ⟨rfl, inb⟩ i0 i1 i2 (by omega)

/-! ## The sets the slices lie on -/

theorem set_squeezed {κ} {sp} {sh s' : Shape} {e : EltTy} (M : Memref sig κ sp sh e) (r : Rect sh) (hr) (hq) :
    ((M.slice r hr).squeeze s' hq).view.set = M.view.setOn r.toLoadRect.set :=
  (View.set_reshape _ _).trans (View.set_slice _ _)

theorem set_access {κ} {sp} {sh s' : Shape} {e : EltTy} (M : Memref sig κ sp sh e) (r : Rect sh) (hr) (hq) :
    ((M.slice r hr).squeeze s' hq).view.set = (M.access r).setOn Finset.univ :=
  View.set_reshape _ _

/-- The half of a slot lies on the slot. -/
theorem half_a (k : Fin 4) (o : ℕ) (ho : o + 128 ≤ 256) (off : Fin 3 → ℕ) (hoff : off = ![k.val, o, 0]) (inb) :
    (aM.access (Rect.unit (s := S4x256x128) off S1x128x128.size inb)).setOn Finset.univ ⊆ slotA k.val := by
  subst hoff
  intro i hi
  have hi' : i ∈ (Finset.univ : Finset (S1x128x128.Idx)).map (aM.access (Rect.unit (s := S4x256x128) ![k.val, o, 0] S1x128x128.size inb)).emb := hi
  obtain ⟨j, -, rfl⟩ := Finset.mem_map.mp hi'
  obtain ⟨a, b, d, rfl⟩ : ∃ (a : Fin 1) (b : Fin 128) (d : Fin 128), ix3 a b d = j := ⟨j 0, j 1, j 2, (eq_ix3 j).symm⟩
  refine (mem_slotA k _).mpr ⟨⟨o + b.val, by omega⟩, d, ?_⟩
  funext t; apply Fin.ext; fin_cases t
  · show k.val = k.val + 1 * a.val; omega
  · show o + b.val = o + 1 * b.val; omega
  · show d.val = 0 + 1 * d.val; omega

end Cert.Att

end
-- ==== Proof.OpsLoop.lean ====
/-
# The heads: waiting for a slot, loading it, storing its results
-/
module

public import proofs.«01_k».proof.Proof.OpsHead
public import proofs.«01_k».proof.Proof.Slices

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

/-- The numerators of the heads below `n` are stored. -/
def opS (c : Dev nD) (n : ℕ) : sProp 𝕄 :=
  iprop(∃ f : (cc0_scratch2 : Ref sig .tc).ty.Contents (Elt F), ⌜∀ i : S8x16x128.Idx, (i 1).val < n → f i = opv m c i⌝ ∗ (((c : Thread nD τ).loc cc0_scratch2) ↦{fullShare} f))
/-- The denominators of the heads below `n` are stored. -/
def lbS (c : Dev nD) (n : ℕ) : sProp 𝕄 :=
  iprop(∃ f : (cc0_scratch3 : Ref sig .tc).ty.Contents (Elt F), ⌜∀ i : S8x16x128.Idx, (i 1).val < n → f i = lbv m c i⌝ ∗ (((c : Thread nD τ).loc cc0_scratch3) ↦{fullShare} f))

/-- Inside the heads: `p` keys and `q` values arrived, `r` numerators and `s` denominators stored. -/
def HD (c : Dev nD) (p q r s : ℕ) : sProp 𝕄 :=
  iprop(records m K ∗ OW (F := F) c 10 ∗ fam (kFly m c) (kDone m c) p ∗ fam (vFly m c) (vDone m c) q ∗ opS m c r ∗ lbS m c s)

theorem low_k (h : Fin 16) : lvn (num (.dma (kSem h))) = 0 := by revert h; decide
theorem low_v (h : Fin 16) : lvn (num (.dma (vSem h))) = 0 := by revert h; decide
theorem high_10 : ∀ t : Fin 20, 10 ≤ t.val → 0 < lvn (pidx t).val := by decide

theorem readAt_whole3 {n0 n1 n2 : ℕ} {α : Type} (f : (⟨3, ![n0, n1, n2]⟩ : Shape).Idx → α) (inb) :
    (fun j => f ((Rect.unit (s := ⟨3, ![n0, n1, n2]⟩) ![0, 0, 0] ![n0, n1, n2] inb).toLoadRect.idx j)) = f := by
  funext i; refine congrArg f ?_
  funext a; apply Fin.ext; fin_cases a <;> exact (Nat.zero_add _).trans (Nat.one_mul _)

section Ops
variable (c : Dev nD) (p q r s : ℕ)

theorem wp_waitK (hp : p < 16) {src : Memref sig (c : Thread nD τ).2.kind .hbm S1024x128 .f32} {inb} {inbsm} {hsrc : src.view.WordExact} {hdst}
    {α : Type} {Q : α → sProp 𝕄} {k : PUnit → Prog (TpuEff nD τ sig (Elt F) Λ₀ .tc) α} :
    HD m K c p q r s ⊢ iprop((HD m K c (p + 1) q r s -∗ WP c (k ⟨⟩) Q)
      -∗ WP c (.op (.waitDma2 (semK p inbsm) src (slKV kM ![p, 0, 0] inb) hsrc hdst) k) Q) := by
  have e := fam_take (kFly m c) (kDone m c) ⟨p, hp⟩
  have hl := high_10
  rw [semK_eq p hp inbsm]
  unfold HD OW
  iintro ⟨#HR, ⟨%W, HO⟩, HK, HV⟩ Hk
  ihave HK' := e $$ HK
  icases HK' with ⟨HA, HB⟩
  unfold kFly
  iapply (Transfers.wp_waitLocalO EC 𝒱₀ (c : Thread nD τ) none (srcw := src) (hsrc := hsrc) (hdst := hdst) () (N := NK) rfl (O := owedFrom c 10) (W := W)) $$ [HO HA]
  · isplitl [HA]; · iexact HA
    isplitl [HO]; · iexact HO
    iapply (mayWait c (.dma (kSem ⟨p, hp⟩)) 10 (fun t ht => by rw [low_k]; exact hl t ht)); iapply (records_lev m K); iexact HR
  iintro ⟨HD, Hz, HO⟩
  iapply Hk
  isplitr; · iexact HR
  isplitl [HO]; · iexists _; iexact HO
  isplitl [HB HD Hz]
  · iapply HB; unfold kDone; isplitl [HD]; · iexact HD
    iexact Hz
  iexact HV

theorem wp_waitV (hq : q < 16) {src : Memref sig (c : Thread nD τ).2.kind .hbm S1024x128 .f32} {inb} {inbsm} {hsrc : src.view.WordExact} {hdst}
    {α : Type} {Q : α → sProp 𝕄} {k : PUnit → Prog (TpuEff nD τ sig (Elt F) Λ₀ .tc) α} :
    HD m K c p q r s ⊢ iprop((HD m K c p (q + 1) r s -∗ WP c (k ⟨⟩) Q)
      -∗ WP c (.op (.waitDma2 (semV q inbsm) src (slKV vM ![q, 0, 0] inb) hsrc hdst) k) Q) := by
  have e := fam_take (vFly m c) (vDone m c) ⟨q, hq⟩
  have hl := high_10
  rw [semV_eq q hq inbsm]
  unfold HD OW
  iintro ⟨#HR, ⟨%W, HO⟩, HK, HV, HS⟩ Hk
  ihave HV' := e $$ HV
  icases HV' with ⟨HA, HB⟩
  unfold vFly
  iapply (Transfers.wp_waitLocalO EC 𝒱₀ (c : Thread nD τ) none (srcw := src) (hsrc := hsrc) (hdst := hdst) () (N := NV) rfl (O := owedFrom c 10) (W := W)) $$ [HO HA]
  · isplitl [HA]; · iexact HA
    isplitl [HO]; · iexact HO
    iapply (mayWait c (.dma (vSem ⟨q, hq⟩)) 10 (fun t ht => by rw [low_v]; exact hl t ht)); iapply (records_lev m K); iexact HR
  iintro ⟨HD, Hz, HO⟩
  iapply Hk
  isplitr; · iexact HR
  isplitl [HO]; · iexists _; iexact HO
  isplitl [HK]; · iexact HK
  isplitl [HB HD Hz]
  · iapply HB; unfold vDone; isplitl [HD]; · iexact HD
    iexact Hz
  iexact HS

theorem wp_loadK (h : ℕ) (hh : h < 16) (hp : h < p) {inb hl}
    {α : Type} {Q : α → sProp 𝕄} {k : Vec F S1x1024x128 .f32 → Prog (TpuEff nD τ sig (Elt F) Λ₀ .tc) α} :
    HD m K c p q r s ⊢ iprop((HD m K c p q r s -∗ WP c (k (kh m c ⟨h, hh⟩)) Q)
      -∗ WP c (.op (.load kM (Rect.unit (s := S16x1024x128) ![h, 0, 0] S1x1024x128.size inb).toLoadRect hl) k) Q) := by
  have e := fam_read (kFly m c) (kDone m c) ⟨h, hh⟩ p hp
  unfold HD
  iintro ⟨HR, HO, HK, HV⟩ Hk
  ihave HK' := e $$ HK
  icases HK' with ⟨HA, HB⟩
  unfold kDone dstKpt
  icases HA with ⟨⟨Hd, Hs⟩, Hz⟩
  iapply (wp_load 𝒱₀ (c : Thread nD τ) none Set.univ (m := kM) (S := slotK h)
    (((set_squeezed kM _ _ _).symm.trans (set_k ⟨h, hh⟩ ![h, 0, 0] inb rfl)).subset)) $$ Hd
  iintro Hd
  iapply Hk
  isplitl [HR]; · iexact HR
  isplitl [HO]; · iexact HO
  isplitl [HB Hd Hs Hz]
  · iapply HB; isplitr [Hz]
    · isplitl [Hd]; · iexact Hd
      iexact Hs
    iexact Hz
  iexact HV
theorem wp_loadV (h : ℕ) (hh : h < 16) (hq : h < q) {inb hl}
    {α : Type} {Q : α → sProp 𝕄} {k : Vec F S1x1024x128 .f32 → Prog (TpuEff nD τ sig (Elt F) Λ₀ .tc) α} :
    HD m K c p q r s ⊢ iprop((HD m K c p q r s -∗ WP c (k (vh m c ⟨h, hh⟩)) Q)
      -∗ WP c (.op (.load vM (Rect.unit (s := S16x1024x128) ![h, 0, 0] S1x1024x128.size inb).toLoadRect hl) k) Q) := by
  have e := fam_read (vFly m c) (vDone m c) ⟨h, hh⟩ q hq
  unfold HD
  iintro ⟨HR, HO, HK, HV, HS⟩ Hk
  ihave HV' := e $$ HV
  icases HV' with ⟨HA, HB⟩
  unfold vDone dstVpt
  icases HA with ⟨⟨Hd, Hs⟩, Hz⟩
  iapply (wp_load 𝒱₀ (c : Thread nD τ) none Set.univ (m := vM) (S := slotK h)
    (((set_squeezed vM _ _ _).symm.trans (set_v ⟨h, hh⟩ ![h, 0, 0] inb rfl)).subset)) $$ Hd
  iintro Hd
  iapply Hk
  isplitl [HR]; · iexact HR
  isplitl [HO]; · iexact HO
  isplitl [HK]; · iexact HK
  isplitl [HB Hd Hs Hz]
  · iapply HB; isplitr [Hz]
    · isplitl [Hd]; · iexact Hd
      iexact Hs
    iexact Hz
  iexact HS

theorem wp_loadOp (r0 : LoadRect S8x16x128) {hl} {α : Type} {Q : α → sProp 𝕄} {k : (r0.shape.Idx → Elt F .f32) → Prog (TpuEff nD τ sig (Elt F) Λ₀ .tc) α} :
    HD m K c p q r s ⊢ iprop((∀ v, (HD m K c p q r s -∗ WP c (k v) Q)) -∗ WP c (.op (.load opM r0 hl) k) Q) := by
  unfold HD opS
  iintro ⟨HR, HO, HK, HV, ⟨%f, %hf, Hf⟩, HL⟩ Hk
  iapply (wp_load 𝒱₀ (c : Thread nD τ) none Set.univ (m := opM) (Finset.subset_univ _)) $$ Hf
  iintro Hf
  iapply Hk
  isplitl [HR]; · iexact HR
  isplitl [HO]; · iexact HO
  isplitl [HK]; · iexact HK
  isplitl [HV]; · iexact HV
  isplitl [Hf]
  · iexists f
    isplitr; · ipureintro; exact hf
    iexact Hf
  iexact HL

theorem wp_loadOp_all (h : r = 16) {inb hl} {α : Type} {Q : α → sProp 𝕄} {k : Vec F S8x16x128 .f32 → Prog (TpuEff nD τ sig (Elt F) Λ₀ .tc) α} :
    HD m K c p q r s ⊢ iprop((HD m K c p q r s -∗ WP c (k (opv m c)) Q)
      -∗ WP c (.op (.load opM (Rect.unit (s := S8x16x128) ![0, 0, 0] S8x16x128.size inb).toLoadRect hl) k) Q) := by
  unfold HD opS
  iintro ⟨HR, HO, HK, HV, ⟨%f, %hf, Hf⟩, HL⟩ Hk
  iapply (wp_load 𝒱₀ (c : Thread nD τ) none Set.univ (m := opM) (Finset.subset_univ _)) $$ Hf
  iintro Hf
  have e : opM.view.readAt (Elt F) (Rect.unit (s := S8x16x128) ![0, 0, 0] S8x16x128.size inb).toLoadRect f = opv m c := by
    refine (readAt_whole3 f inb).trans (funext fun i => hf i ?_)
    rw [h]; exact (i 1).isLt
  rw [e]
  iapply Hk
  isplitl [HR]; · iexact HR
  isplitl [HO]; · iexact HO
  isplitl [HK]; · iexact HK
  isplitl [HV]; · iexact HV
  isplitl [Hf]
  · iexists f
    isplitr; · ipureintro; exact hf
    iexact Hf
  iexact HL

theorem wp_storeOp (hh : r < 16) {inb} {v : Vec F S8x1x128 .f32} {hx hm} {α : Type} {Q : α → sProp 𝕄} {k : PUnit → Prog (TpuEff nD τ sig (Elt F) Λ₀ .tc) α} :
    iprop(HD m K c p q r s ∗ ⌜v = headO ⟨r, hh⟩ (qb m c) (kh m c ⟨r, hh⟩) (vh m c ⟨r, hh⟩)⌝) ⊢ iprop((HD m K c p q (r + 1) s -∗ WP c (k ⟨⟩) Q)
      -∗ WP c (.op (.store opM (Rect.unit (s := S8x16x128) ![0, r, 0] S8x1x128.size inb) v Finset.univ hx hm) k) Q) := by
  unfold HD opS
  iintro ⟨⟨HR, HO, HK, HV, ⟨%f, %hf, Hf⟩, HL⟩, %hw⟩ Hk
  iapply (wp_store 𝒱₀ (c : Thread nD τ) none Set.univ (m := opM) (r := Rect.unit (s := S8x16x128) ![0, r, 0] S8x1x128.size inb) (w := v) (Mk := Finset.univ) (Finset.subset_univ _)) $$ Hf
  iintro Hf
  have hf' : ∀ i : S8x16x128.Idx, (i 1).val < r + 1 →
      (opM.access (Rect.unit (s := S8x16x128) ![0, r, 0] S8x1x128.size inb)).write (Elt F) f v Finset.univ i = opv m c i := by
    intro i hi
    obtain ⟨i0, i1, i2, rfl⟩ : ∃ (i0 : Fin 8) (i1 : Fin 16) (i2 : Fin 128), ix3 i0 i1 i2 = i := ⟨i 0, i 1, i 2, (eq_ix3 i).symm⟩
    have hi' : i1.val < r + 1 := hi
    refine (stored_op r inb f v i0 i1 i2).trans ?_
    by_cases h1 : i1.val = r
    · rw [if_pos h1, hw]
      have : (⟨r, hh⟩ : Fin 16) = i1 := Fin.ext h1.symm
      rw [this]
      rfl
    · rw [if_neg h1]
      exact hf (ix3 i0 i1 i2) (show i1.val < r by omega)
  iapply Hk
  isplitl [HR]; · iexact HR
  isplitl [HO]; · iexact HO
  isplitl [HK]; · iexact HK
  isplitl [HV]; · iexact HV
  isplitl [Hf]
  · iexists _
    isplitr; · ipureintro; exact hf'
    iexact Hf
  iexact HL

theorem wp_loadLb (r0 : LoadRect S8x16x128) {hl} {α : Type} {Q : α → sProp 𝕄} {k : (r0.shape.Idx → Elt F .f32) → Prog (TpuEff nD τ sig (Elt F) Λ₀ .tc) α} :
    HD m K c p q r s ⊢ iprop((∀ v, (HD m K c p q r s -∗ WP c (k v) Q)) -∗ WP c (.op (.load lbM r0 hl) k) Q) := by
  unfold HD lbS
  iintro ⟨HR, HO, HK, HV, HS, ⟨%f, %hf, Hf⟩⟩ Hk
  iapply (wp_load 𝒱₀ (c : Thread nD τ) none Set.univ (m := lbM) (Finset.subset_univ _)) $$ Hf
  iintro Hf
  iapply Hk
  isplitl [HR]; · iexact HR
  isplitl [HO]; · iexact HO
  isplitl [HK]; · iexact HK
  isplitl [HV]; · iexact HV
  isplitl [HS]; · iexact HS
  iexists f
  isplitr; · ipureintro; exact hf
  iexact Hf

theorem wp_loadLb_all (h : s = 16) {inb hl} {α : Type} {Q : α → sProp 𝕄} {k : Vec F S8x16x128 .f32 → Prog (TpuEff nD τ sig (Elt F) Λ₀ .tc) α} :
    HD m K c p q r s ⊢ iprop((HD m K c p q r s -∗ WP c (k (lbv m c)) Q)
      -∗ WP c (.op (.load lbM (Rect.unit (s := S8x16x128) ![0, 0, 0] S8x16x128.size inb).toLoadRect hl) k) Q) := by
  unfold HD lbS
  iintro ⟨HR, HO, HK, HV, HS, ⟨%f, %hf, Hf⟩⟩ Hk
  iapply (wp_load 𝒱₀ (c : Thread nD τ) none Set.univ (m := lbM) (Finset.subset_univ _)) $$ Hf
  iintro Hf
  have e : lbM.view.readAt (Elt F) (Rect.unit (s := S8x16x128) ![0, 0, 0] S8x16x128.size inb).toLoadRect f = lbv m c := by
    refine (readAt_whole3 f inb).trans (funext fun i => hf i ?_)
    rw [h]; exact (i 1).isLt
  rw [e]
  iapply Hk
  isplitl [HR]; · iexact HR
  isplitl [HO]; · iexact HO
  isplitl [HK]; · iexact HK
  isplitl [HV]; · iexact HV
  isplitl [HS]; · iexact HS
  iexists f
  isplitr; · ipureintro; exact hf
  iexact Hf

theorem wp_storeLb (hh : s < 16) {inb} {v : Vec F S8x1x128 .f32} {hx hm} {α : Type} {Q : α → sProp 𝕄} {k : PUnit → Prog (TpuEff nD τ sig (Elt F) Λ₀ .tc) α} :
    iprop(HD m K c p q r s ∗ ⌜v = headL ⟨s, hh⟩ (qb m c) (kh m c ⟨s, hh⟩)⌝) ⊢ iprop((HD m K c p q r (s + 1) -∗ WP c (k ⟨⟩) Q)
      -∗ WP c (.op (.store lbM (Rect.unit (s := S8x16x128) ![0, s, 0] S8x1x128.size inb) v Finset.univ hx hm) k) Q) := by
  unfold HD lbS
  iintro ⟨⟨HR, HO, HK, HV, HS, ⟨%f, %hf, Hf⟩⟩, %hw⟩ Hk
  iapply (wp_store 𝒱₀ (c : Thread nD τ) none Set.univ (m := lbM) (r := Rect.unit (s := S8x16x128) ![0, s, 0] S8x1x128.size inb) (w := v) (Mk := Finset.univ) (Finset.subset_univ _)) $$ Hf
  iintro Hf
  have hf' : ∀ i : S8x16x128.Idx, (i 1).val < s + 1 →
      (lbM.access (Rect.unit (s := S8x16x128) ![0, s, 0] S8x1x128.size inb)).write (Elt F) f v Finset.univ i = lbv m c i := by
    intro i hi
    obtain ⟨i0, i1, i2, rfl⟩ : ∃ (i0 : Fin 8) (i1 : Fin 16) (i2 : Fin 128), ix3 i0 i1 i2 = i := ⟨i 0, i 1, i 2, (eq_ix3 i).symm⟩
    have hi' : i1.val < s + 1 := hi
    refine (stored_lb s inb f v i0 i1 i2).trans ?_
    by_cases h1 : i1.val = s
    · rw [if_pos h1, hw]
      have : (⟨s, hh⟩ : Fin 16) = i1 := Fin.ext h1.symm
      rw [this]
      rfl
    · rw [if_neg h1]
      exact hf (ix3 i0 i1 i2) (show i1.val < s by omega)
  iapply Hk
  isplitl [HR]; · iexact HR
  isplitl [HO]; · iexact HO
  isplitl [HK]; · iexact HK
  isplitl [HV]; · iexact HV
  isplitl [HS]; · iexact HS
  iexists _
  isplitr; · ipureintro; exact hf'
  iexact Hf
end Ops

end Cert.Att

end
-- ==== Proof.PartsB.lean ====
/-
# The body, part by part: the barrier
-/
module

public import proofs.«01_k».proof.Proof.OpsBar
public import proofs.«01_k».proof.Proof.OpsLoop

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

theorem part_9 (c : Dev nD) (v2 : BitVec 32) (v5 : BitVec 32) (v8 : BitVec 32) (v206 : BitVec 32) (v207 : BitVec 32) (v208 : BitVec 1) (v209 : BitVec 1) {Q : (Σ' (_ : BitVec 32) (_ : BitVec 32) (_ : BitVec 1), BitVec 1) → sProp 𝕄} :
    SG m K c 0 ⊢ iprop((∀ w0 : BitVec 32, ∀ w1 : BitVec 32, ∀ w2 : BitVec 1, ∀ w3 : BitVec 1, (SG m K c 2 -∗ Q ⟨w0, w1, w2, w3⟩)) -∗ WP c (k0_part9 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v2 v5 v8 (SemArray.scalar (sig.barrier 0 rfl)) v206 v207 v208 v209) Q) := by
  rw [k0_part9_eq_skeleton]; unfold k0_part9_skel
  simp only [Prog.lift, Prog.bind_op, Prog.bind_ret, Prog.pure_eq_ret, semSignalWord, semWaitWord, wp_deviceId]
  iintro H Hk
  iapply (wp_sig m K c 0 (by decide) (dev1_eq c) rfl rfl) $$ H; iintro H
  iapply (wp_sig m K c 1 (by decide) (dev2_eq c) rfl rfl) $$ H; iintro H
  iapply wp_done
  iapply Hk
  iexact H

theorem part_10 (c : Dev nD) (v2 : BitVec 32) (v8 : BitVec 32) (v10 : BitVec 32) (v240 : BitVec 32) (v241 : BitVec 32) (v242 : BitVec 1) (v243 : BitVec 1) {Q : (Σ' (_ : BitVec 32), BitVec 32) → sProp 𝕄} :
    SG m K c 2 ⊢ iprop((∀ w0 : BitVec 32, ∀ w1 : BitVec 32, (SG m K c 3 -∗ Q ⟨w0, w1⟩)) -∗ WP c (k0_part10 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v2 v8 v10 (SemArray.scalar (sig.barrier 0 rfl)) v240 v241 v242 v243) Q) := by
  rw [k0_part10_eq_skeleton]; unfold k0_part10_skel
  simp only [Prog.lift, Prog.bind_op, Prog.bind_ret, Prog.pure_eq_ret, semSignalWord, semWaitWord, wp_deviceId]
  iintro H Hk
  iapply (wp_sig m K c 2 (by decide) (dev3_eq c) rfl rfl) $$ H; iintro H
  iapply wp_done
  iapply Hk
  iexact H

theorem part_11 (c : Dev nD) (v5 : BitVec 32) (v10 : BitVec 32) (v265 : BitVec 32) (v282 : BitVec 32) {Q : (Σ' (_ : BitVec 32) (_ : BitVec 32) (_ : BitVec 32) (_ : BitVec 32) (_ : BitVec 32), BitVec 1) → sProp 𝕄} :
    SG m K c 3 ⊢ iprop((∀ w0 : BitVec 32, ∀ w1 : BitVec 32, ∀ w2 : BitVec 32, ∀ w3 : BitVec 32, ∀ w4 : BitVec 32, ∀ w5 : BitVec 1, (SG m K c 4 -∗ Q ⟨w0, w1, w2, w3, w4, w5⟩)) -∗ WP c (k0_part11 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v5 v10 (SemArray.scalar (sig.barrier 0 rfl)) v265 v282) Q) := by
  rw [k0_part11_eq_skeleton]; unfold k0_part11_skel
  simp only [Prog.lift, Prog.bind_op, Prog.bind_ret, Prog.pure_eq_ret, semSignalWord, semWaitWord, wp_deviceId]
  iintro H Hk
  iapply (wp_sig m K c 3 (by decide) (dev4_eq c) rfl rfl) $$ H; iintro H
  iapply wp_done
  iapply Hk
  iexact H

theorem part_12 (c : Dev nD) (v5 : BitVec 32) (v10 : BitVec 32) (v309 : BitVec 32) (c4_i32_282 : BitVec 32) (v310 : BitVec 32) (v315 : BitVec 32) (v317 : BitVec 32) (v318 : BitVec 1) {Q : (Σ' (_ : BitVec 32) (_ : BitVec 32) (_ : BitVec 32), BitVec 1) → sProp 𝕄} :
    SG m K c 4 ⊢ iprop((∀ w0 : BitVec 32, ∀ w1 : BitVec 32, ∀ w2 : BitVec 32, ∀ w3 : BitVec 1, (SG m K c 5 -∗ Q ⟨w0, w1, w2, w3⟩)) -∗ WP c (k0_part12 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v5 v10 (SemArray.scalar (sig.barrier 0 rfl)) v309 c4_i32_282 v310 v315 v317 v318) Q) := by
  rw [k0_part12_eq_skeleton]; unfold k0_part12_skel
  simp only [Prog.lift, Prog.bind_op, Prog.bind_ret, Prog.pure_eq_ret, semSignalWord, semWaitWord, wp_deviceId]
  iintro H Hk
  iapply (wp_sig m K c 4 (by decide) (dev5_eq c) rfl rfl) $$ H; iintro H
  iapply wp_done
  iapply Hk
  iexact H

theorem part_13 (c : Dev nD) (v5 : BitVec 32) (v10 : BitVec 32) (v353 : BitVec 32) (c4_i32_307 : BitVec 32) (v354 : BitVec 32) (v355 : BitVec 1) {Q : (Σ' (_ : BitVec 32) (_ : BitVec 32) (_ : BitVec 1), BitVec 1) → sProp 𝕄} :
    SG m K c 5 ⊢ iprop((∀ w0 : BitVec 32, ∀ w1 : BitVec 32, ∀ w2 : BitVec 1, ∀ w3 : BitVec 1, (SG m K c 6 -∗ Q ⟨w0, w1, w2, w3⟩)) -∗ WP c (k0_part13 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v5 v10 (SemArray.scalar (sig.barrier 0 rfl)) v353 c4_i32_307 v354 v355) Q) := by
  rw [k0_part13_eq_skeleton]; unfold k0_part13_skel
  simp only [Prog.lift, Prog.bind_op, Prog.bind_ret, Prog.pure_eq_ret, semSignalWord, semWaitWord, wp_deviceId]
  iintro H Hk
  iapply (wp_sig m K c 5 (by decide) (dev6_eq c) rfl rfl) $$ H; iintro H
  iapply wp_done
  iapply Hk
  iexact H

theorem part_14 (c : Dev nD) (v5 : BitVec 32) (v10 : BitVec 32) (v389 : BitVec 32) (v390 : BitVec 32) (v391 : BitVec 1) (v392 : BitVec 1) {Q : BitVec 32 → sProp 𝕄} :
    SG m K c 6 ⊢ iprop((∀ w0 : BitVec 32, (SG m K c 7 -∗ Q w0)) -∗ WP c (k0_part14 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v5 v10 (SemArray.scalar (sig.barrier 0 rfl)) v389 v390 v391 v392) Q) := by
  rw [k0_part14_eq_skeleton]; unfold k0_part14_skel
  simp only [Prog.lift, Prog.bind_op, Prog.bind_ret, Prog.pure_eq_ret, semSignalWord, semWaitWord, wp_deviceId]
  iintro H Hk
  iapply (wp_sig m K c 6 (by decide) (dev7_eq c) rfl rfl) $$ H; iintro H
  iapply wp_done
  iapply Hk
  iexact H

theorem part_15 (c : Dev nD) (v431 : BitVec 32) {Q : (Σ' (_ : BitVec 32) (_ : BitVec 32), BitVec 32) → sProp 𝕄} :
    iprop(∀ w0 : BitVec 32, ∀ w1 : BitVec 32, ∀ w2 : BitVec 32, Q ⟨w0, w1, w2⟩) ⊢ WP c (k0_part15 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 v431) Q := by
  rw [k0_part15_eq_skeleton]; unfold k0_part15_skel
  simp only [Prog.lift, Prog.bind_op, Prog.bind_ret, Prog.pure_eq_ret, semSignalWord, semWaitWord, wp_deviceId]
  iintro Hk
  iapply wp_done
  iapply Hk

theorem part_16 (c : Dev nD) (v5 : BitVec 32) (v10 : BitVec 32) (v468 : BitVec 32) (v469 : BitVec 32) (c0_i32_372 : BitVec 32) {Q : (Σ' (_ : BitVec 32) (_ : BitVec 32) (_ : BitVec 32) (_ : BitVec 1), BitVec 1) → sProp 𝕄} :
    SG m K c 7 ⊢ iprop((∀ w0 : BitVec 32, ∀ w1 : BitVec 32, ∀ w2 : BitVec 32, ∀ w3 : BitVec 1, ∀ w4 : BitVec 1, (SG m K c 8 -∗ Q ⟨w0, w1, w2, w3, w4⟩)) -∗ WP c (k0_part16 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v5 v10 (SemArray.scalar (sig.barrier 0 rfl)) v468 v469 c0_i32_372) Q) := by
  rw [k0_part16_eq_skeleton]; unfold k0_part16_skel
  simp only [Prog.lift, Prog.bind_op, Prog.bind_ret, Prog.pure_eq_ret, semSignalWord, semWaitWord, wp_deviceId]
  iintro H Hk
  iapply (wp_sig m K c 7 (by decide) (dev8_eq c) rfl rfl) $$ H; iintro H
  iapply wp_done
  iapply Hk
  iexact H

theorem part_17 (c : Dev nD) (v5 : BitVec 32) (v10 : BitVec 32) (v502 : BitVec 32) (v504 : BitVec 32) (v505 : BitVec 32) (v506 : BitVec 1) (v507 : BitVec 1) {Q : (Σ' (_ : BitVec 32), BitVec 32) → sProp 𝕄} :
    SG m K c 8 ⊢ iprop((∀ w0 : BitVec 32, ∀ w1 : BitVec 32, (SG m K c 9 -∗ Q ⟨w0, w1⟩)) -∗ WP c (k0_part17 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v5 v10 (SemArray.scalar (sig.barrier 0 rfl)) v502 v504 v505 v506 v507) Q) := by
  rw [k0_part17_eq_skeleton]; unfold k0_part17_skel
  simp only [Prog.lift, Prog.bind_op, Prog.bind_ret, Prog.pure_eq_ret, semSignalWord, semWaitWord, wp_deviceId]
  iintro H Hk
  iapply (wp_sig m K c 8 (by decide) (dev9_eq c) rfl rfl) $$ H; iintro H
  iapply wp_done
  iapply Hk
  iexact H
/-- The queries staged on the device. -/
def QS (q : PosShare TreeShare) (c : Dev nD) : sProp 𝕄 := iprop(((c : Thread nD τ).loc cc0_stg0_0) ↦{q} (qstg m c))

theorem wp_loadQ (q : PosShare TreeShare) (c : Dev nD) {off inb hl} (hoff : off = ![bof c, 0, 0, 0]) {α : Type} {Q : α → sProp 𝕄} {k : Vec F S1x8x16x128 .f32 → Prog (TpuEff nD τ sig (Elt F) Λ₀ .tc) α} :
    QS m q c ⊢ iprop((QS m q c -∗ WP c (k (qM.view.readAt (Elt F) (Rect.unit (s := S8x8x16x128) ![bof c, 0, 0, 0] S1x8x16x128.size (inb_q _ (bof_lt c))).toLoadRect (qstg m c))) Q)
      -∗ WP c (.op (.load qM (Rect.unit (s := S8x8x16x128) off S1x8x16x128.size inb).toLoadRect hl) k) Q) := by
  subst hoff
  unfold QS
  iintro H Hk
  iapply (wp_load 𝒱₀ (c : Thread nD τ) none Set.univ (m := qM) (Finset.subset_univ _)) $$ H
  iintro H
  iapply Hk
  iexact H

/-- What the heads begin from. -/
theorem start_HD (c : Dev nD) : iprop(records m K ∗ OW (F := F) c 10 ∗ CP m c 16 16 ∗ opS m c 0 ∗ lbS m c 0) ⊢ HD m K c 0 0 0 0 := by
  unfold HD CP
  rw [fam_next (kIdle m c) (kFly m c) (kDone m c) 16 (le_refl _), fam_next (vIdle m c) (vFly m c) (vDone m c) 16 (le_refl _)]
  iintro ⟨HR, HO, ⟨HK, HV⟩, Ho, Hl⟩
  isplitl [HR]; · iexact HR
  isplitl [HO]; · iexact HO
  isplitl [HK]; · iexact HK
  isplitl [HV]; · iexact HV
  isplitl [Ho]; · iexact Ho
  iexact Hl

theorem part_18 (c : Dev nD) (q : PosShare TreeShare) (v5 : BitVec 32) (v10 : BitVec 32) (v529 : BitVec 32) (v546 : BitVec 32) {Q : FVec F S8x16x128 .f32 → sProp 𝕄} :
    iprop(SG m K c 9 ∗ cred (tallyAt (cell c 0) () 10) ∗ atPos ER (cell c 0) 0 ∅ 0 ∗ QS m q c ∗ CP m c 16 16 ∗ opS m c 0 ∗ lbS m c 0) ⊢ iprop(((iprop(HD m K c 1 0 0 0 ∗ QS m q c ∗ semVal (cell c 0) 0 ∗ bigSep (dutiesOf 0) (fun d => barPay (F := F) c d)) -∗ Q (qb m c))) -∗ WP c (k0_part18 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v5 v10 (SemArray.scalar (sig.barrier 0 rfl)) v529 v546) Q) := by
  rw [k0_part18_eq_skeleton]; unfold k0_part18_skel
  simp only [Prog.lift, Prog.bind_op, Prog.bind_ret, Prog.pure_eq_ret, semSignalWord, semWaitWord, wp_deviceId]
  iintro ⟨H, Hc, Hp, HQ, HC, Ho, Hl⟩ Hk
  iapply (wp_sig m K c 9 (by decide) (dev10_eq c) rfl rfl) $$ H; iintro H
  unfold SG
  icases H with ⟨#HR, HO, -⟩
  iapply (wp_bar m K c rfl rfl) $$ [HO Hc Hp]
  · isplitr; · iexact HR
    isplitl [HO]; · iexact HO
    isplitl [Hc]; · iexact Hc
    iexact Hp
  iintro ⟨HO, Hs, Hb⟩
  iapply (wp_loadQ m q c (k0_off17_eq c)) $$ HQ; iintro HQ
  ihave H : HD m K c 0 0 0 0 $$ [HO HC Ho Hl]
  · iapply (start_HD m K c)
    isplitr; · iexact HR
    isplitl [HO]; · iexact HO
    isplitl [HC]; · iexact HC
    isplitl [Ho]; · iexact Ho
    iexact Hl
  iapply (wp_waitK m K c 0 0 0 0 (by decide)) $$ H; iintro H
  iapply (wp_done c (qb m c) Q)
  iapply Hk
  isplitl [H]; · iexact H
  isplitl [HQ]; · iexact HQ
  isplitl [Hs]; · iexact Hs
  iexact Hb

end Cert.Att

end
-- ==== Proof.PartsC.lean ====
/-
# The body, part by part: heads 0 to 7
-/
module

public import proofs.«01_k».proof.Proof.OpsLoop

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

theorem part_19 (c : Dev nD)  {Q : PUnit → sProp 𝕄} :
    HD m K c 1 0 0 0 ⊢ iprop(((HD m K c 2 1 1 1 -∗ Q ⟨⟩)) -∗ WP c (k0_part19 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (qb m c)) Q) := by
  rw [k0_part19_eq_skeleton]; unfold k0_part19_skel
  simp only [Prog.lift, Prog.bind_op, Prog.bind_ret, Prog.pure_eq_ret, semSignalWord, semWaitWord, wp_deviceId]
  iintro H Hk
  iapply (wp_waitV m K c 1 0 0 0 (by decide)) $$ H; iintro H
  iapply (wp_loadK m K c 1 1 0 0 0 (by decide) (by decide)) $$ H; iintro H
  iapply (wp_loadV m K c 1 1 0 0 0 (by decide) (by decide)) $$ H; iintro H
  iapply (wp_loadOp m K c 1 1 0 0 _) $$ H; iintro %v591 H
  iapply (wp_storeOp m K c 1 1 0 0 (by decide)) $$ [H]
  · isplitl [H]; · iexact H
    ipureintro; rfl
  iintro H
  iapply (wp_loadLb m K c 1 1 1 0 _) $$ H; iintro %v596 H
  iapply (wp_storeLb m K c 1 1 1 0 (by decide)) $$ [H]
  · isplitl [H]; · iexact H
    ipureintro; rfl
  iintro H
  iapply (wp_waitK m K c 1 1 1 1 (by decide)) $$ H; iintro H
  iapply wp_done
  iapply Hk
  iexact H

theorem part_20 (c : Dev nD)  {Q : PUnit → sProp 𝕄} :
    HD m K c 2 1 1 1 ⊢ iprop(((HD m K c 2 2 2 2 -∗ Q ⟨⟩)) -∗ WP c (k0_part20 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (qb m c)) Q) := by
  rw [k0_part20_eq_skeleton]; unfold k0_part20_skel
  simp only [Prog.lift, Prog.bind_op, Prog.bind_ret, Prog.pure_eq_ret, semSignalWord, semWaitWord, wp_deviceId]
  iintro H Hk
  iapply (wp_waitV m K c 2 1 1 1 (by decide)) $$ H; iintro H
  iapply (wp_loadK m K c 2 2 1 1 1 (by decide) (by decide)) $$ H; iintro H
  iapply (wp_loadV m K c 2 2 1 1 1 (by decide) (by decide)) $$ H; iintro H
  iapply (wp_loadOp m K c 2 2 1 1 _) $$ H; iintro %v624 H
  iapply (wp_storeOp m K c 2 2 1 1 (by decide)) $$ [H]
  · isplitl [H]; · iexact H
    ipureintro; rfl
  iintro H
  iapply (wp_loadLb m K c 2 2 2 1 _) $$ H; iintro %v629 H
  iapply (wp_storeLb m K c 2 2 2 1 (by decide)) $$ [H]
  · isplitl [H]; · iexact H
    ipureintro; rfl
  iintro H
  iapply wp_done
  iapply Hk
  iexact H

theorem part_21 (c : Dev nD)  {Q : PUnit → sProp 𝕄} :
    HD m K c 2 2 2 2 ⊢ iprop(((HD m K c 3 3 3 3 -∗ Q ⟨⟩)) -∗ WP c (k0_part21 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (qb m c)) Q) := by
  rw [k0_part21_eq_skeleton]; unfold k0_part21_skel
  simp only [Prog.lift, Prog.bind_op, Prog.bind_ret, Prog.pure_eq_ret, semSignalWord, semWaitWord, wp_deviceId]
  iintro H Hk
  iapply (wp_waitK m K c 2 2 2 2 (by decide)) $$ H; iintro H
  iapply (wp_waitV m K c 3 2 2 2 (by decide)) $$ H; iintro H
  iapply (wp_loadK m K c 3 3 2 2 2 (by decide) (by decide)) $$ H; iintro H
  iapply (wp_loadV m K c 3 3 2 2 2 (by decide) (by decide)) $$ H; iintro H
  iapply (wp_loadOp m K c 3 3 2 2 _) $$ H; iintro %v657 H
  iapply (wp_storeOp m K c 3 3 2 2 (by decide)) $$ [H]
  · isplitl [H]; · iexact H
    ipureintro; rfl
  iintro H
  iapply (wp_loadLb m K c 3 3 3 2 _) $$ H; iintro %v662 H
  iapply (wp_storeLb m K c 3 3 3 2 (by decide)) $$ [H]
  · isplitl [H]; · iexact H
    ipureintro; rfl
  iintro H
  iapply wp_done
  iapply Hk
  iexact H

theorem part_22 (c : Dev nD)  {Q : FVec F S8x128 .f32 → sProp 𝕄} :
    HD m K c 3 3 3 3 ⊢ iprop(((HD m K c 4 4 4 3 -∗ Q (k0_pay13 (qb m c) (kh m c ⟨3, by decide⟩)))) -∗ WP c (k0_part22 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (qb m c)) Q) := by
  rw [k0_part22_eq_skeleton]; unfold k0_part22_skel
  simp only [Prog.lift, Prog.bind_op, Prog.bind_ret, Prog.pure_eq_ret, semSignalWord, semWaitWord, wp_deviceId]
  iintro H Hk
  iapply (wp_waitK m K c 3 3 3 3 (by decide)) $$ H; iintro H
  iapply (wp_waitV m K c 4 3 3 3 (by decide)) $$ H; iintro H
  iapply (wp_loadK m K c 4 4 3 3 3 (by decide) (by decide)) $$ H; iintro H
  iapply (wp_loadV m K c 4 4 3 3 3 (by decide) (by decide)) $$ H; iintro H
  iapply (wp_loadOp m K c 4 4 3 3 _) $$ H; iintro %v690 H
  iapply (wp_storeOp m K c 4 4 3 3 (by decide)) $$ [H]
  · isplitl [H]; · iexact H
    ipureintro; rfl
  iintro H
  iapply wp_done
  iapply Hk
  iexact H

theorem part_23 (c : Dev nD)  {Q : (Σ' (_ : FVec F S8x1 .f32) (_ : FVec F S8x128 .f32), Vec F S8x1x128 .f32) → sProp 𝕄} :
    HD m K c 4 4 4 3 ⊢ iprop((∀ w2 : Vec F S8x1x128 .f32, (HD m K c 5 5 4 4 -∗ Q ⟨k0_pay16 (qb m c) (kh m c ⟨4, by decide⟩), k0_pay17 (qb m c) (kh m c ⟨4, by decide⟩) (vh m c ⟨4, by decide⟩), w2⟩)) -∗ WP c (k0_part23 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (qb m c) (k0_pay13 (qb m c) (kh m c ⟨3, by decide⟩))) Q) := by
  rw [k0_part23_eq_skeleton]; unfold k0_part23_skel
  simp only [Prog.lift, Prog.bind_op, Prog.bind_ret, Prog.pure_eq_ret, semSignalWord, semWaitWord, wp_deviceId]
  iintro H Hk
  iapply (wp_loadLb m K c 4 4 4 3 _) $$ H; iintro %v695 H
  iapply (wp_storeLb m K c 4 4 4 3 (by decide)) $$ [H]
  · isplitl [H]; · iexact H
    ipureintro; rfl
  iintro H
  iapply (wp_waitK m K c 4 4 4 4 (by decide)) $$ H; iintro H
  iapply (wp_waitV m K c 5 4 4 4 (by decide)) $$ H; iintro H
  iapply (wp_loadK m K c 5 5 4 4 4 (by decide) (by decide)) $$ H; iintro H
  iapply (wp_loadV m K c 5 5 4 4 4 (by decide) (by decide)) $$ H; iintro H
  iapply (wp_loadOp m K c 5 5 4 4 _) $$ H; iintro %v723 H
  iapply wp_done
  iapply Hk
  iexact H

theorem part_24 (c : Dev nD) (v723 : Vec F S8x1x128 .f32) {Q : (Σ' (_ : FVec F S8x1024 .f32) (_ : FVec F S8x1 .f32), Vec F S1x1024x128 .f32) → sProp 𝕄} :
    HD m K c 5 5 4 4 ⊢ iprop(((HD m K c 6 6 5 5 -∗ Q ⟨k0_pay20 (qb m c) (kh m c ⟨5, by decide⟩), k0_pay21 (qb m c) (kh m c ⟨5, by decide⟩), (vh m c ⟨5, by decide⟩)⟩)) -∗ WP c (k0_part24 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (qb m c) (k0_pay16 (qb m c) (kh m c ⟨4, by decide⟩)) (k0_pay17 (qb m c) (kh m c ⟨4, by decide⟩) (vh m c ⟨4, by decide⟩)) v723) Q) := by
  rw [k0_part24_eq_skeleton]; unfold k0_part24_skel
  simp only [Prog.lift, Prog.bind_op, Prog.bind_ret, Prog.pure_eq_ret, semSignalWord, semWaitWord, wp_deviceId]
  iintro H Hk
  iapply (wp_storeOp m K c 5 5 4 4 (by decide)) $$ [H]
  · isplitl [H]; · iexact H
    ipureintro; rfl
  iintro H
  iapply (wp_loadLb m K c 5 5 5 4 _) $$ H; iintro %v728 H
  iapply (wp_storeLb m K c 5 5 5 4 (by decide)) $$ [H]
  · isplitl [H]; · iexact H
    ipureintro; rfl
  iintro H
  iapply (wp_waitK m K c 5 5 5 5 (by decide)) $$ H; iintro H
  iapply (wp_waitV m K c 6 5 5 5 (by decide)) $$ H; iintro H
  iapply (wp_loadK m K c 6 6 5 5 5 (by decide) (by decide)) $$ H; iintro H
  iapply (wp_loadV m K c 6 6 5 5 5 (by decide) (by decide)) $$ H; iintro H
  iapply wp_done
  iapply Hk
  iexact H

theorem part_25 (c : Dev nD)  {Q : FVec F S8x1024 .f32 → sProp 𝕄} :
    HD m K c 6 6 5 5 ⊢ iprop(((HD m K c 7 7 6 6 -∗ Q (k0_pay24 (qb m c) (kh m c ⟨6, by decide⟩)))) -∗ WP c (k0_part25 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (qb m c) (k0_pay20 (qb m c) (kh m c ⟨5, by decide⟩)) (k0_pay21 (qb m c) (kh m c ⟨5, by decide⟩)) (vh m c ⟨5, by decide⟩)) Q) := by
  rw [k0_part25_eq_skeleton]; unfold k0_part25_skel
  simp only [Prog.lift, Prog.bind_op, Prog.bind_ret, Prog.pure_eq_ret, semSignalWord, semWaitWord, wp_deviceId]
  iintro H Hk
  iapply (wp_loadOp m K c 6 6 5 5 _) $$ H; iintro %v756 H
  iapply (wp_storeOp m K c 6 6 5 5 (by decide)) $$ [H]
  · isplitl [H]; · iexact H
    ipureintro; rfl
  iintro H
  iapply (wp_loadLb m K c 6 6 6 5 _) $$ H; iintro %v761 H
  iapply (wp_storeLb m K c 6 6 6 5 (by decide)) $$ [H]
  · isplitl [H]; · iexact H
    ipureintro; rfl
  iintro H
  iapply (wp_waitK m K c 6 6 6 6 (by decide)) $$ H; iintro H
  iapply (wp_waitV m K c 7 6 6 6 (by decide)) $$ H; iintro H
  iapply (wp_loadK m K c 7 7 6 6 6 (by decide) (by decide)) $$ H; iintro H
  iapply wp_done
  iapply Hk
  iexact H

theorem part_26 (c : Dev nD)  {Q : (Σ' (_ : FVec F S8x128 .f32), Vec F S1x1024x128 .f32) → sProp 𝕄} :
    HD m K c 7 7 6 6 ⊢ iprop(((HD m K c 8 8 7 7 -∗ Q ⟨k0_pay27 (qb m c), (kh m c ⟨7, by decide⟩)⟩)) -∗ WP c (k0_part26 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (qb m c) (k0_pay24 (qb m c) (kh m c ⟨6, by decide⟩))) Q) := by
  rw [k0_part26_eq_skeleton]; unfold k0_part26_skel
  simp only [Prog.lift, Prog.bind_op, Prog.bind_ret, Prog.pure_eq_ret, semSignalWord, semWaitWord, wp_deviceId]
  iintro H Hk
  iapply (wp_loadV m K c 7 7 6 6 6 (by decide) (by decide)) $$ H; iintro H
  iapply (wp_loadOp m K c 7 7 6 6 _) $$ H; iintro %v789 H
  iapply (wp_storeOp m K c 7 7 6 6 (by decide)) $$ [H]
  · isplitl [H]; · iexact H
    ipureintro; rfl
  iintro H
  iapply (wp_loadLb m K c 7 7 7 6 _) $$ H; iintro %v794 H
  iapply (wp_storeLb m K c 7 7 7 6 (by decide)) $$ [H]
  · isplitl [H]; · iexact H
    ipureintro; rfl
  iintro H
  iapply (wp_waitK m K c 7 7 7 7 (by decide)) $$ H; iintro H
  iapply (wp_waitV m K c 8 7 7 7 (by decide)) $$ H; iintro H
  iapply (wp_loadK m K c 8 8 7 7 7 (by decide) (by decide)) $$ H; iintro H
  iapply wp_done
  iapply Hk
  iexact H

theorem part_27 (c : Dev nD)  {Q : PUnit → sProp 𝕄} :
    HD m K c 8 8 7 7 ⊢ iprop(((HD m K c 9 8 8 8 -∗ Q ⟨⟩)) -∗ WP c (k0_part27 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (k0_pay27 (qb m c)) (kh m c ⟨7, by decide⟩)) Q) := by
  rw [k0_part27_eq_skeleton]; unfold k0_part27_skel
  simp only [Prog.lift, Prog.bind_op, Prog.bind_ret, Prog.pure_eq_ret, semSignalWord, semWaitWord, wp_deviceId]
  iintro H Hk
  iapply (wp_loadV m K c 8 8 7 7 7 (by decide) (by decide)) $$ H; iintro H
  iapply (wp_loadOp m K c 8 8 7 7 _) $$ H; iintro %v822 H
  iapply (wp_storeOp m K c 8 8 7 7 (by decide)) $$ [H]
  · isplitl [H]; · iexact H
    ipureintro; rfl
  iintro H
  iapply (wp_loadLb m K c 8 8 8 7 _) $$ H; iintro %v827 H
  iapply (wp_storeLb m K c 8 8 8 7 (by decide)) $$ [H]
  · isplitl [H]; · iexact H
    ipureintro; rfl
  iintro H
  iapply (wp_waitK m K c 8 8 8 8 (by decide)) $$ H; iintro H
  iapply wp_done
  iapply Hk
  iexact H

end Cert.Att

end
-- ==== Proof.OpsWait.lean ====
/-
# Waiting on the cells of the exchanges
-/
module

public import proofs.«01_k».proof.Proof.OpsHead

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

/-- Before the wait on cell `i`: its credit, and the position of its round. -/
def wI (c : Dev nD) (i : Fin 21) : sProp 𝕄 := iprop(cred (tallyAt (cell c i) () (amt i.val)) ∗ atPos ER (cell c i) 0 ∅ 0)
/-- After it: the semaphore at zero, and what the copy brought. -/
def wD (c : Dev nD) (i : Fin 21) : sProp 𝕄 := iprop(semVal (cell c i) 0 ∗ pay m c i.val 0)

theorem wp_waitCell (c : Dev nD) (i : Fin 21) (hi : 0 < i.val) (n : ℕ) (hl : ∀ t : Fin 20, n ≤ t.val → lvn i.val < lvn (pidx t).val)
    {sq : DmaSem sig} (hq : SemLoc.dma sq = csem i) {sp sp' : Space} {s s' : Shape} {e e' : EltTy} {src : Memref sig .tc sp' s' e'} {dst : Memref sig .tc sp s e}
    (hN : dst.view.dmaCredit = amt i.val) {hsrc : src.view.WordExact} {hdst : dst.view.WordExact} {α : Type} {Q : α → sProp 𝕄}
    {k : PUnit → Prog (TpuEff nD τ sig (Elt F) Λ₀ .tc) α} :
    iprop(records m K ∗ OW (F := F) c n ∗ wI c i)
      ⊢ iprop((iprop(OW (F := F) c n ∗ wD m c i) -∗ WP c (k ⟨⟩) Q) -∗ WP c (.op (.waitDma2 sq src dst hsrc hdst) k) Q) := by
  have hpay := rest_cell m c i hi
  have hmw : (levAts L lv : sProp 𝕄) ⊢ MayWait (c : Thread nD τ) (.dma sq) () (owedFrom c n) :=
    mayWait c (.dma sq) n (fun t ht => by rw [hq, num_csem]; exact hl t ht)
  have hcell : ((c : Thread nD τ), SemLoc.dma sq) = cell c i := by rw [hq]
  unfold OW wI
  rw [← hcell, ← hN]
  rw [← hcell] at hpay
  iintro ⟨#HR, ⟨%W, HO⟩, Hc, Hat⟩ Hk
  ihave #Hi := (records_inv m K c i) $$ HR
  iapply (Rounds.wp_wait_rest_token 𝒱₀ ER (Rd m) (c : Thread nD τ) none (κ := K (c, i)) (sm := .dma sq) (wpE_waitDma2_eq 𝒱₀ (c : Thread nD τ) none Set.univ)
    (Set.mem_univ _) () (O := owedFrom c n) (W := W) (R := 0) (m := 0) (T := ∅)
    (by rw [hcell, expect_cell m c i hi, Nat.zero_add, hN])) $$ [HO Hc Hat]
  · isplitr; · rw [hcell]; iexact Hi
    isplitl [Hc]; · iexact Hc
    isplitl [HO]; · iexact HO
    isplitr; · iapply hmw; iapply (records_lev m K); iexact HR
    iexact Hat
  iintro ⟨HO, Hat, _, Hp⟩
  imod (Rounds.cell_close ER (Rd m) (Set.mem_univ (K (c, i))) (fun h => h) (R := 0 + 1) (duties_later m (cell c i))) $$ [Hat] with Hz
  · isplitr; · iexact Hi
    rw [← hcell]; iexact Hat
  iapply Hk
  isplitl [HO]; · iexists _; iexact HO
  unfold wD
  isplitl [Hz]; · iexact Hz
  iapply (Entails.of_eq hpay); iexact Hp

/-- While `N` cells are waited on in turn: `j` done. -/
def WT {N : ℕ} (ix : Fin N → Fin 21) (c : Dev nD) (n j : ℕ) : sProp 𝕄 :=
  iprop(records m K ∗ OW (F := F) c n ∗ fam (fun o => wI (F := F) c (ix o)) (fun o => wD m c (ix o)) j)

theorem wp_waitF {N : ℕ} (ix : Fin N → Fin 21) (c : Dev nD) (n : ℕ) (j : ℕ) (hj : j < N) (hi : 0 < (ix ⟨j, hj⟩).val)
    (hl : ∀ t : Fin 20, n ≤ t.val → lvn (ix ⟨j, hj⟩).val < lvn (pidx t).val)
    {sq : DmaSem sig} (hq : SemLoc.dma sq = csem (ix ⟨j, hj⟩)) {sp sp' : Space} {s s' : Shape} {e e' : EltTy} {src : Memref sig .tc sp' s' e'} {dst : Memref sig .tc sp s e}
    (hN : dst.view.dmaCredit = amt (ix ⟨j, hj⟩).val) {hsrc : src.view.WordExact} {hdst : dst.view.WordExact} {α : Type} {Q : α → sProp 𝕄}
    {k : PUnit → Prog (TpuEff nD τ sig (Elt F) Λ₀ .tc) α} :
    WT m K ix c n j ⊢ iprop((WT m K ix c n (j + 1) -∗ WP c (k ⟨⟩) Q) -∗ WP c (.op (.waitDma2 sq src dst hsrc hdst) k) Q) := by
  have e := fam_take (fun o => wI (F := F) c (ix o)) (fun o => wD m c (ix o)) ⟨j, hj⟩
  unfold WT
  iintro ⟨#HR, HO, HF⟩ Hk
  ihave HF' := e $$ HF
  icases HF' with ⟨HA, HB⟩
  iapply (wp_waitCell m K c (ix ⟨j, hj⟩) hi n hl hq (src := src) (dst := dst) hN (hsrc := hsrc) (hdst := hdst)) $$ [HO HA]
  · isplitr; · iexact HR
    isplitl [HO]; · iexact HO
    iexact HA
  iintro ⟨HO, HD⟩
  iapply Hk
  isplitr; · iexact HR
  isplitl [HO]; · iexact HO
  iapply HB; iexact HD

/-- A wait for a block of the first exchange. -/
theorem wp_waitFA {N : ℕ} (ix : Fin N → Fin 21) (c : Dev nD) (n : ℕ) (j : ℕ) (hj : j < N) (hi : 0 < (ix ⟨j, hj⟩).val)
    (hl : ∀ t : Fin 20, n ≤ t.val → lvn (ix ⟨j, hj⟩).val < lvn (pidx t).val)
    (hN : NA = amt (ix ⟨j, hj⟩).val)
    {sq : DmaSem sig} (hq : SemLoc.dma sq = csem (ix ⟨j, hj⟩)) {src dst : Memref sig (c : Thread nD τ).2.kind .vmem S256x128 .bf16}
    {hsrc : src.view.WordExact} {hdst : dst.view.WordExact} {α : Type} {Q : α → sProp 𝕄}
    {k : PUnit → Prog (TpuEff nD τ sig (Elt F) Λ₀ .tc) α} :
    WT m K ix c n j ⊢ iprop((WT m K ix c n (j + 1) -∗ WP c (k ⟨⟩) Q) -∗ WP c (.op (.waitDma2 sq src dst hsrc hdst) k) Q) :=
  wp_waitF m K ix c n j hj hi hl hq (src := src) (dst := dst) (hsrc := hsrc) (hdst := hdst) (show NA = _ from hN)

/-- A wait for a block of the second exchange. -/
theorem wp_waitFB {N : ℕ} (ix : Fin N → Fin 21) (c : Dev nD) (n : ℕ) (j : ℕ) (hj : j < N) (hi : 0 < (ix ⟨j, hj⟩).val)
    (hl : ∀ t : Fin 20, n ≤ t.val → lvn (ix ⟨j, hj⟩).val < lvn (pidx t).val)
    (hN : NB = amt (ix ⟨j, hj⟩).val)
    {sq : DmaSem sig} (hq : SemLoc.dma sq = csem (ix ⟨j, hj⟩)) {src dst : Memref sig (c : Thread nD τ).2.kind .vmem S128x128 .bf16}
    {hsrc : src.view.WordExact} {hdst : dst.view.WordExact} {α : Type} {Q : α → sProp 𝕄}
    {k : PUnit → Prog (TpuEff nD τ sig (Elt F) Λ₀ .tc) α} :
    WT m K ix c n j ⊢ iprop((WT m K ix c n (j + 1) -∗ WP c (k ⟨⟩) Q) -∗ WP c (.op (.waitDma2 sq src dst hsrc hdst) k) Q) :=
  wp_waitF m K ix c n j hj hi hl hq (src := src) (dst := dst) (hsrc := hsrc) (hdst := hdst) (show NB = _ from hN)

end Cert.Att

end
-- ==== Proof.OpsSendA.lean ====
/-
# The copies of the first exchange
-/
module

public import proofs.«01_k».proof.Proof.OpsWait

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

/-! ## Exchange A: semaphores -/

abbrev sendSemA (n : ℕ) (inb : ∀ a, (![n] : Fin 1 → ℕ) a + S1.size a ≤ S3.size a) : DmaSem sig :=
  ((cc0_scratch8.slice (Rect.unit (s := S3) ![n] S1.size inb)).squeeze S_ squeezes_S1_S_).sem
abbrev recvSemA (n : ℕ) (inb : ∀ a, (![n] : Fin 1 → ℕ) a + S1.size a ≤ S3.size a) : DmaSem sig :=
  ((cc0_scratch9.slice (Rect.unit (s := S3) ![n] S1.size inb)).squeeze S_ squeezes_S1_S_).sem

/-- The cells a device waits on after its own copies. -/
def sixAA (o : Fin 3) : Fin 21 := ⟨1 + o.val, by omega⟩
/-- The cells a device receives on. -/
def rixAA (o : Fin 3) : Fin 21 := ⟨4 + o.val, by omega⟩

theorem sendSemA_eq (n : ℕ) (hn : n < 3) (inb) : SemLoc.dma (sendSemA n inb) = csem (sixAA ⟨n, hn⟩) := by interval_cases n <;> decide +revert
theorem recvSemA_eq (n : ℕ) (hn : n < 3) (inb) : SemLoc.dma (recvSemA n inb) = csem (rixAA ⟨n, hn⟩) := by interval_cases n <;> decide +revert

theorem pay_sendA (c : Dev nD) (o : Fin 3) : pay m c (sixAA o).val 0 = ptA c (yof c) (shareTokN fullShare o.val) (Ga m c) := by
  fin_cases o <;> rfl
theorem pay_recvA (c : Dev nD) (o : Fin 3) : pay m c (rixAA o).val 0 = ptA c (fromY c o.val) fullShare (Ga m c) := by
  fin_cases o <;> rfl
theorem amt_sendA (o : Fin 3) : amt (sixAA o).val = NA := by fin_cases o <;> rfl
theorem amt_recvA (o : Fin 3) : amt (rixAA o).val = NA := by fin_cases o <;> rfl
theorem pcellA (c : Dev nD) (o : Fin 3) : owedFrom c (10 + o.val) = owedFrom c (10 + o.val + 1) + tallyAt (cell (ysh ⟨o.val + 1, by omega⟩ c) (rixAA o)) () NA := by
  have h := owedFrom_peel c ⟨10 + o.val, by omega⟩
  fin_cases o <;> exact h

/-! ## Exchange A: sends -/

/-- Before the `o`-th copy: the rights to pay both its cells, the peer's slot, and a share of the own one. -/
def sIA (c : Dev nD) (o : Fin 3) : sProp 𝕄 :=
  iprop(dutyTok ER (cell c (sixAA o)) 0 0 ∗ dutyTok ER (cell (ysh ⟨o.val + 1, by omega⟩ c) (rixAA o)) 0 0
    ∗ (∃ f, ptA (F := F) (ysh ⟨o.val + 1, by omega⟩ c) (yof c) fullShare f) ∗ ptA c (yof c) (shareTokN fullShare o.val) (Ga m c))
/-- After it: the credit for its end. -/
def sDA (c : Dev nD) (o : Fin 3) : sProp 𝕄 := cred (tallyAt (cell c (sixAA o)) () (amt (sixAA o).val))
/-- While the copies are sent: `n` of them. -/
def SXA (c : Dev nD) (n : ℕ) : sProp 𝕄 := iprop(records m K ∗ OW (F := F) c (10 + n) ∗ fam (sIA m c) (sDA (F := F) c) n)

theorem fromA_eq (c : Dev nD) (o : Fin 3) : fromY (ysh ⟨o.val + 1, by omega⟩ c) o.val = yof c := by
  have := yof_lt c
  unfold fromY; rw [yof_ysh]; show ((yof c + (o.val + 1)) % 4 + 4 - 1 - o.val) % 4 = yof c
  have := o.isLt
  omega

set_option maxHeartbeats 200000 in
theorem wp_sendA (c : Dev nD) (n : ℕ) (hn : n < 3) {d : Dev nD} (hd : d = ysh ⟨n + 1, by omega⟩ c) {off off' inb inb'}
    (hoff : off = ![yof c, 0, 0]) (hoff' : off' = ![yof c, 0, 0]) {inbs inbr}
    {hsc : (slA off' inb').view.ref.isScScratch = false} {hsrc : (slA off inb).view.WordExact} {hdst : (slA off' inb').view.WordExact}
    {hsem : DmaTarget.Typed .vmem (.dma (recvSemA n inbr)) (.remote (d : Thread nD τ) (slA off' inb') (.dma (sendSemA n inbs)) hsc)}
    {α : Type} {Q : α → sProp 𝕄} {k : PUnit → Prog (TpuEff nD τ sig (Elt F) Λ₀ .tc) α} :
    SXA m K c n ⊢ iprop((SXA m K c (n + 1) -∗ WP c (k ⟨⟩) Q)
      -∗ WP c (.op (.enqueueDma (slA off inb) (.remote (d : Thread nD τ) (slA off' inb') (.dma (sendSemA n inbs)) hsc) (.dma (recvSemA n inbr)) hsrc hdst hsem) k) Q) := by
  subst hd
  have e := fam_take (sIA m c) (sDA (F := F) c) ⟨n, hn⟩
  have hO := pcellA c ⟨n, hn⟩
  have hcs : ((c : Thread nD τ), SemLoc.dma (sendSemA n inbs)) = cell c (sixAA ⟨n, hn⟩) := by rw [sendSemA_eq n hn]
  have hcr : (((ysh ⟨n + 1, by omega⟩ c : Dev nD) : Thread nD τ), SemLoc.dma (recvSemA n inbr)) = cell (ysh ⟨n + 1, by omega⟩ c) (rixAA ⟨n, hn⟩) := by rw [recvSemA_eq n hn]
  have hset := set_a ⟨yof c, yof_lt c⟩ off inb hoff
  have hset' := set_a ⟨yof c, yof_lt c⟩ off' inb' hoff'
  have hd₁ : (0 : Fin 16) ∈ (Rd m).duties ((c : Thread nD τ), SemLoc.dma (sendSemA n inbs)) 0 := by
    rw [hcs, duties_cell, dutiesOf, if_neg (by show ¬ 1 + n = 0; omega)]; exact Finset.mem_singleton_self _
  have hd₂ : (0 : Fin 16) ∈ (Rd m).duties (((ysh ⟨n + 1, by omega⟩ c : Dev nD) : Thread nD τ), SemLoc.dma (recvSemA n inbr)) 0 := by
    rw [hcr, duties_cell, dutiesOf, if_neg (by show ¬ 4 + n = 0; omega)]; exact Finset.mem_singleton_self _
  have hk₁ : (Rd m).amount ((c : Thread nD τ), SemLoc.dma (sendSemA n inbs)) 0 0 = NA := by rw [hcs, amount_cell, amt_sendA]
  have hk₂ : (Rd m).amount (((ysh ⟨n + 1, by omega⟩ c : Dev nD) : Thread nD τ), SemLoc.dma (recvSemA n inbr)) 0 0 = NA := by rw [hcr, amount_cell, amt_recvA]
  have hpay₁ : (((slA off inb).view.loc (c : Thread nD τ)) ↦[(slA off inb).view.set]{shareTokN fullShare n} (Ga m c)) ⊢ (Rd m).payload ((c : Thread nD τ), SemLoc.dma (sendSemA n inbs)) 0 0 := by
    rw [hcs, payload_cell, pay_sendA, hset]; exact Entails.rfl
  have hpay₂ : ∀ fd, (((slA off' inb').view.loc ((ysh ⟨n + 1, by omega⟩ c : Dev nD) : Thread nD τ)) ↦[(slA off' inb').view.set]{fullShare}
      ((slA off' inb').view.write (Elt F) fd ((slA off inb).view.read (Elt F) (Ga m c)) Finset.univ))
      ⊢ (Rd m).payload (((ysh ⟨n + 1, by omega⟩ c : Dev nD) : Thread nD τ), SemLoc.dma (recvSemA n inbr)) 0 0 := by
    intro fd
    have hfr : fromY (ysh ⟨n + 1, by omega⟩ c) n = yof c := fromA_eq c ⟨n, hn⟩
    rw [hcr, payload_cell, pay_recvA, hset']
    rw [show fromY (ysh ⟨n + 1, by omega⟩ c) (⟨n, hn⟩ : Fin 3).val = yof c from hfr]
    unfold ptA
    refine Entails.of_eq (pointsTo_congr fun i hi => ?_)
    refine (copied_a ⟨yof c, yof_lt c⟩ off' inb' off inb hoff' hoff fd (Ga m c) i hi).trans ?_
    unfold Ga; rw [bof_ysh]
  have hN : (slA off' inb').view.amount (SemLoc.dma (recvSemA n inbr)) = NA := rfl
  have hr : τ.routes (c : Thread nD τ) ((ysh ⟨n + 1, by omega⟩ c : Dev nD) : Thread nD τ) = true := by routes
  have hO' : owedFrom c (10 + n) = owedFrom c (10 + n + 1) + tallyAt (((ysh ⟨n + 1, by omega⟩ c : Dev nD) : Thread nD τ), SemLoc.dma (recvSemA n inbr)) () NA := by
    rw [hcr]; exact hO
  have key := fun (fd : Buf (Elt F) ((slA off' inb').view.loc ((ysh ⟨n + 1, by omega⟩ c : Dev nD) : Thread nD τ))) (W : Waits sig Unit) =>
   Rounds.wp_send_pointsTo (defs := defs₀ (F := F)) (Γ := PendingWaitsCtx.empty) (Q := Q) (k := k) 𝒱₀ ER (Rd m) (c : Thread nD τ) none (c' := ((ysh ⟨n + 1, by omega⟩ c : Dev nD) : Thread nD τ)) (src := slA off inb) (dst := slA off' inb') (hsc := hsc) (hsrc := hsrc) (hdst := hdst) (hsem := hsem)
    (q := shareTokN fullShare n) (fs := (Ga m c)) (fd := fd)
    (κ₁ := K (c, sixAA ⟨n, hn⟩)) (κ₂ := K (ysh ⟨n + 1, by omega⟩ c, rixAA ⟨n, hn⟩)) (r₁ := 0) (r₂ := 0) (d₁ := 0) (d₂ := 0)
    hd₁ hd₂ () () NA hN hk₁ hk₂ (owedFrom c (10 + n + 1)) hO' (W := W) hpay₁ (hpay₂ fd) (Es := Set.univ) hr
  unfold SXA OW
  iintro ⟨#HR, ⟨%W, HO⟩, HF⟩ Hk
  ihave HF' := e $$ HF
  icases HF' with ⟨HA, HB⟩
  unfold sIA ptA
  icases HA with ⟨Ht1, Ht2, ⟨%fd, Hd⟩, Hs⟩
  iapply (key fd W) $$ [HO Ht1 Ht2 Hd Hs]
  · have i1 := records_inv m K c (sixAA ⟨n, hn⟩)
    have i2 := records_inv m K (ysh ⟨n + 1, by omega⟩ c) (rixAA ⟨n, hn⟩)
    have i3 := records_reached m K c (sixAA ⟨n, hn⟩)
    have i4 := records_reached m K (ysh ⟨n + 1, by omega⟩ c) (rixAA ⟨n, hn⟩)
    rw [← hcs] at i1 i3
    rw [← hcr] at i2 i4
    isplitr; · iapply i1; iexact HR
    isplitr; · iapply i2; iexact HR
    isplitl [Hs]; · rw [hset]; iexact Hs
    isplitl [Hd]; · rw [hset']; iexact Hd
    isplitl [HO]; · iexact HO
    isplitl [Ht1]; · rw [hcs]; iexact Ht1
    isplitr; · iapply i3; iexact HR
    isplitl [Ht2]; · rw [hcr]; iexact Ht2
    iapply i4; iexact HR
  iintro ⟨Hc, HO⟩
  iapply Hk
  isplitr; · iexact HR
  isplitl [HO]; · iexists W; iexact HO
  iapply HB
  unfold sDA
  rw [amt_sendA, hcs]; iexact Hc

end Cert.Att

end
-- ==== Proof.OpsLoadA.lean ====
/-
# The first exchange: filling the own slot and reading the slots
-/
module

public import proofs.«01_k».proof.Proof.OpsSendA
public import proofs.«01_k».proof.Proof.Slices

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

/-! ## Exchange A: the loads -/

/-- The buffer of the exchange, every slot filled. -/
def LA (c : Dev nD) : sProp 𝕄 :=
  iprop(ptA c (yof c) (shareDrop fullShare 3) (Ga m c) ∗ bigSep Finset.univ fun o : Fin 3 => wD m c (rixAA o))

theorem coverA (c : Dev nD) (k : ℕ) (hk : k < 4) : k = yof c ∨ ∃ o : Fin 3, fromY c o.val = k := by
  have := yof_lt c
  by_cases h : k = yof c
  · exact .inl h
  · refine .inr ⟨⟨(yof c + 4 - 1 - k) % 4, ?_⟩, ?_⟩
    · omega
    · show (yof c + 4 - 1 - (yof c + 4 - 1 - k) % 4) % 4 = k; omega

theorem readsetA (k : Fin 4) (inb) :
    aM.view.setOn (Rect.unit (s := S4x256x128) ![k.val, 0, 0] S1x256x128.size inb).toLoadRect.set ⊆ slotA k.val :=
  ((set_squeezed aM _ _ _).symm.trans (set_a k ![k.val, 0, 0] inb rfl)).subset

theorem wp_loadA (c : Dev nD) (n : ℕ) (hn : n < 4) {inb hl} {α : Type} {Q : α → sProp 𝕄} {k : Vec F S1x256x128 .bf16 → Prog (TpuEff nD τ sig (Elt F) Λ₀ .tc) α} :
    LA m c ⊢ iprop((LA m c -∗ WP c (k (rowA m (bof c) ⟨n, hn⟩)) Q)
      -∗ WP c (.op (.load aM (Rect.unit (s := S4x256x128) ![n, 0, 0] S1x256x128.size inb).toLoadRect hl) k) Q) := by
  rcases coverA c n hn with h | ⟨o, h⟩
  · have hs := readsetA ⟨n, hn⟩ inb
    have hs' : aM.view.setOn (Rect.unit (s := S4x256x128) ![n, 0, 0] S1x256x128.size inb).toLoadRect.set ⊆ slotA (yof c) := h ▸ hs
    unfold LA ptA
    iintro ⟨H, HB⟩ Hk
    iapply (wp_load 𝒱₀ (c : Thread nD τ) none Set.univ (m := aM) hs') $$ H
    iintro H
    iapply Hk
    isplitl [H]; · iexact H
    iexact HB
  · have hs := readsetA ⟨n, hn⟩ inb
    have hs' : aM.view.setOn (Rect.unit (s := S4x256x128) ![n, 0, 0] S1x256x128.size inb).toLoadRect.set ⊆ slotA (fromY c o.val) := h ▸ hs
    unfold LA
    rw [bigSep_univ_at (fun o : Fin 3 => wD m c (rixAA o)) o]
    unfold wD
    rw [pay_recvA m c o]
    unfold ptA
    iintro ⟨H0, ⟨Hz, H⟩, HB⟩ Hk
    iapply (wp_load 𝒱₀ (c : Thread nD τ) none Set.univ (m := aM) hs') $$ H
    iintro H
    iapply Hk
    isplitl [H0]; · iexact H0
    isplitr [HB]
    · isplitl [Hz]; · iexact Hz
      iexact H
    iexact HB

/-- A load of the own slot whose value is not used. -/
theorem wp_peekA (c : Dev nD) (r : LoadRect S4x256x128) (hr : aM.view.setOn r.set ⊆ slotA (yof c)) {q : PosShare TreeShare} {f} {hl} {α : Type} {Q : α → sProp 𝕄}
    {k : (r.shape.Idx → Elt F .bf16) → Prog (TpuEff nD τ sig (Elt F) Λ₀ .tc) α} :
    ptA c (yof c) q f ⊢ iprop((∀ v, (ptA c (yof c) q f -∗ WP c (k v) Q)) -∗ WP c (.op (.load aM r hl) k) Q) := by
  unfold ptA
  iintro H Hk
  iapply (wp_load 𝒱₀ (c : Thread nD τ) none Set.univ (m := aM) hr) $$ H
  iintro H
  iapply Hk
  iexact H

/-! ## The own slot -/

/-- The upper half of the own slot filled. -/
def ownA1 (c : Dev nD) : sProp 𝕄 :=
  iprop(∃ f, ⌜∀ (x : Fin 256) (hx : x.val < 128) (y : Fin 128), f (ix3 (⟨yof c, yof_lt c⟩ : Fin 4) x y) = k0_pay60 (opv m c) (ix3 (0 : Fin 1) (⟨x.val, hx⟩ : Fin 128) y)⌝
    ∗ ptA (F := F) c (yof c) fullShare f)

theorem wp_storeA0 (c : Dev nD) {off inb} (hoff : off = ![yof c, 0, 0]) {hx hm} {α : Type} {Q : α → sProp 𝕄} {k : PUnit → Prog (TpuEff nD τ sig (Elt F) Λ₀ .tc) α} {f} :
    ptA (F := F) c (yof c) fullShare f ⊢ iprop((ownA1 m c -∗ WP c (k ⟨⟩) Q)
      -∗ WP c (.op (.store aM (Rect.unit (s := S4x256x128) off S1x128x128.size inb) (k0_pay60 (opv m c)) Finset.univ hx hm) k) Q) := by
  have hs := half_a ⟨yof c, yof_lt c⟩ 0 (by omega) off hoff inb
  have hc := stored_a0 ⟨yof c, yof_lt c⟩ off hoff inb f (k0_pay60 (opv m c))
  unfold ownA1 ptA
  iintro H Hk
  iapply (wp_store 𝒱₀ (c : Thread nD τ) none Set.univ (m := aM) (r := Rect.unit (s := S4x256x128) off S1x128x128.size inb) (w := k0_pay60 (opv m c)) (Mk := Finset.univ) hs) $$ H
  iintro H
  iapply Hk
  iexists _
  isplitr
  · ipureintro; exact fun x hx y => hc x hx y
  iexact H

theorem wp_storeA1 (c : Dev nD) {off inb} (hoff : off = ![yof c, 128, 0]) {hx hm} {α : Type} {Q : α → sProp 𝕄} {k : PUnit → Prog (TpuEff nD τ sig (Elt F) Λ₀ .tc) α} :
    ownA1 m c ⊢ iprop((ptA c (yof c) fullShare (Ga m c) -∗ WP c (k ⟨⟩) Q)
      -∗ WP c (.op (.store aM (Rect.unit (s := S4x256x128) off S1x128x128.size inb) (k0_pay61 (lbv m c)) Finset.univ hx hm) k) Q) := by
  have hs := half_a ⟨yof c, yof_lt c⟩ 128 (by omega) off hoff inb
  unfold ownA1 ptA
  iintro ⟨%f, %hf, H⟩ Hk
  have hc := stored_a1 ⟨yof c, yof_lt c⟩ off hoff inb f (k0_pay61 (lbv m c))
  iapply (wp_store 𝒱₀ (c : Thread nD τ) none Set.univ (m := aM) (r := Rect.unit (s := S4x256x128) off S1x128x128.size inb) (w := k0_pay61 (lbv m c)) (Mk := Finset.univ) hs) $$ H
  iintro H
  iapply Hk
  have hcong : ∀ i ∈ slotA (yof c), (aM.access (Rect.unit (s := S4x256x128) off S1x128x128.size inb)).write (Elt F) f (k0_pay61 (lbv m c)) Finset.univ i = Ga m c i := by
    intro i hi
    obtain ⟨x, y, rfl⟩ := (mem_slotA ⟨yof c, yof_lt c⟩ i).mp hi
    refine (hc x y).trans ?_
    show _ = chunk m (dv (bof c) (yof c)) x y
    rw [dv_of]
    unfold chunk
    by_cases h : x.val < 128
    · rw [dif_pos h, dif_pos h]; exact hf x h y
    · rw [dif_neg h, dif_neg h]
  iapply (Entails.of_eq (pointsTo_congr hcong)) $$ H

theorem peekset_a (c : Dev nD) (o : ℕ) (ho : o + 128 ≤ 256) {off inb} (hoff : off = ![yof c, o, 0]) :
    aM.view.setOn (Rect.unit (s := S4x256x128) off S1x128x128.size inb).toLoadRect.set ⊆ slotA (yof c) :=
  (View.set_slice aM.view (Rect.unit (s := S4x256x128) off S1x128x128.size inb)).symm.subset.trans (half_a ⟨yof c, yof_lt c⟩ o ho off hoff inb)

theorem wp_peekA1 (c : Dev nD) (r : LoadRect S4x256x128) (hr : aM.view.setOn r.set ⊆ slotA (yof c)) {hl} {α : Type} {Q : α → sProp 𝕄}
    {k : (r.shape.Idx → Elt F .bf16) → Prog (TpuEff nD τ sig (Elt F) Λ₀ .tc) α} :
    ownA1 m c ⊢ iprop((∀ v, (ownA1 m c -∗ WP c (k v) Q)) -∗ WP c (.op (.load aM r hl) k) Q) := by
  unfold ownA1
  iintro ⟨%f, %hf, H⟩ Hk
  iapply (wp_peekA c r hr) $$ H
  iintro %v H
  iapply Hk
  iexists f
  isplitr; · ipureintro; exact hf
  iexact H

end Cert.Att

end
-- ==== Proof.PartsD.lean ====
/-
# The body, part by part: heads 8 to 15
-/
module

public import proofs.«01_k».proof.Proof.OpsLoop
public import proofs.«01_k».proof.Proof.OpsLoadA

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

theorem part_28 (c : Dev nD)  {Q : PUnit → sProp 𝕄} :
    HD m K c 9 8 8 8 ⊢ iprop(((HD m K c 10 9 9 9 -∗ Q ⟨⟩)) -∗ WP c (k0_part28 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (qb m c)) Q) := by
  rw [k0_part28_eq_skeleton]; unfold k0_part28_skel
  simp only [Prog.lift, Prog.bind_op, Prog.bind_ret, Prog.pure_eq_ret, semSignalWord, semWaitWord, wp_deviceId]
  iintro H Hk
  iapply (wp_waitV m K c 9 8 8 8 (by decide)) $$ H; iintro H
  iapply (wp_loadK m K c 9 9 8 8 8 (by decide) (by decide)) $$ H; iintro H
  iapply (wp_loadV m K c 9 9 8 8 8 (by decide) (by decide)) $$ H; iintro H
  iapply (wp_loadOp m K c 9 9 8 8 _) $$ H; iintro %v855 H
  iapply (wp_storeOp m K c 9 9 8 8 (by decide)) $$ [H]
  · isplitl [H]; · iexact H
    ipureintro; rfl
  iintro H
  iapply (wp_loadLb m K c 9 9 9 8 _) $$ H; iintro %v860 H
  iapply (wp_storeLb m K c 9 9 9 8 (by decide)) $$ [H]
  · isplitl [H]; · iexact H
    ipureintro; rfl
  iintro H
  iapply (wp_waitK m K c 9 9 9 9 (by decide)) $$ H; iintro H
  iapply wp_done
  iapply Hk
  iexact H

theorem part_29 (c : Dev nD)  {Q : PUnit → sProp 𝕄} :
    HD m K c 10 9 9 9 ⊢ iprop(((HD m K c 10 10 10 10 -∗ Q ⟨⟩)) -∗ WP c (k0_part29 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (qb m c)) Q) := by
  rw [k0_part29_eq_skeleton]; unfold k0_part29_skel
  simp only [Prog.lift, Prog.bind_op, Prog.bind_ret, Prog.pure_eq_ret, semSignalWord, semWaitWord, wp_deviceId]
  iintro H Hk
  iapply (wp_waitV m K c 10 9 9 9 (by decide)) $$ H; iintro H
  iapply (wp_loadK m K c 10 10 9 9 9 (by decide) (by decide)) $$ H; iintro H
  iapply (wp_loadV m K c 10 10 9 9 9 (by decide) (by decide)) $$ H; iintro H
  iapply (wp_loadOp m K c 10 10 9 9 _) $$ H; iintro %v888 H
  iapply (wp_storeOp m K c 10 10 9 9 (by decide)) $$ [H]
  · isplitl [H]; · iexact H
    ipureintro; rfl
  iintro H
  iapply (wp_loadLb m K c 10 10 10 9 _) $$ H; iintro %v893 H
  iapply (wp_storeLb m K c 10 10 10 9 (by decide)) $$ [H]
  · isplitl [H]; · iexact H
    ipureintro; rfl
  iintro H
  iapply wp_done
  iapply Hk
  iexact H

theorem part_30 (c : Dev nD)  {Q : PUnit → sProp 𝕄} :
    HD m K c 10 10 10 10 ⊢ iprop(((HD m K c 11 11 11 11 -∗ Q ⟨⟩)) -∗ WP c (k0_part30 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (qb m c)) Q) := by
  rw [k0_part30_eq_skeleton]; unfold k0_part30_skel
  simp only [Prog.lift, Prog.bind_op, Prog.bind_ret, Prog.pure_eq_ret, semSignalWord, semWaitWord, wp_deviceId]
  iintro H Hk
  iapply (wp_waitK m K c 10 10 10 10 (by decide)) $$ H; iintro H
  iapply (wp_waitV m K c 11 10 10 10 (by decide)) $$ H; iintro H
  iapply (wp_loadK m K c 11 11 10 10 10 (by decide) (by decide)) $$ H; iintro H
  iapply (wp_loadV m K c 11 11 10 10 10 (by decide) (by decide)) $$ H; iintro H
  iapply (wp_loadOp m K c 11 11 10 10 _) $$ H; iintro %v921 H
  iapply (wp_storeOp m K c 11 11 10 10 (by decide)) $$ [H]
  · isplitl [H]; · iexact H
    ipureintro; rfl
  iintro H
  iapply (wp_loadLb m K c 11 11 11 10 _) $$ H; iintro %v926 H
  iapply (wp_storeLb m K c 11 11 11 10 (by decide)) $$ [H]
  · isplitl [H]; · iexact H
    ipureintro; rfl
  iintro H
  iapply wp_done
  iapply Hk
  iexact H

theorem part_31 (c : Dev nD)  {Q : FVec F S8x1x128 .f32 → sProp 𝕄} :
    HD m K c 11 11 11 11 ⊢ iprop(((HD m K c 12 12 12 11 -∗ Q (k0_pay42 (qb m c) (kh m c ⟨11, by decide⟩)))) -∗ WP c (k0_part31 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (qb m c)) Q) := by
  rw [k0_part31_eq_skeleton]; unfold k0_part31_skel
  simp only [Prog.lift, Prog.bind_op, Prog.bind_ret, Prog.pure_eq_ret, semSignalWord, semWaitWord, wp_deviceId]
  iintro H Hk
  iapply (wp_waitK m K c 11 11 11 11 (by decide)) $$ H; iintro H
  iapply (wp_waitV m K c 12 11 11 11 (by decide)) $$ H; iintro H
  iapply (wp_loadK m K c 12 12 11 11 11 (by decide) (by decide)) $$ H; iintro H
  iapply (wp_loadV m K c 12 12 11 11 11 (by decide) (by decide)) $$ H; iintro H
  iapply (wp_loadOp m K c 12 12 11 11 _) $$ H; iintro %v954 H
  iapply (wp_storeOp m K c 12 12 11 11 (by decide)) $$ [H]
  · isplitl [H]; · iexact H
    ipureintro; rfl
  iintro H
  iapply (wp_loadLb m K c 12 12 12 11 _) $$ H; iintro %v959 H
  iapply wp_done
  iapply Hk
  iexact H

theorem part_32 (c : Dev nD)  {Q : FVec F S8x1 .f32 → sProp 𝕄} :
    HD m K c 12 12 12 11 ⊢ iprop(((HD m K c 13 13 13 12 -∗ Q (k0_pay45 (qb m c) (kh m c ⟨12, by decide⟩)))) -∗ WP c (k0_part32 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (qb m c) (k0_pay42 (qb m c) (kh m c ⟨11, by decide⟩))) Q) := by
  rw [k0_part32_eq_skeleton]; unfold k0_part32_skel
  simp only [Prog.lift, Prog.bind_op, Prog.bind_ret, Prog.pure_eq_ret, semSignalWord, semWaitWord, wp_deviceId]
  iintro H Hk
  iapply (wp_storeLb m K c 12 12 12 11 (by decide)) $$ [H]
  · isplitl [H]; · iexact H
    ipureintro; rfl
  iintro H
  iapply (wp_waitK m K c 12 12 12 12 (by decide)) $$ H; iintro H
  iapply (wp_waitV m K c 13 12 12 12 (by decide)) $$ H; iintro H
  iapply (wp_loadK m K c 13 13 12 12 12 (by decide) (by decide)) $$ H; iintro H
  iapply (wp_loadV m K c 13 13 12 12 12 (by decide) (by decide)) $$ H; iintro H
  iapply (wp_loadOp m K c 13 13 12 12 _) $$ H; iintro %v987 H
  iapply (wp_storeOp m K c 13 13 12 12 (by decide)) $$ [H]
  · isplitl [H]; · iexact H
    ipureintro; rfl
  iintro H
  iapply wp_done
  iapply Hk
  iexact H

theorem part_33 (c : Dev nD)  {Q : (Σ' (_ : FVec F S8x1 .f32), FVec F S8x128 .f32) → sProp 𝕄} :
    HD m K c 13 13 13 12 ⊢ iprop(((HD m K c 14 14 13 13 -∗ Q ⟨k0_pay48 (qb m c) (kh m c ⟨13, by decide⟩), k0_pay49 (qb m c) (kh m c ⟨13, by decide⟩) (vh m c ⟨13, by decide⟩)⟩)) -∗ WP c (k0_part33 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (qb m c) (k0_pay45 (qb m c) (kh m c ⟨12, by decide⟩))) Q) := by
  rw [k0_part33_eq_skeleton]; unfold k0_part33_skel
  simp only [Prog.lift, Prog.bind_op, Prog.bind_ret, Prog.pure_eq_ret, semSignalWord, semWaitWord, wp_deviceId]
  iintro H Hk
  iapply (wp_loadLb m K c 13 13 13 12 _) $$ H; iintro %v992 H
  iapply (wp_storeLb m K c 13 13 13 12 (by decide)) $$ [H]
  · isplitl [H]; · iexact H
    ipureintro; rfl
  iintro H
  iapply (wp_waitK m K c 13 13 13 13 (by decide)) $$ H; iintro H
  iapply (wp_waitV m K c 14 13 13 13 (by decide)) $$ H; iintro H
  iapply (wp_loadK m K c 14 14 13 13 13 (by decide) (by decide)) $$ H; iintro H
  iapply (wp_loadV m K c 14 14 13 13 13 (by decide) (by decide)) $$ H; iintro H
  iapply wp_done
  iapply Hk
  iexact H

theorem part_34 (c : Dev nD)  {Q : (Σ' (_ : FVec F S8x1024 .f32), FVec F S8x1 .f32) → sProp 𝕄} :
    HD m K c 14 14 13 13 ⊢ iprop(((HD m K c 15 15 14 14 -∗ Q ⟨k0_pay52 (qb m c) (kh m c ⟨14, by decide⟩), k0_pay53 (qb m c) (kh m c ⟨14, by decide⟩)⟩)) -∗ WP c (k0_part34 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (qb m c) (k0_pay48 (qb m c) (kh m c ⟨13, by decide⟩)) (k0_pay49 (qb m c) (kh m c ⟨13, by decide⟩) (vh m c ⟨13, by decide⟩))) Q) := by
  rw [k0_part34_eq_skeleton]; unfold k0_part34_skel
  simp only [Prog.lift, Prog.bind_op, Prog.bind_ret, Prog.pure_eq_ret, semSignalWord, semWaitWord, wp_deviceId]
  iintro H Hk
  iapply (wp_loadOp m K c 14 14 13 13 _) $$ H; iintro %v1020 H
  iapply (wp_storeOp m K c 14 14 13 13 (by decide)) $$ [H]
  · isplitl [H]; · iexact H
    ipureintro; rfl
  iintro H
  iapply (wp_loadLb m K c 14 14 14 13 _) $$ H; iintro %v1025 H
  iapply (wp_storeLb m K c 14 14 14 13 (by decide)) $$ [H]
  · isplitl [H]; · iexact H
    ipureintro; rfl
  iintro H
  iapply (wp_waitK m K c 14 14 14 14 (by decide)) $$ H; iintro H
  iapply (wp_waitV m K c 15 14 14 14 (by decide)) $$ H; iintro H
  iapply (wp_loadK m K c 15 15 14 14 14 (by decide) (by decide)) $$ H; iintro H
  iapply wp_done
  iapply Hk
  iexact H

theorem part_35 (c : Dev nD)  {Q : (Σ' (_ : FVec F S8x1024 .f32), F .f32) → sProp 𝕄} :
    HD m K c 15 15 14 14 ⊢ iprop(((HD m K c 16 16 15 15 -∗ Q ⟨k0_pay56 (qb m c) (kh m c ⟨15, by decide⟩), (Scalar.ofBits .f32 0x3DB504F3#32)⟩)) -∗ WP c (k0_part35 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (qb m c) (k0_pay52 (qb m c) (kh m c ⟨14, by decide⟩)) (k0_pay53 (qb m c) (kh m c ⟨14, by decide⟩))) Q) := by
  rw [k0_part35_eq_skeleton]; unfold k0_part35_skel
  simp only [Prog.lift, Prog.bind_op, Prog.bind_ret, Prog.pure_eq_ret, semSignalWord, semWaitWord, wp_deviceId]
  iintro H Hk
  iapply (wp_loadV m K c 15 15 14 14 14 (by decide) (by decide)) $$ H; iintro H
  iapply (wp_loadOp m K c 15 15 14 14 _) $$ H; iintro %v1053 H
  iapply (wp_storeOp m K c 15 15 14 14 (by decide)) $$ [H]
  · isplitl [H]; · iexact H
    ipureintro; rfl
  iintro H
  iapply (wp_loadLb m K c 15 15 15 14 _) $$ H; iintro %v1058 H
  iapply (wp_storeLb m K c 15 15 15 14 (by decide)) $$ [H]
  · isplitl [H]; · iexact H
    ipureintro; rfl
  iintro H
  iapply (wp_waitK m K c 15 15 15 15 (by decide)) $$ H; iintro H
  iapply (wp_waitV m K c 16 15 15 15 (by decide)) $$ H; iintro H
  iapply (wp_loadK m K c 16 16 15 15 15 (by decide) (by decide)) $$ H; iintro H
  iapply wp_done
  iapply Hk
  iexact H

theorem part_36 (c : Dev nD) {f} (v5 : BitVec 32) {Q : (Σ' (_ : BitVec 32) (_ : BitVec 32), BitVec 1) → sProp 𝕄} :
    iprop(HD m K c 16 16 15 15 ∗ ptA (F := F) c (yof c) fullShare f) ⊢ iprop((∀ w0 : BitVec 32, ∀ w1 : BitVec 32, ∀ w2 : BitVec 1, (iprop(HD m K c 16 16 16 16 ∗ ptA c (yof c) fullShare (Ga m c)) -∗ Q ⟨w0, w1, w2⟩)) -∗ WP c (k0_part36 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v5 (k0_pay56 (qb m c) (kh m c ⟨15, by decide⟩)) (Scalar.ofBits .f32 0x3DB504F3#32)) Q) := by
  rw [k0_part36_eq_skeleton]; unfold k0_part36_skel
  simp only [Prog.lift, Prog.bind_op, Prog.bind_ret, Prog.pure_eq_ret, semSignalWord, semWaitWord, wp_deviceId]
  iintro ⟨H, HA⟩ Hk
  iapply (wp_loadV m K c 16 16 15 15 15 (by decide) (by decide)) $$ H; iintro H
  iapply (wp_loadOp m K c 16 16 15 15 _) $$ H; iintro %v1086 H
  iapply (wp_storeOp m K c 16 16 15 15 (by decide)) $$ [H]
  · isplitl [H]; · iexact H
    ipureintro; rfl
  iintro H
  iapply (wp_loadLb m K c 16 16 16 15 _) $$ H; iintro %v1091 H
  iapply (wp_storeLb m K c 16 16 16 15 (by decide)) $$ [H]
  · isplitl [H]; · iexact H
    ipureintro; rfl
  iintro H
  iapply (wp_loadOp_all m K c 16 16 16 16 rfl) $$ H; iintro H
  iapply (wp_peekA c _ (peekset_a c 0 (by decide) (k0_off18_eq c))) $$ HA; iintro %v1098 HA
  iapply (wp_storeA0 m c (k0_off18_eq c)) $$ HA; iintro HA
  iapply (wp_loadLb_all m K c 16 16 16 16 rfl) $$ H; iintro H
  iapply (wp_peekA1 m c _ (peekset_a c 128 (by decide) (k0_off19_eq c))) $$ HA; iintro %v1105 HA
  iapply (wp_storeA1 m c (k0_off19_eq c)) $$ HA; iintro HA
  iapply wp_done
  iapply Hk
  isplitl [H]; · iexact H
  iexact HA

end Cert.Att

end
-- ==== Proof.OpsSendB.lean ====
/-
# The copies of the second exchange
-/
module

public import proofs.«01_k».proof.Proof.OpsWait

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

/-! ## Exchange B: semaphores -/

abbrev sendSemB (n : ℕ) (inb : ∀ a, (![n] : Fin 1 → ℕ) a + S1.size a ≤ S7.size a) : DmaSem sig :=
  ((cc0_scratch10.slice (Rect.unit (s := S7) ![n] S1.size inb)).squeeze S_ squeezes_S1_S_).sem
abbrev recvSemB (n : ℕ) (inb : ∀ a, (![n] : Fin 1 → ℕ) a + S1.size a ≤ S7.size a) : DmaSem sig :=
  ((cc0_scratch11.slice (Rect.unit (s := S7) ![n] S1.size inb)).squeeze S_ squeezes_S1_S_).sem

/-- The cells a device waits on after its own copies. -/
def sixAB (o : Fin 7) : Fin 21 := ⟨7 + o.val, by omega⟩
/-- The cells a device receives on. -/
def rixAB (o : Fin 7) : Fin 21 := ⟨14 + o.val, by omega⟩

theorem sendSemB_eq (n : ℕ) (hn : n < 7) (inb) : SemLoc.dma (sendSemB n inb) = csem (sixAB ⟨n, hn⟩) := by interval_cases n <;> decide +revert
theorem recvSemB_eq (n : ℕ) (hn : n < 7) (inb) : SemLoc.dma (recvSemB n inb) = csem (rixAB ⟨n, hn⟩) := by interval_cases n <;> decide +revert

theorem pay_sendB (c : Dev nD) (o : Fin 7) : pay m c (sixAB o).val 0 = ptB c (bof c) (shareTokN fullShare o.val) (Gb m) := by
  fin_cases o <;> rfl
theorem pay_recvB (c : Dev nD) (o : Fin 7) : pay m c (rixAB o).val 0 = ptB c (fromB c o.val) fullShare (Gb m) := by
  fin_cases o <;> rfl
theorem amt_sendB (o : Fin 7) : amt (sixAB o).val = NB := by fin_cases o <;> rfl
theorem amt_recvB (o : Fin 7) : amt (rixAB o).val = NB := by fin_cases o <;> rfl
theorem pcellB (c : Dev nD) (o : Fin 7) : owedFrom c (13 + o.val) = owedFrom c (13 + o.val + 1) + tallyAt (cell (bsh ⟨o.val + 1, by omega⟩ c) (rixAB o)) () NB := by
  have h := owedFrom_peel c ⟨13 + o.val, by omega⟩
  fin_cases o <;> exact h

/-! ## Exchange B: sends -/

/-- Before the `o`-th copy: the rights to pay both its cells, the peer's slot, and a share of the own one. -/
def sIB (c : Dev nD) (o : Fin 7) : sProp 𝕄 :=
  iprop(dutyTok ER (cell c (sixAB o)) 0 0 ∗ dutyTok ER (cell (bsh ⟨o.val + 1, by omega⟩ c) (rixAB o)) 0 0
    ∗ (∃ f, ptB (F := F) (bsh ⟨o.val + 1, by omega⟩ c) (bof c) fullShare f) ∗ ptB c (bof c) (shareTokN fullShare o.val) (Gb m))
/-- After it: the credit for its end. -/
def sDB (c : Dev nD) (o : Fin 7) : sProp 𝕄 := cred (tallyAt (cell c (sixAB o)) () (amt (sixAB o).val))
/-- While the copies are sent: `n` of them. -/
def SXB (c : Dev nD) (n : ℕ) : sProp 𝕄 := iprop(records m K ∗ OW (F := F) c (13 + n) ∗ fam (sIB m c) (sDB (F := F) c) n)

theorem fromB_eq (c : Dev nD) (o : Fin 7) : fromB (bsh ⟨o.val + 1, by omega⟩ c) o.val = bof c := by
  have := bof_lt c
  unfold fromB; rw [bof_bsh]; show ((bof c + (o.val + 1)) % 8 + 8 - 1 - o.val) % 8 = bof c
  have := o.isLt
  omega

set_option maxHeartbeats 200000 in
theorem wp_sendB (c : Dev nD) (n : ℕ) (hn : n < 7) {d : Dev nD} (hd : d = bsh ⟨n + 1, by omega⟩ c) {off off' inb inb'}
    (hoff : off = ![bof c, 0, 0]) (hoff' : off' = ![bof c, 0, 0]) {inbs inbr}
    {hsc : (slB off' inb').view.ref.isScScratch = false} {hsrc : (slB off inb).view.WordExact} {hdst : (slB off' inb').view.WordExact}
    {hsem : DmaTarget.Typed .vmem (.dma (recvSemB n inbr)) (.remote (d : Thread nD τ) (slB off' inb') (.dma (sendSemB n inbs)) hsc)}
    {α : Type} {Q : α → sProp 𝕄} {k : PUnit → Prog (TpuEff nD τ sig (Elt F) Λ₀ .tc) α} :
    SXB m K c n ⊢ iprop((SXB m K c (n + 1) -∗ WP c (k ⟨⟩) Q)
      -∗ WP c (.op (.enqueueDma (slB off inb) (.remote (d : Thread nD τ) (slB off' inb') (.dma (sendSemB n inbs)) hsc) (.dma (recvSemB n inbr)) hsrc hdst hsem) k) Q) := by
  subst hd
  have e := fam_take (sIB m c) (sDB (F := F) c) ⟨n, hn⟩
  have hO := pcellB c ⟨n, hn⟩
  have hcs : ((c : Thread nD τ), SemLoc.dma (sendSemB n inbs)) = cell c (sixAB ⟨n, hn⟩) := by rw [sendSemB_eq n hn]
  have hcr : (((bsh ⟨n + 1, by omega⟩ c : Dev nD) : Thread nD τ), SemLoc.dma (recvSemB n inbr)) = cell (bsh ⟨n + 1, by omega⟩ c) (rixAB ⟨n, hn⟩) := by rw [recvSemB_eq n hn]
  have hset := set_b ⟨bof c, bof_lt c⟩ off inb hoff
  have hset' := set_b ⟨bof c, bof_lt c⟩ off' inb' hoff'
  have hd₁ : (0 : Fin 16) ∈ (Rd m).duties ((c : Thread nD τ), SemLoc.dma (sendSemB n inbs)) 0 := by
    rw [hcs, duties_cell, dutiesOf, if_neg (by show ¬ 7 + n = 0; omega)]; exact Finset.mem_singleton_self _
  have hd₂ : (0 : Fin 16) ∈ (Rd m).duties (((bsh ⟨n + 1, by omega⟩ c : Dev nD) : Thread nD τ), SemLoc.dma (recvSemB n inbr)) 0 := by
    rw [hcr, duties_cell, dutiesOf, if_neg (by show ¬ 14 + n = 0; omega)]; exact Finset.mem_singleton_self _
  have hk₁ : (Rd m).amount ((c : Thread nD τ), SemLoc.dma (sendSemB n inbs)) 0 0 = NB := by rw [hcs, amount_cell, amt_sendB]
  have hk₂ : (Rd m).amount (((bsh ⟨n + 1, by omega⟩ c : Dev nD) : Thread nD τ), SemLoc.dma (recvSemB n inbr)) 0 0 = NB := by rw [hcr, amount_cell, amt_recvB]
  have hpay₁ : (((slB off inb).view.loc (c : Thread nD τ)) ↦[(slB off inb).view.set]{shareTokN fullShare n} (Gb m)) ⊢ (Rd m).payload ((c : Thread nD τ), SemLoc.dma (sendSemB n inbs)) 0 0 := by
    rw [hcs, payload_cell, pay_sendB, hset]; exact Entails.rfl
  have hpay₂ : ∀ fd, (((slB off' inb').view.loc ((bsh ⟨n + 1, by omega⟩ c : Dev nD) : Thread nD τ)) ↦[(slB off' inb').view.set]{fullShare}
      ((slB off' inb').view.write (Elt F) fd ((slB off inb).view.read (Elt F) (Gb m)) Finset.univ))
      ⊢ (Rd m).payload (((bsh ⟨n + 1, by omega⟩ c : Dev nD) : Thread nD τ), SemLoc.dma (recvSemB n inbr)) 0 0 := by
    intro fd
    have hfr : fromB (bsh ⟨n + 1, by omega⟩ c) n = bof c := fromB_eq c ⟨n, hn⟩
    rw [hcr, payload_cell, pay_recvB, hset']
    rw [show fromB (bsh ⟨n + 1, by omega⟩ c) (⟨n, hn⟩ : Fin 7).val = bof c from hfr]
    unfold ptB
    refine Entails.of_eq (pointsTo_congr fun i hi => ?_)
    refine (copied_b ⟨bof c, bof_lt c⟩ off' inb' off inb hoff' hoff fd (Gb m) i hi).trans ?_
    rfl
  have hN : (slB off' inb').view.amount (SemLoc.dma (recvSemB n inbr)) = NB := rfl
  have hr : τ.routes (c : Thread nD τ) ((bsh ⟨n + 1, by omega⟩ c : Dev nD) : Thread nD τ) = true := by routes
  have hO' : owedFrom c (13 + n) = owedFrom c (13 + n + 1) + tallyAt (((bsh ⟨n + 1, by omega⟩ c : Dev nD) : Thread nD τ), SemLoc.dma (recvSemB n inbr)) () NB := by
    rw [hcr]; exact hO
  have key := fun (fd : Buf (Elt F) ((slB off' inb').view.loc ((bsh ⟨n + 1, by omega⟩ c : Dev nD) : Thread nD τ))) (W : Waits sig Unit) =>
   Rounds.wp_send_pointsTo (defs := defs₀ (F := F)) (Γ := PendingWaitsCtx.empty) (Q := Q) (k := k) 𝒱₀ ER (Rd m) (c : Thread nD τ) none (c' := ((bsh ⟨n + 1, by omega⟩ c : Dev nD) : Thread nD τ)) (src := slB off inb) (dst := slB off' inb') (hsc := hsc) (hsrc := hsrc) (hdst := hdst) (hsem := hsem)
    (q := shareTokN fullShare n) (fs := (Gb m)) (fd := fd)
    (κ₁ := K (c, sixAB ⟨n, hn⟩)) (κ₂ := K (bsh ⟨n + 1, by omega⟩ c, rixAB ⟨n, hn⟩)) (r₁ := 0) (r₂ := 0) (d₁ := 0) (d₂ := 0)
    hd₁ hd₂ () () NB hN hk₁ hk₂ (owedFrom c (13 + n + 1)) hO' (W := W) hpay₁ (hpay₂ fd) (Es := Set.univ) hr
  unfold SXB OW
  iintro ⟨#HR, ⟨%W, HO⟩, HF⟩ Hk
  ihave HF' := e $$ HF
  icases HF' with ⟨HA, HB⟩
  unfold sIB ptB
  icases HA with ⟨Ht1, Ht2, ⟨%fd, Hd⟩, Hs⟩
  iapply (key fd W) $$ [HO Ht1 Ht2 Hd Hs]
  · have i1 := records_inv m K c (sixAB ⟨n, hn⟩)
    have i2 := records_inv m K (bsh ⟨n + 1, by omega⟩ c) (rixAB ⟨n, hn⟩)
    have i3 := records_reached m K c (sixAB ⟨n, hn⟩)
    have i4 := records_reached m K (bsh ⟨n + 1, by omega⟩ c) (rixAB ⟨n, hn⟩)
    rw [← hcs] at i1 i3
    rw [← hcr] at i2 i4
    isplitr; · iapply i1; iexact HR
    isplitr; · iapply i2; iexact HR
    isplitl [Hs]; · rw [hset]; iexact Hs
    isplitl [Hd]; · rw [hset']; iexact Hd
    isplitl [HO]; · iexact HO
    isplitl [Ht1]; · rw [hcs]; iexact Ht1
    isplitr; · iapply i3; iexact HR
    isplitl [Ht2]; · rw [hcr]; iexact Ht2
    iapply i4; iexact HR
  iintro ⟨Hc, HO⟩
  iapply Hk
  isplitr; · iexact HR
  isplitl [HO]; · iexists W; iexact HO
  iapply HB
  unfold sDB
  rw [amt_sendB, hcs]; iexact Hc

end Cert.Att

end
-- ==== Proof.OpsLoadB.lean ====
/-
# The second exchange: filling the own slot, reading the slots, storing the result
-/
module

public import proofs.«01_k».proof.Proof.OpsSendB
public import proofs.«01_k».proof.Proof.Slices

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

/-! ## Exchange B: the loads -/

/-- The buffer of the exchange, every slot filled. -/
def LB (c : Dev nD) : sProp 𝕄 :=
  iprop(ptB c (bof c) (shareDrop fullShare 7) (Gb m) ∗ bigSep Finset.univ fun o : Fin 7 => wD m c (rixAB o))

theorem coverB (c : Dev nD) (k : ℕ) (hk : k < 8) : k = bof c ∨ ∃ o : Fin 7, fromB c o.val = k := by
  have := bof_lt c
  by_cases h : k = bof c
  · exact .inl h
  · refine .inr ⟨⟨(bof c + 8 - 1 - k) % 8, ?_⟩, ?_⟩
    · omega
    · show (bof c + 8 - 1 - (bof c + 8 - 1 - k) % 8) % 8 = k; omega

theorem readsetB (k : Fin 8) (inb) :
    bM.view.setOn (Rect.unit (s := S8x128x128) ![k.val, 0, 0] S1x128x128.size inb).toLoadRect.set ⊆ slotB k.val :=
  ((set_squeezed bM _ _ _).symm.trans (set_b k ![k.val, 0, 0] inb rfl)).subset

theorem wp_loadB (c : Dev nD) (n : ℕ) (hn : n < 8) {inb hl} {α : Type} {Q : α → sProp 𝕄} {k : Vec F S1x128x128 .bf16 → Prog (TpuEff nD τ sig (Elt F) Λ₀ .tc) α} :
    LB m c ⊢ iprop((LB m c -∗ WP c (k (rowB m ⟨n, hn⟩)) Q)
      -∗ WP c (.op (.load bM (Rect.unit (s := S8x128x128) ![n, 0, 0] S1x128x128.size inb).toLoadRect hl) k) Q) := by
  rcases coverB c n hn with h | ⟨o, h⟩
  · have hs := readsetB ⟨n, hn⟩ inb
    have hs' : bM.view.setOn (Rect.unit (s := S8x128x128) ![n, 0, 0] S1x128x128.size inb).toLoadRect.set ⊆ slotB (bof c) := h ▸ hs
    unfold LB ptB
    iintro ⟨H, HB⟩ Hk
    iapply (wp_load 𝒱₀ (c : Thread nD τ) none Set.univ (m := bM) hs') $$ H
    iintro H
    iapply Hk
    isplitl [H]; · iexact H
    iexact HB
  · have hs := readsetB ⟨n, hn⟩ inb
    have hs' : bM.view.setOn (Rect.unit (s := S8x128x128) ![n, 0, 0] S1x128x128.size inb).toLoadRect.set ⊆ slotB (fromB c o.val) := h ▸ hs
    unfold LB
    rw [bigSep_univ_at (fun o : Fin 7 => wD m c (rixAB o)) o]
    unfold wD
    rw [pay_recvB m c o]
    unfold ptB
    iintro ⟨H0, ⟨Hz, H⟩, HB⟩ Hk
    iapply (wp_load 𝒱₀ (c : Thread nD τ) none Set.univ (m := bM) hs') $$ H
    iintro H
    iapply Hk
    isplitl [H0]; · iexact H0
    isplitr [HB]
    · isplitl [Hz]; · iexact Hz
      iexact H
    iexact HB

/-- A load of the own slot whose value is not used. -/
theorem wp_peekB (c : Dev nD) (r : LoadRect S8x128x128) (hr : bM.view.setOn r.set ⊆ slotB (bof c)) {q : PosShare TreeShare} {f} {hl} {α : Type} {Q : α → sProp 𝕄}
    {k : (r.shape.Idx → Elt F .bf16) → Prog (TpuEff nD τ sig (Elt F) Λ₀ .tc) α} :
    ptB c (bof c) q f ⊢ iprop((∀ v, (ptB c (bof c) q f -∗ WP c (k v) Q)) -∗ WP c (.op (.load bM r hl) k) Q) := by
  unfold ptB
  iintro H Hk
  iapply (wp_load 𝒱₀ (c : Thread nD τ) none Set.univ (m := bM) hr) $$ H
  iintro H
  iapply Hk
  iexact H

/-! ## The own slot -/

theorem wp_storeB (c : Dev nD) {off inb} (hoff : off = ![bof c, 0, 0]) {v : Vec F S1x128x128 .bf16} {hx hm} {α : Type} {Q : α → sProp 𝕄} {k : PUnit → Prog (TpuEff nD τ sig (Elt F) Λ₀ .tc) α} {f} :
    iprop(ptB (F := F) c (bof c) fullShare f ∗ ⌜v = nrm m (bof c)⌝) ⊢ iprop((ptB c (bof c) fullShare (Gb m) -∗ WP c (k ⟨⟩) Q)
      -∗ WP c (.op (.store bM (Rect.unit (s := S8x128x128) off S1x128x128.size inb) v Finset.univ hx hm) k) Q) := by
  have hs : (bM.access (Rect.unit (s := S8x128x128) off S1x128x128.size inb)).setOn Finset.univ ⊆ slotB (bof c) :=
    ((set_access bM _ (fun _ => rfl) squeezes_S1x128x128_S128x128).symm.trans (set_b ⟨bof c, bof_lt c⟩ off inb hoff)).subset
  have hc := stored_b ⟨bof c, bof_lt c⟩ off hoff inb f v
  unfold ptB
  iintro ⟨H, %hv⟩ Hk
  iapply (wp_store 𝒱₀ (c : Thread nD τ) none Set.univ (m := bM) (r := Rect.unit (s := S8x128x128) off S1x128x128.size inb) (w := v) (Mk := Finset.univ) hs) $$ H
  iintro H
  iapply Hk
  have hcong : ∀ i ∈ slotB (bof c), (bM.access (Rect.unit (s := S8x128x128) off S1x128x128.size inb)).write (Elt F) f v Finset.univ i = Gb m i := by
    intro i hi
    obtain ⟨x, y, rfl⟩ := (mem_slotB ⟨bof c, bof_lt c⟩ i).mp hi
    refine (hc x y).trans ?_
    rw [hv]; rfl
  iapply (Entails.of_eq (pointsTo_congr hcong)) $$ H

/-! ## The result -/

/-- The blocks of the result below `n` are stored. -/
def outS (c : Dev nD) (n : ℕ) : sProp 𝕄 :=
  iprop(∃ f : (cc0_stg1_0 : Ref sig .tc).ty.Contents (Elt F), ⌜∀ i : S8x128x128.Idx, (i 0).val < n → f i = outv m i⌝ ∗ (((c : Thread nD τ).loc cc0_stg1_0) ↦{fullShare} f))

theorem wp_peekO (c : Dev nD) (n : ℕ) (r : LoadRect S8x128x128) {hl} {α : Type} {Q : α → sProp 𝕄} {k : (r.shape.Idx → Elt F .f32) → Prog (TpuEff nD τ sig (Elt F) Λ₀ .tc) α} :
    outS m c n ⊢ iprop((∀ v, (outS m c n -∗ WP c (k v) Q)) -∗ WP c (.op (.load oM r hl) k) Q) := by
  unfold outS
  iintro ⟨%f, %hf, H⟩ Hk
  iapply (wp_load 𝒱₀ (c : Thread nD τ) none Set.univ (m := oM) (Finset.subset_univ _)) $$ H
  iintro H
  iapply Hk
  iexists f
  isplitr; · ipureintro; exact hf
  iexact H

theorem wp_storeO (c : Dev nD) (n : ℕ) (hn : n < 8) {inb} {v : Vec F S1x128x128 .f32} {hx hm} {α : Type} {Q : α → sProp 𝕄} {k : PUnit → Prog (TpuEff nD τ sig (Elt F) Λ₀ .tc) α} :
    iprop(outS m c n ∗ ⌜v = k0_pay63 (rowB m ⟨n, hn⟩)⌝) ⊢ iprop((outS m c (n + 1) -∗ WP c (k ⟨⟩) Q)
      -∗ WP c (.op (.store oM (Rect.unit (s := S8x128x128) ![n, 0, 0] S1x128x128.size inb) v Finset.univ hx hm) k) Q) := by
  unfold outS
  iintro ⟨⟨%f, %hf, H⟩, %hv⟩ Hk
  iapply (wp_store 𝒱₀ (c : Thread nD τ) none Set.univ (m := oM) (r := Rect.unit (s := S8x128x128) ![n, 0, 0] S1x128x128.size inb) (w := v) (Mk := Finset.univ) (Finset.subset_univ _)) $$ H
  iintro H
  have hf' : ∀ i : S8x128x128.Idx, (i 0).val < n + 1 →
      (oM.access (Rect.unit (s := S8x128x128) ![n, 0, 0] S1x128x128.size inb)).write (Elt F) f v Finset.univ i = outv m i := by
    intro i hi
    obtain ⟨i0, i1, i2, rfl⟩ : ∃ (i0 : Fin 8) (i1 : Fin 128) (i2 : Fin 128), ix3 i0 i1 i2 = i := ⟨i 0, i 1, i 2, (eq_ix3 i).symm⟩
    have hi' : i0.val < n + 1 := hi
    refine (stored_o n inb f v i0 i1 i2).trans ?_
    by_cases h1 : i0.val = n
    · rw [if_pos h1, hv]
      have : (⟨n, hn⟩ : Fin 8) = i0 := Fin.ext h1.symm
      rw [this]
      rfl
    · rw [if_neg h1]
      exact hf (ix3 i0 i1 i2) (show i0.val < n by omega)
  iapply Hk
  iexists _
  isplitr; · ipureintro; exact hf'
  iexact H

theorem peekset_b (c : Dev nD) {off inb} (hoff : off = ![bof c, 0, 0]) :
    bM.view.setOn (Rect.unit (s := S8x128x128) off S1x128x128.size inb).toLoadRect.set ⊆ slotB (bof c) :=
  (set_squeezed bM (Rect.unit (s := S8x128x128) off S1x128x128.size inb) (fun _ => rfl) squeezes_S1x128x128_S128x128).symm.subset.trans (set_b ⟨bof c, bof_lt c⟩ off inb hoff).subset

end Cert.Att

end
-- ==== Proof.PartsE.lean ====
/-
# The body, part by part: the first exchange
-/
module

public import proofs.«01_k».proof.Proof.OpsWait
public import proofs.«01_k».proof.Proof.OpsLoadA
public import proofs.«01_k».proof.Proof.OpsLoadB

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

theorem part_37 (c : Dev nD) (v2 : BitVec 32) (v5 : BitVec 32) (v8 : BitVec 32) (v1108 : BitVec 32) (c4_i32_902 : BitVec 32) (v1109 : BitVec 1) {Q : (Σ' (_ : BitVec 32), BitVec 32) → sProp 𝕄} :
    SXA m K c 0 ⊢ iprop((∀ w0 : BitVec 32, ∀ w1 : BitVec 32, (SXA m K c 1 -∗ Q ⟨w0, w1⟩)) -∗ WP c (k0_part37 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v2 v5 v8 v1108 c4_i32_902 v1109) Q) := by
  rw [k0_part37_eq_skeleton]; unfold k0_part37_skel
  simp only [Prog.lift, Prog.bind_op, Prog.bind_ret, Prog.pure_eq_ret, semSignalWord, semWaitWord, wp_deviceId]
  iintro H Hk
  iapply (wp_sendA m K c 0 (by decide) (dev11_eq c) (k0_off20_eq c) (k0_off20_eq c)) $$ H; iintro H
  iapply wp_done
  iapply Hk
  iexact H

theorem part_38 (c : Dev nD) (v2 : BitVec 32) (v5 : BitVec 32) (v8 : BitVec 32) (v1143 : BitVec 32) (v1144 : BitVec 32) {Q : PUnit → sProp 𝕄} :
    SXA m K c 1 ⊢ iprop(((SXA m K c 2 -∗ Q ⟨⟩)) -∗ WP c (k0_part38 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v2 v5 v8 v1143 v1144) Q) := by
  rw [k0_part38_eq_skeleton]; unfold k0_part38_skel
  simp only [Prog.lift, Prog.bind_op, Prog.bind_ret, Prog.pure_eq_ret, semSignalWord, semWaitWord, wp_deviceId]
  iintro H Hk
  iapply (wp_sendA m K c 1 (by decide) (dev12_eq c) (k0_off20_eq c) (k0_off20_eq c)) $$ H; iintro H
  iapply wp_done
  iapply Hk
  iexact H

theorem part_39 (c : Dev nD) (v2 : BitVec 32) (v5 : BitVec 32) (v8 : BitVec 32) {Q : (Σ' (_ : BitVec 32) (_ : BitVec 32) (_ : BitVec 1), BitVec 32) → sProp 𝕄} :
    iprop(SXA m K c 2 ∗ bigSep Finset.univ (fun o => wI (F := F) c (rixAA o))) ⊢ iprop((∀ w0 : BitVec 32, ∀ w1 : BitVec 32, ∀ w2 : BitVec 1, ∀ w3 : BitVec 32, (iprop(WT m K rixAA c 13 1 ∗ bigSep Finset.univ (sDA (F := F) c)) -∗ Q ⟨w0, w1, w2, w3⟩)) -∗ WP c (k0_part39 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v2 v5 v8) Q) := by
  rw [k0_part39_eq_skeleton]; unfold k0_part39_skel
  simp only [Prog.lift, Prog.bind_op, Prog.bind_ret, Prog.pure_eq_ret, semSignalWord, semWaitWord, wp_deviceId]
  iintro ⟨H, HW⟩ Hk
  iapply (wp_sendA m K c 2 (by decide) (dev13_eq c) (k0_off20_eq c) (k0_off20_eq c)) $$ H; iintro H
  unfold SXA
  rw [fam_full (sIA m c) (sDA (F := F) c) 3 (le_refl _)]
  icases H with ⟨#HR, HO, HD⟩
  ihave H : WT m K rixAA c 13 0 $$ [HO HW]
  · unfold WT
    rw [fam_zero]
    isplitr; · iexact HR
    isplitl [HO]; · iexact HO
    iexact HW
  iapply (wp_waitFA m K rixAA c 13 0 (by decide) (by decide) (by decide) rfl (recvSemA_eq 0 (by decide) _)) $$ H; iintro H
  iapply wp_done
  iapply Hk
  isplitl [H]; · iexact H
  iexact HD

theorem part_40 (c : Dev nD) (v2 : BitVec 32) (v5 : BitVec 32) (v8 : BitVec 32) (v1210 : BitVec 32) (v1211 : BitVec 32) (v1212 : BitVec 1) (c0_i32_976 : BitVec 32) {Q : (Σ' (_ : BitVec 32), BitVec 32) → sProp 𝕄} :
    WT m K rixAA c 13 1 ⊢ iprop((∀ w0 : BitVec 32, ∀ w1 : BitVec 32, (WT m K rixAA c 13 2 -∗ Q ⟨w0, w1⟩)) -∗ WP c (k0_part40 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v2 v5 v8 v1210 v1211 v1212 c0_i32_976) Q) := by
  rw [k0_part40_eq_skeleton]; unfold k0_part40_skel
  simp only [Prog.lift, Prog.bind_op, Prog.bind_ret, Prog.pure_eq_ret, semSignalWord, semWaitWord, wp_deviceId]
  iintro H Hk
  iapply (wp_waitFA m K rixAA c 13 1 (by decide) (by decide) (by decide) rfl (recvSemA_eq 1 (by decide) _)) $$ H; iintro H
  iapply wp_done
  iapply Hk
  iexact H

theorem part_41 (c : Dev nD) {f} (v8 : BitVec 32) (v10 : BitVec 32) (v1246 : BitVec 32) (c1_i32_1001 : BitVec 32) {Q : (Σ' (_ : BitVec 32) (_ : BitVec 32), BitVec 32) → sProp 𝕄} :
    iprop(WT m K rixAA c 13 2 ∗ ptA c (yof c) (shareDrop fullShare 3) (Ga m c) ∗ ptB (F := F) c (bof c) fullShare f) ⊢ iprop((∀ w0 : BitVec 32, ∀ w1 : BitVec 32, ∀ w2 : BitVec 32, (iprop(records m K ∗ OW (F := F) c 13 ∗ LA m c ∗ ptB c (bof c) fullShare (Gb m)) -∗ Q ⟨w0, w1, w2⟩)) -∗ WP c (k0_part41 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v8 v10 v1246 c1_i32_1001) Q) := by
  rw [k0_part41_eq_skeleton]; unfold k0_part41_skel
  simp only [Prog.lift, Prog.bind_op, Prog.bind_ret, Prog.pure_eq_ret, semSignalWord, semWaitWord, wp_deviceId]
  iintro ⟨H, HA, HB⟩ Hk
  iapply (wp_waitFA m K rixAA c 13 2 (by decide) (by decide) (by decide) rfl (recvSemA_eq 2 (by decide) _)) $$ H; iintro H
  unfold WT
  rw [fam_full (fun o => wI (F := F) c (rixAA o)) (fun o => wD m c (rixAA o)) 3 (le_refl _)]
  icases H with ⟨#HR, HO, HF⟩
  ihave HA : LA m c $$ [HA HF]
  · unfold LA
    isplitl [HA]; · iexact HA
    iexact HF
  iapply (wp_loadA m c 0 (by decide)) $$ HA; iintro HA
  iapply (wp_loadA m c 1 (by decide)) $$ HA; iintro HA
  iapply (wp_loadA m c 2 (by decide)) $$ HA; iintro HA
  iapply (wp_loadA m c 3 (by decide)) $$ HA; iintro HA
  iapply (wp_peekB c _ (peekset_b c (k0_off22_eq c))) $$ HB; iintro %v1275 HB
  iapply (wp_storeB m c (k0_off22_eq c)) $$ [HB]
  · isplitl [HB]; · iexact HB
    ipureintro; rfl
  iintro HB
  iapply wp_done
  iapply Hk
  isplitr; · iexact HR
  isplitl [HO]; · iexact HO
  isplitl [HA]; · iexact HA
  iexact HB

theorem part_42 (c : Dev nD) (v5 : BitVec 32) (v1280 : BitVec 32) (v1281 : BitVec 32) (c0_i32_1024 : BitVec 32) {Q : (Σ' (_ : BitVec 32), BitVec 32) → sProp 𝕄} :
    iprop(∀ w0 : BitVec 32, ∀ w1 : BitVec 32, Q ⟨w0, w1⟩) ⊢ WP c (k0_part42 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 v5 v1280 v1281 c0_i32_1024) Q := by
  rw [k0_part42_eq_skeleton]; unfold k0_part42_skel
  simp only [Prog.lift, Prog.bind_op, Prog.bind_ret, Prog.pure_eq_ret, semSignalWord, semWaitWord, wp_deviceId]
  iintro Hk
  iapply wp_done
  iapply Hk

end Cert.Att

end
-- ==== Proof.PartsF.lean ====
/-
# The body, part by part: the second exchange
-/
module

public import proofs.«01_k».proof.Proof.OpsWait
public import proofs.«01_k».proof.Proof.OpsSendB

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

theorem part_43 (c : Dev nD) (v10 : BitVec 32) (v1319 : BitVec 32) (v1320 : BitVec 32) {Q : (Σ' (_ : BitVec 32) (_ : BitVec 32) (_ : BitVec 32) (_ : BitVec 1), BitVec 32) → sProp 𝕄} :
    SXB m K c 0 ⊢ iprop((∀ w0 : BitVec 32, ∀ w1 : BitVec 32, ∀ w2 : BitVec 32, ∀ w3 : BitVec 1, ∀ w4 : BitVec 32, (SXB m K c 1 -∗ Q ⟨w0, w1, w2, w3, w4⟩)) -∗ WP c (k0_part43 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v10 v1319 v1320) Q) := by
  rw [k0_part43_eq_skeleton]; unfold k0_part43_skel
  simp only [Prog.lift, Prog.bind_op, Prog.bind_ret, Prog.pure_eq_ret, semSignalWord, semWaitWord, wp_deviceId]
  iintro H Hk
  iapply (wp_sendB m K c 0 (by decide) (dev14_eq c) (k0_off23_eq c) (k0_off23_eq c)) $$ H; iintro H
  iapply wp_done
  iapply Hk
  iexact H

theorem part_44 (c : Dev nD) (v5 : BitVec 32) (v10 : BitVec 32) (v1340 : BitVec 32) (v1357 : BitVec 32) (c4_i32_1064 : BitVec 32) (v1358 : BitVec 1) (c1_i32_1066 : BitVec 32) {Q : (Σ' (_ : BitVec 32) (_ : BitVec 32) (_ : BitVec 32), BitVec 32) → sProp 𝕄} :
    SXB m K c 1 ⊢ iprop((∀ w0 : BitVec 32, ∀ w1 : BitVec 32, ∀ w2 : BitVec 32, ∀ w3 : BitVec 32, (SXB m K c 2 -∗ Q ⟨w0, w1, w2, w3⟩)) -∗ WP c (k0_part44 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v5 v10 v1340 v1357 c4_i32_1064 v1358 c1_i32_1066) Q) := by
  rw [k0_part44_eq_skeleton]; unfold k0_part44_skel
  simp only [Prog.lift, Prog.bind_op, Prog.bind_ret, Prog.pure_eq_ret, semSignalWord, semWaitWord, wp_deviceId]
  iintro H Hk
  iapply (wp_sendB m K c 1 (by decide) (dev15_eq c) (k0_off23_eq c) (k0_off23_eq c)) $$ H; iintro H
  iapply wp_done
  iapply Hk
  iexact H

theorem part_45 (c : Dev nD) (v5 : BitVec 32) (v1392 : BitVec 32) (c4_i32_1087 : BitVec 32) (v1393 : BitVec 32) (v1395 : BitVec 32) {Q : PUnit → sProp 𝕄} :
    SXB m K c 2 ⊢ iprop(((SXB m K c 3 -∗ Q ⟨⟩)) -∗ WP c (k0_part45 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v5 v1392 c4_i32_1087 v1393 v1395) Q) := by
  rw [k0_part45_eq_skeleton]; unfold k0_part45_skel
  simp only [Prog.lift, Prog.bind_op, Prog.bind_ret, Prog.pure_eq_ret, semSignalWord, semWaitWord, wp_deviceId]
  iintro H Hk
  iapply (wp_sendB m K c 2 (by decide) (dev16_eq c) (k0_off23_eq c) (k0_off23_eq c)) $$ H; iintro H
  iapply wp_done
  iapply Hk
  iexact H

theorem part_46 (c : Dev nD) (v10 : BitVec 32) {Q : (Σ' (_ : BitVec 32), BitVec 32) → sProp 𝕄} :
    iprop(∀ w0 : BitVec 32, ∀ w1 : BitVec 32, Q ⟨w0, w1⟩) ⊢ WP c (k0_part46 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 v10) Q := by
  rw [k0_part46_eq_skeleton]; unfold k0_part46_skel
  simp only [Prog.lift, Prog.bind_op, Prog.bind_ret, Prog.pure_eq_ret, semSignalWord, semWaitWord, wp_deviceId]
  iintro Hk
  iapply wp_done
  iapply Hk

theorem part_47 (c : Dev nD) (v5 : BitVec 32) (v10 : BitVec 32) (v1461 : BitVec 32) (v1471 : BitVec 32) {Q : (Σ' (_ : BitVec 32) (_ : BitVec 32) (_ : BitVec 1) (_ : BitVec 32), BitVec 32) → sProp 𝕄} :
    SXB m K c 3 ⊢ iprop((∀ w0 : BitVec 32, ∀ w1 : BitVec 32, ∀ w2 : BitVec 1, ∀ w3 : BitVec 32, ∀ w4 : BitVec 32, (SXB m K c 4 -∗ Q ⟨w0, w1, w2, w3, w4⟩)) -∗ WP c (k0_part47 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v5 v10 v1461 v1471) Q) := by
  rw [k0_part47_eq_skeleton]; unfold k0_part47_skel
  simp only [Prog.lift, Prog.bind_op, Prog.bind_ret, Prog.pure_eq_ret, semSignalWord, semWaitWord, wp_deviceId]
  iintro H Hk
  iapply (wp_sendB m K c 3 (by decide) (dev17_eq c) (k0_off23_eq c) (k0_off23_eq c)) $$ H; iintro H
  iapply wp_done
  iapply Hk
  iexact H

theorem part_48 (c : Dev nD) (v5 : BitVec 32) (v10 : BitVec 32) (v1496 : BitVec 32) (v1497 : BitVec 32) (v1508 : BitVec 1) (v1509 : BitVec 32) (c0_i32_1152 : BitVec 32) {Q : (Σ' (_ : BitVec 32) (_ : BitVec 32) (_ : BitVec 1) (_ : BitVec 1), BitVec 1) → sProp 𝕄} :
    SXB m K c 4 ⊢ iprop((∀ w0 : BitVec 32, ∀ w1 : BitVec 32, ∀ w2 : BitVec 1, ∀ w3 : BitVec 1, ∀ w4 : BitVec 1, (SXB m K c 5 -∗ Q ⟨w0, w1, w2, w3, w4⟩)) -∗ WP c (k0_part48 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v5 v10 v1496 v1497 v1508 v1509 c0_i32_1152) Q) := by
  rw [k0_part48_eq_skeleton]; unfold k0_part48_skel
  simp only [Prog.lift, Prog.bind_op, Prog.bind_ret, Prog.pure_eq_ret, semSignalWord, semWaitWord, wp_deviceId]
  iintro H Hk
  iapply (wp_sendB m K c 4 (by decide) (dev18_eq c) (k0_off23_eq c) (k0_off23_eq c)) $$ H; iintro H
  iapply wp_done
  iapply Hk
  iexact H

theorem part_49 (c : Dev nD) (v5 : BitVec 32) (v1540 : BitVec 32) (v1541 : BitVec 32) (v1542 : BitVec 1) (v1543 : BitVec 1) (v1544 : BitVec 1) {Q : PUnit → sProp 𝕄} :
    iprop(Q ⟨⟩) ⊢ WP c (k0_part49 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 v5 v1540 v1541 v1542 v1543 v1544) Q := by
  rw [k0_part49_eq_skeleton]; unfold k0_part49_skel
  simp only [Prog.lift, Prog.bind_op, Prog.bind_ret, Prog.pure_eq_ret, semSignalWord, semWaitWord, wp_deviceId]
  iintro Hk
  iapply wp_done
  iapply Hk

theorem part_50 (c : Dev nD) (v10 : BitVec 32) {Q : (Σ' (_ : BitVec 32) (_ : BitVec 32) (_ : BitVec 32) (_ : BitVec 1), BitVec 32) → sProp 𝕄} :
    SXB m K c 5 ⊢ iprop((∀ w0 : BitVec 32, ∀ w1 : BitVec 32, ∀ w2 : BitVec 32, ∀ w3 : BitVec 1, ∀ w4 : BitVec 32, (SXB m K c 6 -∗ Q ⟨w0, w1, w2, w3, w4⟩)) -∗ WP c (k0_part50 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v10) Q) := by
  rw [k0_part50_eq_skeleton]; unfold k0_part50_skel
  simp only [Prog.lift, Prog.bind_op, Prog.bind_ret, Prog.pure_eq_ret, semSignalWord, semWaitWord, wp_deviceId]
  iintro H Hk
  iapply (wp_sendB m K c 5 (by decide) (dev19_eq c) (k0_off23_eq c) (k0_off23_eq c)) $$ H; iintro H
  iapply wp_done
  iapply Hk
  iexact H

theorem part_51 (c : Dev nD) (v2 : BitVec 32) (v5 : BitVec 32) (v10 : BitVec 32) (v1617 : BitVec 32) (v1619 : BitVec 32) (v1620 : BitVec 32) (v1621 : BitVec 1) (c0_i32_1218 : BitVec 32) {Q : (Σ' (_ : BitVec 32), BitVec 32) → sProp 𝕄} :
    SXB m K c 6 ⊢ iprop((∀ w0 : BitVec 32, ∀ w1 : BitVec 32, (SXB m K c 7 -∗ Q ⟨w0, w1⟩)) -∗ WP c (k0_part51 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v2 v5 v10 v1617 v1619 v1620 v1621 c0_i32_1218) Q) := by
  rw [k0_part51_eq_skeleton]; unfold k0_part51_skel
  simp only [Prog.lift, Prog.bind_op, Prog.bind_ret, Prog.pure_eq_ret, semSignalWord, semWaitWord, wp_deviceId]
  iintro H Hk
  iapply (wp_sendB m K c 6 (by decide) (dev20_eq c) (k0_off23_eq c) (k0_off23_eq c)) $$ H; iintro H
  iapply wp_done
  iapply Hk
  iexact H

theorem part_52 (c : Dev nD) (v2 : BitVec 32) (v5 : BitVec 32) (v8 : BitVec 32) (v10 : BitVec 32) (v1655 : BitVec 32) (v1656 : BitVec 32) {Q : BitVec 32 → sProp 𝕄} :
    WT m K rixAB c 20 0 ⊢ iprop((∀ w0 : BitVec 32, (WT m K rixAB c 20 2 -∗ Q w0)) -∗ WP c (k0_part52 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v2 v5 v8 v10 v1655 v1656) Q) := by
  rw [k0_part52_eq_skeleton]; unfold k0_part52_skel
  simp only [Prog.lift, Prog.bind_op, Prog.bind_ret, Prog.pure_eq_ret, semSignalWord, semWaitWord, wp_deviceId]
  iintro H Hk
  iapply (wp_waitFB m K rixAB c 20 0 (by decide) (by decide) (by decide) rfl (recvSemB_eq 0 (by decide) _)) $$ H; iintro H
  iapply (wp_waitFB m K rixAB c 20 1 (by decide) (by decide) (by decide) rfl (recvSemB_eq 1 (by decide) _)) $$ H; iintro H
  iapply wp_done
  iapply Hk
  iexact H

theorem part_53 (c : Dev nD) (v2 : BitVec 32) (v5 : BitVec 32) (v8 : BitVec 32) (v10 : BitVec 32) (v1690 : BitVec 32) {Q : (Σ' (_ : BitVec 32) (_ : BitVec 1), BitVec 32) → sProp 𝕄} :
    WT m K rixAB c 20 2 ⊢ iprop((∀ w0 : BitVec 32, ∀ w1 : BitVec 1, ∀ w2 : BitVec 32, (WT m K rixAB c 20 3 -∗ Q ⟨w0, w1, w2⟩)) -∗ WP c (k0_part53 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v2 v5 v8 v10 v1690) Q) := by
  rw [k0_part53_eq_skeleton]; unfold k0_part53_skel
  simp only [Prog.lift, Prog.bind_op, Prog.bind_ret, Prog.pure_eq_ret, semSignalWord, semWaitWord, wp_deviceId]
  iintro H Hk
  iapply (wp_waitFB m K rixAB c 20 2 (by decide) (by decide) (by decide) rfl (recvSemB_eq 2 (by decide) _)) $$ H; iintro H
  iapply wp_done
  iapply Hk
  iexact H

theorem part_54 (c : Dev nD) (v2 : BitVec 32) (v5 : BitVec 32) (v8 : BitVec 32) (v10 : BitVec 32) (v1718 : BitVec 32) (v1723 : BitVec 1) (v1724 : BitVec 32) {Q : PUnit → sProp 𝕄} :
    WT m K rixAB c 20 3 ⊢ iprop(((WT m K rixAB c 20 4 -∗ Q ⟨⟩)) -∗ WP c (k0_part54 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v2 v5 v8 v10 v1718 v1723 v1724) Q) := by
  rw [k0_part54_eq_skeleton]; unfold k0_part54_skel
  simp only [Prog.lift, Prog.bind_op, Prog.bind_ret, Prog.pure_eq_ret, semSignalWord, semWaitWord, wp_deviceId]
  iintro H Hk
  iapply (wp_waitFB m K rixAB c 20 3 (by decide) (by decide) (by decide) rfl (recvSemB_eq 3 (by decide) _)) $$ H; iintro H
  iapply wp_done
  iapply Hk
  iexact H

theorem part_55 (c : Dev nD) (v2 : BitVec 32) (v5 : BitVec 32) (v8 : BitVec 32) (v10 : BitVec 32) {Q : (Σ' (_ : BitVec 32), BitVec 32) → sProp 𝕄} :
    WT m K rixAB c 20 4 ⊢ iprop((∀ w0 : BitVec 32, ∀ w1 : BitVec 32, (WT m K rixAB c 20 6 -∗ Q ⟨w0, w1⟩)) -∗ WP c (k0_part55 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v2 v5 v8 v10) Q) := by
  rw [k0_part55_eq_skeleton]; unfold k0_part55_skel
  simp only [Prog.lift, Prog.bind_op, Prog.bind_ret, Prog.pure_eq_ret, semSignalWord, semWaitWord, wp_deviceId]
  iintro H Hk
  iapply (wp_waitFB m K rixAB c 20 4 (by decide) (by decide) (by decide) rfl (recvSemB_eq 4 (by decide) _)) $$ H; iintro H
  iapply (wp_waitFB m K rixAB c 20 5 (by decide) (by decide) (by decide) rfl (recvSemB_eq 5 (by decide) _)) $$ H; iintro H
  iapply wp_done
  iapply Hk
  iexact H

end Cert.Att

end
-- ==== Proof.PartsG.lean ====
/-
# The body, part by part: the result
-/
module

public import proofs.«01_k».proof.Proof.OpsWait
public import proofs.«01_k».proof.Proof.OpsLoadA
public import proofs.«01_k».proof.Proof.OpsLoadB

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

theorem part_56 (c : Dev nD) (v2 : BitVec 32) (v5 : BitVec 32) (v8 : BitVec 32) (v1789 : BitVec 32) (v1790 : BitVec 32) {Q : PUnit → sProp 𝕄} :
    iprop(WT m K rixAB c 20 6 ∗ ptB c (bof c) (shareDrop fullShare 7) (Gb m) ∗ outS m c 0) ⊢ iprop(((iprop(OW (F := F) c 20 ∗ LB m c ∗ outS m c 2) -∗ Q ⟨⟩)) -∗ WP c (k0_part56 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c v2 v5 v8 v1789 v1790) Q) := by
  rw [k0_part56_eq_skeleton]; unfold k0_part56_skel
  simp only [Prog.lift, Prog.bind_op, Prog.bind_ret, Prog.pure_eq_ret, semSignalWord, semWaitWord, wp_deviceId]
  iintro ⟨H, HB, HO⟩ Hk
  iapply (wp_waitFB m K rixAB c 20 6 (by decide) (by decide) (by decide) rfl (recvSemB_eq 6 (by decide) _)) $$ H; iintro H
  unfold WT
  rw [fam_full (fun o => wI (F := F) c (rixAB o)) (fun o => wD m c (rixAB o)) 7 (le_refl _)]
  icases H with ⟨#HR, HW, HF⟩
  ihave HB : LB m c $$ [HB HF]
  · unfold LB
    isplitl [HB]; · iexact HB
    iexact HF
  iapply (wp_loadB m c 0 (by decide)) $$ HB; iintro HB
  iapply (wp_peekO m c 0 _) $$ HO; iintro %v1813 HO
  iapply (wp_storeO m c 0 (by decide)) $$ [HO]
  · isplitl [HO]; · iexact HO
    ipureintro; rfl
  iintro HO
  iapply (wp_loadB m c 1 (by decide)) $$ HB; iintro HB
  iapply (wp_peekO m c 1 _) $$ HO; iintro %v1819 HO
  iapply (wp_storeO m c 1 (by decide)) $$ [HO]
  · isplitl [HO]; · iexact HO
    ipureintro; rfl
  iintro HO
  iapply wp_done
  iapply Hk
  isplitl [HW]; · iexact HW
  isplitl [HB]; · iexact HB
  iexact HO

theorem part_57 (c : Dev nD)  {Q : FVec F S128x128 .f32 → sProp 𝕄} :
    iprop(LB m c ∗ outS m c 2) ⊢ iprop(((iprop(LB m c ∗ outS m c 6) -∗ Q (k0_pay69 (rowB m ⟨6, by decide⟩)))) -∗ WP c (k0_part57 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 ) Q) := by
  rw [k0_part57_eq_skeleton]; unfold k0_part57_skel
  simp only [Prog.lift, Prog.bind_op, Prog.bind_ret, Prog.pure_eq_ret, semSignalWord, semWaitWord, wp_deviceId]
  iintro ⟨HB, HO⟩ Hk
  iapply (wp_loadB m c 2 (by decide)) $$ HB; iintro HB
  iapply (wp_peekO m c 2 _) $$ HO; iintro %v1825 HO
  iapply (wp_storeO m c 2 (by decide)) $$ [HO]
  · isplitl [HO]; · iexact HO
    ipureintro; rfl
  iintro HO
  iapply (wp_loadB m c 3 (by decide)) $$ HB; iintro HB
  iapply (wp_peekO m c 3 _) $$ HO; iintro %v1831 HO
  iapply (wp_storeO m c 3 (by decide)) $$ [HO]
  · isplitl [HO]; · iexact HO
    ipureintro; rfl
  iintro HO
  iapply (wp_loadB m c 4 (by decide)) $$ HB; iintro HB
  iapply (wp_peekO m c 4 _) $$ HO; iintro %v1837 HO
  iapply (wp_storeO m c 4 (by decide)) $$ [HO]
  · isplitl [HO]; · iexact HO
    ipureintro; rfl
  iintro HO
  iapply (wp_loadB m c 5 (by decide)) $$ HB; iintro HB
  iapply (wp_peekO m c 5 _) $$ HO; iintro %v1843 HO
  iapply (wp_storeO m c 5 (by decide)) $$ [HO]
  · isplitl [HO]; · iexact HO
    ipureintro; rfl
  iintro HO
  iapply (wp_loadB m c 6 (by decide)) $$ HB; iintro HB
  iapply wp_done
  iapply Hk
  isplitl [HB]; · iexact HB
  iexact HO

theorem part_58 (c : Dev nD)  {Q : PUnit → sProp 𝕄} :
    iprop(WT m K sixAA c 20 0 ∗ LB m c ∗ outS m c 6) ⊢ iprop(((iprop(WT m K sixAA c 20 3 ∗ LB m c ∗ outS m c 8) -∗ Q ⟨⟩)) -∗ WP c (k0_part58 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c (k0_pay69 (rowB m ⟨6, by decide⟩))) Q) := by
  rw [k0_part58_eq_skeleton]; unfold k0_part58_skel
  simp only [Prog.lift, Prog.bind_op, Prog.bind_ret, Prog.pure_eq_ret, semSignalWord, semWaitWord, wp_deviceId]
  iintro ⟨H, HB, HO⟩ Hk
  iapply (wp_peekO m c 6 _) $$ HO; iintro %v1849 HO
  iapply (wp_storeO m c 6 (by decide)) $$ [HO]
  · isplitl [HO]; · iexact HO
    ipureintro; rfl
  iintro HO
  iapply (wp_loadB m c 7 (by decide)) $$ HB; iintro HB
  iapply (wp_peekO m c 7 _) $$ HO; iintro %v1855 HO
  iapply (wp_storeO m c 7 (by decide)) $$ [HO]
  · isplitl [HO]; · iexact HO
    ipureintro; rfl
  iintro HO
  iapply (wp_waitFA m K sixAA c 20 0 (by decide) (by decide) (by decide) rfl (sendSemA_eq 0 (by decide) _)) $$ H; iintro H
  iapply (wp_waitFA m K sixAA c 20 1 (by decide) (by decide) (by decide) rfl (sendSemA_eq 1 (by decide) _)) $$ H; iintro H
  iapply (wp_waitFA m K sixAA c 20 2 (by decide) (by decide) (by decide) rfl (sendSemA_eq 2 (by decide) _)) $$ H; iintro H
  iapply wp_done
  iapply Hk
  isplitl [H]; · iexact H
  isplitl [HB]; · iexact HB
  iexact HO

theorem part_59 (c : Dev nD)  {Q : PUnit → sProp 𝕄} :
    WT m K sixAB c 20 0 ⊢ iprop(((WT m K sixAB c 20 4 -∗ Q ⟨⟩)) -∗ WP c (k0_part59 (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11 c) Q) := by
  rw [k0_part59_eq_skeleton]; unfold k0_part59_skel
  simp only [Prog.lift, Prog.bind_op, Prog.bind_ret, Prog.pure_eq_ret, semSignalWord, semWaitWord, wp_deviceId]
  iintro H Hk
  iapply (wp_waitFB m K sixAB c 20 0 (by decide) (by decide) (by decide) rfl (sendSemB_eq 0 (by decide) _)) $$ H; iintro H
  iapply (wp_waitFB m K sixAB c 20 1 (by decide) (by decide) (by decide) rfl (sendSemB_eq 1 (by decide) _)) $$ H; iintro H
  iapply (wp_waitFB m K sixAB c 20 2 (by decide) (by decide) (by decide) rfl (sendSemB_eq 2 (by decide) _)) $$ H; iintro H
  iapply (wp_waitFB m K sixAB c 20 3 (by decide) (by decide) (by decide) rfl (sendSemB_eq 3 (by decide) _)) $$ H; iintro H
  iapply wp_done
  iapply Hk
  iexact H

end Cert.Att

end
-- ==== Proof.Glue.lean ====
/-
# Splitting and joining the buffers
-/
module

public import proofs.«01_k».proof.Proof.OpsBar

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

/-! ## Families around one index -/

/-- A family over 4 slots is the slot `y` and the others, counted downwards from it. -/
theorem split_from4 (Φ : ℕ → sProp 𝕄) (y : ℕ) (hy : y < 4) :
    bigSep Finset.univ (fun k : Fin 4 => Φ k.val) = iprop(Φ y ∗ bigSep Finset.univ (fun o : Fin 3 => Φ ((y + 3 - o.val) % 4))) := by
  have hinj : Function.Injective (fun o : Fin 3 => (⟨(y + 3 - o.val) % 4, Nat.mod_lt _ (by decide)⟩ : Fin 4)) := by
    intro a b h
    have h' : (y + 3 - a.val) % 4 = (y + 3 - b.val) % 4 := congrArg Fin.val h
    have := a.isLt; have := b.isLt
    exact Fin.ext (by omega)
  rw [bigSep_univ_at _ (⟨y, hy⟩ : Fin 4),
    show Finset.univ.erase (⟨y, hy⟩ : Fin 4) = Finset.univ.map ⟨_, hinj⟩ from by
      ext k
      simp only [Finset.mem_erase, Finset.mem_univ, and_true, Finset.mem_map, true_and, Function.Embedding.coeFn_mk]
      have := k.isLt
      constructor
      · intro h
        have hk : k.val ≠ y := fun e => h (Fin.ext e)
        refine ⟨⟨(y + 3 - k.val) % 4, ?_⟩, Fin.ext ?_⟩
        · omega
        · show (y + 3 - (y + 3 - k.val) % 4) % 4 = k.val
          omega
      · rintro ⟨o, ho⟩ rfl
        have h' : (y + 3 - o.val) % 4 = y := congrArg Fin.val ho
        have := o.isLt
        omega, bigSep_map]
  rfl

/-- A family over 4 slots is the slot `y` and the others, counted upwards from it. -/
theorem split_past4 (Φ : ℕ → sProp 𝕄) (y : ℕ) (hy : y < 4) :
    bigSep Finset.univ (fun k : Fin 4 => Φ k.val) = iprop(Φ y ∗ bigSep Finset.univ (fun o : Fin 3 => Φ ((y + (o.val + 1)) % 4))) := by
  have hinj : Function.Injective (fun o : Fin 3 => (⟨(y + (o.val + 1)) % 4, Nat.mod_lt _ (by decide)⟩ : Fin 4)) := by
    intro a b h
    have h' : (y + (a.val + 1)) % 4 = (y + (b.val + 1)) % 4 := congrArg Fin.val h
    have := a.isLt; have := b.isLt
    exact Fin.ext (by omega)
  rw [bigSep_univ_at _ (⟨y, hy⟩ : Fin 4),
    show Finset.univ.erase (⟨y, hy⟩ : Fin 4) = Finset.univ.map ⟨_, hinj⟩ from by
      ext k
      simp only [Finset.mem_erase, Finset.mem_univ, and_true, Finset.mem_map, true_and, Function.Embedding.coeFn_mk]
      have := k.isLt
      constructor
      · intro h
        have hk : k.val ≠ y := fun e => h (Fin.ext e)
        refine ⟨⟨(k.val + 3 - y) % 4, ?_⟩, Fin.ext ?_⟩
        · omega
        · show (y + ((k.val + 3 - y) % 4 + 1)) % 4 = k.val
          omega
      · rintro ⟨o, ho⟩ rfl
        have h' : (y + (o.val + 1)) % 4 = y := congrArg Fin.val ho
        have := o.isLt
        omega, bigSep_map]
  rfl

/-- A family over 8 slots is the slot `y` and the others, counted downwards from it. -/
theorem split_from8 (Φ : ℕ → sProp 𝕄) (y : ℕ) (hy : y < 8) :
    bigSep Finset.univ (fun k : Fin 8 => Φ k.val) = iprop(Φ y ∗ bigSep Finset.univ (fun o : Fin 7 => Φ ((y + 7 - o.val) % 8))) := by
  have hinj : Function.Injective (fun o : Fin 7 => (⟨(y + 7 - o.val) % 8, Nat.mod_lt _ (by decide)⟩ : Fin 8)) := by
    intro a b h
    have h' : (y + 7 - a.val) % 8 = (y + 7 - b.val) % 8 := congrArg Fin.val h
    have := a.isLt; have := b.isLt
    exact Fin.ext (by omega)
  rw [bigSep_univ_at _ (⟨y, hy⟩ : Fin 8),
    show Finset.univ.erase (⟨y, hy⟩ : Fin 8) = Finset.univ.map ⟨_, hinj⟩ from by
      ext k
      simp only [Finset.mem_erase, Finset.mem_univ, and_true, Finset.mem_map, true_and, Function.Embedding.coeFn_mk]
      have := k.isLt
      constructor
      · intro h
        have hk : k.val ≠ y := fun e => h (Fin.ext e)
        refine ⟨⟨(y + 7 - k.val) % 8, ?_⟩, Fin.ext ?_⟩
        · omega
        · show (y + 7 - (y + 7 - k.val) % 8) % 8 = k.val
          omega
      · rintro ⟨o, ho⟩ rfl
        have h' : (y + 7 - o.val) % 8 = y := congrArg Fin.val ho
        have := o.isLt
        omega, bigSep_map]
  rfl

/-- A family over 8 slots is the slot `y` and the others, counted upwards from it. -/
theorem split_past8 (Φ : ℕ → sProp 𝕄) (y : ℕ) (hy : y < 8) :
    bigSep Finset.univ (fun k : Fin 8 => Φ k.val) = iprop(Φ y ∗ bigSep Finset.univ (fun o : Fin 7 => Φ ((y + (o.val + 1)) % 8))) := by
  have hinj : Function.Injective (fun o : Fin 7 => (⟨(y + (o.val + 1)) % 8, Nat.mod_lt _ (by decide)⟩ : Fin 8)) := by
    intro a b h
    have h' : (y + (a.val + 1)) % 8 = (y + (b.val + 1)) % 8 := congrArg Fin.val h
    have := a.isLt; have := b.isLt
    exact Fin.ext (by omega)
  rw [bigSep_univ_at _ (⟨y, hy⟩ : Fin 8),
    show Finset.univ.erase (⟨y, hy⟩ : Fin 8) = Finset.univ.map ⟨_, hinj⟩ from by
      ext k
      simp only [Finset.mem_erase, Finset.mem_univ, and_true, Finset.mem_map, true_and, Function.Embedding.coeFn_mk]
      have := k.isLt
      constructor
      · intro h
        have hk : k.val ≠ y := fun e => h (Fin.ext e)
        refine ⟨⟨(k.val + 7 - y) % 8, ?_⟩, Fin.ext ?_⟩
        · omega
        · show (y + ((k.val + 7 - y) % 8 + 1)) % 8 = k.val
          omega
      · rintro ⟨o, ho⟩ rfl
        have h' : (y + (o.val + 1)) % 8 = y := congrArg Fin.val ho
        have := o.isLt
        omega, bigSep_map]
  rfl

/-! ## Whole buffers and their slots -/

variable (c : Dev nD)

theorem coverKs : (Finset.univ : Finset S16x1024x128.Idx) = Finset.univ.biUnion fun h : Fin 16 => slotK h.val := by
  ext i
  simp only [Finset.mem_univ, Finset.mem_biUnion, true_and, true_iff]
  exact ⟨i 0, by unfold slotK; exact Finset.mem_filter.mpr ⟨Finset.mem_univ _, rfl⟩⟩
theorem apartK (a b : ℕ) (h : a ≠ b) : Disjoint (slotK a) (slotK b) := by
  unfold slotK
  exact Finset.disjoint_filter.mpr fun i _ ha hb => h (ha.symm.trans hb)

theorem coverAs : (Finset.univ : Finset S4x256x128.Idx) = Finset.univ.biUnion fun h : Fin 4 => slotA h.val := by
  ext i
  simp only [Finset.mem_univ, Finset.mem_biUnion, true_and, true_iff]
  exact ⟨i 0, by unfold slotA; exact Finset.mem_filter.mpr ⟨Finset.mem_univ _, rfl⟩⟩
theorem apartA (a b : ℕ) (h : a ≠ b) : Disjoint (slotA a) (slotA b) := by
  unfold slotA
  exact Finset.disjoint_filter.mpr fun i _ ha hb => h (ha.symm.trans hb)

theorem coverBs : (Finset.univ : Finset S8x128x128.Idx) = Finset.univ.biUnion fun h : Fin 8 => slotB h.val := by
  ext i
  simp only [Finset.mem_univ, Finset.mem_biUnion, true_and, true_iff]
  exact ⟨i 0, by unfold slotB; exact Finset.mem_filter.mpr ⟨Finset.mem_univ _, rfl⟩⟩
theorem apartB (a b : ℕ) (h : a ≠ b) : Disjoint (slotB a) (slotB b) := by
  unfold slotB
  exact Finset.disjoint_filter.mpr fun i _ ha hb => h (ha.symm.trans hb)

theorem whole_k (f : (cc0_scratch0 : Ref sig .tc).ty.Contents (Elt F)) :
    ((((c : Thread nD τ).loc cc0_scratch0) ↦{fullShare} f : sProp 𝕄)) = bigSep Finset.univ fun h : Fin 16 => dstKpt c h f := by
  rw [coverKs]
  exact pointsTo_biUnion _ _ fun a _ b _ hab => apartK a.val b.val (fun e => hab (Fin.ext e))

theorem whole_v (f : (cc0_scratch1 : Ref sig .tc).ty.Contents (Elt F)) :
    ((((c : Thread nD τ).loc cc0_scratch1) ↦{fullShare} f : sProp 𝕄)) = bigSep Finset.univ fun h : Fin 16 => dstVpt c h f := by
  rw [coverKs]
  exact pointsTo_biUnion _ _ fun a _ b _ hab => apartK a.val b.val (fun e => hab (Fin.ext e))

theorem whole_a (f : (cc0_scratch4 : Ref sig .tc).ty.Contents (Elt F)) :
    ((((c : Thread nD τ).loc cc0_scratch4) ↦{fullShare} f : sProp 𝕄)) = bigSep Finset.univ fun h : Fin 4 => ptA c h.val fullShare f := by
  rw [coverAs]
  exact pointsTo_biUnion _ _ fun a _ b _ hab => apartA a.val b.val (fun e => hab (Fin.ext e))

theorem whole_b (f : (cc0_scratch5 : Ref sig .tc).ty.Contents (Elt F)) :
    ((((c : Thread nD τ).loc cc0_scratch5) ↦{fullShare} f : sProp 𝕄)) = bigSep Finset.univ fun h : Fin 8 => ptB c h.val fullShare f := by
  rw [coverBs]
  exact pointsTo_biUnion _ _ fun a _ b _ hab => apartB a.val b.val (fun e => hab (Fin.ext e))

/-- The rest of the keys: other batch entries. -/
def restK : sProp 𝕄 :=
  ((c : Thread nD τ).loc main_arg1) ↦[Finset.univ \ Finset.univ.biUnion fun h : Fin 16 => srcK (bof c) h.val]{fullShare} m ((c : Thread nD τ).loc main_arg1)
theorem whole_argK :
    ((((c : Thread nD τ).loc main_arg1) ↦{fullShare} m ((c : Thread nD τ).loc main_arg1) : sProp 𝕄)) ⊣⊢ iprop((bigSep Finset.univ fun h : Fin 16 => srcKpt m c h) ∗ restK m c) := by
  have e : (((c : Thread nD τ).loc main_arg1) ↦[Finset.univ.biUnion fun h : Fin 16 => srcK (bof c) h.val]{fullShare} m ((c : Thread nD τ).loc main_arg1) : sProp 𝕄)
      = bigSep Finset.univ fun h : Fin 16 => srcKpt m c h :=
    pointsTo_biUnion _ _ fun a _ b _ hab => by
      unfold srcK
      exact Finset.disjoint_filter.mpr fun i _ ha hb => hab (Fin.ext (ha.2.symm.trans hb.2))
  rw [← e]
  exact pointsTo_split_subset (Finset.subset_univ _)

/-- The rest of the values: other batch entries. -/
def restV : sProp 𝕄 :=
  ((c : Thread nD τ).loc main_arg2) ↦[Finset.univ \ Finset.univ.biUnion fun h : Fin 16 => srcK (bof c) h.val]{fullShare} m ((c : Thread nD τ).loc main_arg2)
theorem whole_argV :
    ((((c : Thread nD τ).loc main_arg2) ↦{fullShare} m ((c : Thread nD τ).loc main_arg2) : sProp 𝕄)) ⊣⊢ iprop((bigSep Finset.univ fun h : Fin 16 => srcVpt m c h) ∗ restV m c) := by
  have e : (((c : Thread nD τ).loc main_arg2) ↦[Finset.univ.biUnion fun h : Fin 16 => srcK (bof c) h.val]{fullShare} m ((c : Thread nD τ).loc main_arg2) : sProp 𝕄)
      = bigSep Finset.univ fun h : Fin 16 => srcVpt m c h :=
    pointsTo_biUnion _ _ fun a _ b _ hab => by
      unfold srcK
      exact Finset.disjoint_filter.mpr fun i _ ha hb => hab (Fin.ext (ha.2.symm.trans hb.2))
  rw [← e]
  exact pointsTo_split_subset (Finset.subset_univ _)

/-! ## What the copies of the keys and the values begin from and end with -/

theorem mkK (h : Fin 16) (f) :
    iprop(srcKpt m c h ∗ dstKpt c h f ∗ semVal ((c : Thread nD τ), .dma (kSem h)) 0) ⊢ (kIdle m c h : sProp 𝕄) := by
  unfold kIdle
  iintro ⟨H1, H2, H3⟩
  isplitl [H1]; · iexact H1
  isplitl [H2]; · iexists f; iexact H2
  iexact H3

theorem idleK :
    iprop((((c : Thread nD τ).loc main_arg1) ↦{fullShare} m ((c : Thread nD τ).loc main_arg1)) ∗ (∃ f, ((c : Thread nD τ).loc cc0_scratch0) ↦{fullShare} f)
      ∗ bigSep Finset.univ (fun h : Fin 16 => semVal ((c : Thread nD τ), .dma (kSem h)) 0))
      ⊢ (iprop(fam (kIdle m c) (kFly m c) 0 ∗ restK m c) : sProp 𝕄) := by
  rw [fam_zero]
  iintro ⟨HA, ⟨%f, HS⟩, Hs⟩
  ihave HA' := (whole_argK m c).1 $$ HA
  icases HA' with ⟨HA, HR⟩
  isplitr [HR]
  · ihave HS := (Entails.of_eq (whole_k c f)) $$ HS
    have e : iprop((bigSep Finset.univ fun h : Fin 16 => srcKpt m c h) ∗ (bigSep Finset.univ fun h : Fin 16 => dstKpt c h f)
        ∗ bigSep Finset.univ (fun h : Fin 16 => semVal ((c : Thread nD τ), .dma (kSem h)) 0)) ⊢ (bigSep Finset.univ (kIdle m c) : sProp 𝕄) := by
      rw [← BI.bigSep_sep', ← BI.bigSep_sep']
      exact bigSep_mono fun h _ => mkK m c h f
    iapply e
    isplitl [HA]; · iexact HA
    isplitl [HS]; · iexact HS
    iexact Hs
  · iexact HR

theorem doneK :
    iprop(fam (kFly m c) (kDone m c) 16 ∗ restK m c)
      ⊢ (iprop((((c : Thread nD τ).loc main_arg1) ↦{fullShare} m ((c : Thread nD τ).loc main_arg1)) ∗ (∃ f, ((c : Thread nD τ).loc cc0_scratch0) ↦{fullShare} f)
      ∗ bigSep Finset.univ (fun h : Fin 16 => semVal ((c : Thread nD τ), .dma (kSem h)) 0)) : sProp 𝕄) := by
  rw [fam_full _ _ 16 (le_refl _)]
  have e : bigSep Finset.univ (kDone m c) ⊢ (iprop(((bigSep Finset.univ fun h : Fin 16 => dstKpt c h (KB m c)) ∗ bigSep Finset.univ fun h : Fin 16 => srcKpt m c h)
        ∗ bigSep Finset.univ (fun h : Fin 16 => semVal ((c : Thread nD τ), .dma (kSem h)) 0)) : sProp 𝕄) := by
    rw [← BI.bigSep_sep', ← BI.bigSep_sep']
    exact bigSep_mono fun h _ => by unfold kDone; exact Entails.refl _
  iintro ⟨HD, HR⟩
  ihave HD' := e $$ HD
  icases HD' with ⟨⟨H1, H2⟩, H3⟩
  isplitl [H2 HR]
  · iapply (whole_argK m c).2
    isplitl [H2]; · iexact H2
    iexact HR
  isplitl [H1]
  · iexists (KB m c)
    iapply (Entails.of_eq (whole_k c (KB m c)).symm)
    iexact H1
  iexact H3

theorem mkV (h : Fin 16) (f) :
    iprop(srcVpt m c h ∗ dstVpt c h f ∗ semVal ((c : Thread nD τ), .dma (vSem h)) 0) ⊢ (vIdle m c h : sProp 𝕄) := by
  unfold vIdle
  iintro ⟨H1, H2, H3⟩
  isplitl [H1]; · iexact H1
  isplitl [H2]; · iexists f; iexact H2
  iexact H3

theorem idleV :
    iprop((((c : Thread nD τ).loc main_arg2) ↦{fullShare} m ((c : Thread nD τ).loc main_arg2)) ∗ (∃ f, ((c : Thread nD τ).loc cc0_scratch1) ↦{fullShare} f)
      ∗ bigSep Finset.univ (fun h : Fin 16 => semVal ((c : Thread nD τ), .dma (vSem h)) 0))
      ⊢ (iprop(fam (vIdle m c) (vFly m c) 0 ∗ restV m c) : sProp 𝕄) := by
  rw [fam_zero]
  iintro ⟨HA, ⟨%f, HS⟩, Hs⟩
  ihave HA' := (whole_argV m c).1 $$ HA
  icases HA' with ⟨HA, HR⟩
  isplitr [HR]
  · ihave HS := (Entails.of_eq (whole_v c f)) $$ HS
    have e : iprop((bigSep Finset.univ fun h : Fin 16 => srcVpt m c h) ∗ (bigSep Finset.univ fun h : Fin 16 => dstVpt c h f)
        ∗ bigSep Finset.univ (fun h : Fin 16 => semVal ((c : Thread nD τ), .dma (vSem h)) 0)) ⊢ (bigSep Finset.univ (vIdle m c) : sProp 𝕄) := by
      rw [← BI.bigSep_sep', ← BI.bigSep_sep']
      exact bigSep_mono fun h _ => mkV m c h f
    iapply e
    isplitl [HA]; · iexact HA
    isplitl [HS]; · iexact HS
    iexact Hs
  · iexact HR

theorem doneV :
    iprop(fam (vFly m c) (vDone m c) 16 ∗ restV m c)
      ⊢ (iprop((((c : Thread nD τ).loc main_arg2) ↦{fullShare} m ((c : Thread nD τ).loc main_arg2)) ∗ (∃ f, ((c : Thread nD τ).loc cc0_scratch1) ↦{fullShare} f)
      ∗ bigSep Finset.univ (fun h : Fin 16 => semVal ((c : Thread nD τ), .dma (vSem h)) 0)) : sProp 𝕄) := by
  rw [fam_full _ _ 16 (le_refl _)]
  have e : bigSep Finset.univ (vDone m c) ⊢ (iprop(((bigSep Finset.univ fun h : Fin 16 => dstVpt c h (VB m c)) ∗ bigSep Finset.univ fun h : Fin 16 => srcVpt m c h)
        ∗ bigSep Finset.univ (fun h : Fin 16 => semVal ((c : Thread nD τ), .dma (vSem h)) 0)) : sProp 𝕄) := by
    rw [← BI.bigSep_sep', ← BI.bigSep_sep']
    exact bigSep_mono fun h _ => by unfold vDone; exact Entails.refl _
  iintro ⟨HD, HR⟩
  ihave HD' := e $$ HD
  icases HD' with ⟨⟨H1, H2⟩, H3⟩
  isplitl [H2 HR]
  · iapply (whole_argV m c).2
    isplitl [H2]; · iexact H2
    iexact HR
  isplitl [H1]
  · iexists (VB m c)
    iapply (Entails.of_eq (whole_v c (VB m c)).symm)
    iexact H1
  iexact H3

/-! ## The barrier's payments -/

def lo10 : Fin 3 ↪ Fin 10 := ⟨fun o => ⟨o.val, by omega⟩, by decide⟩
def hi10 : Fin 7 ↪ Fin 10 := ⟨fun o => ⟨3 + o.val, by omega⟩, by decide⟩
def dutyA : Fin 3 ↪ Fin 16 := ⟨fun o => ⟨o.val + 1, by omega⟩, by decide⟩
def dutyB : Fin 7 ↪ Fin 16 := ⟨fun o => ⟨o.val + 9, by omega⟩, by decide⟩

theorem join10 (Φ : Fin 10 → sProp 𝕄) :
    iprop((bigSep Finset.univ fun o : Fin 3 => Φ ⟨o.val, by omega⟩) ∗ bigSep Finset.univ fun o : Fin 7 => Φ ⟨3 + o.val, by omega⟩) ⊢ bigSep Finset.univ Φ := by
  rw [show (Finset.univ : Finset (Fin 10)) = Finset.univ.map lo10 ∪ Finset.univ.map hi10 from by decide,
    bigSep_union (by decide), bigSep_map, bigSep_map]
  exact Entails.refl _

theorem ysh_back : ∀ (o : Fin 3) (c : Dev nD), ysh ⟨3 - o.val, by omega⟩ (ysh ⟨o.val + 1, by omega⟩ c) = c := by decide +kernel
theorem give_a (o : Fin 3) (f) : (ptA c ((yof c + (o.val + 1)) % 4) fullShare f : sProp 𝕄) ⊢ barPay (F := F) (peer ⟨o.val, by omega⟩ c) (pduty ⟨o.val, by omega⟩) := by
  have h : barPay (F := F) (peer ⟨o.val, by omega⟩ c) (pduty ⟨o.val, by omega⟩) = iprop(∃ f, ptA c ((yof c + (o.val + 1)) % 4) fullShare f) := by
    have hb : barPay (F := F) (peer ⟨o.val, by omega⟩ c) (pduty ⟨o.val, by omega⟩)
        = iprop(∃ f, ptA (ysh ⟨3 - o.val, by omega⟩ (ysh ⟨o.val + 1, by omega⟩ c)) (yof (ysh ⟨o.val + 1, by omega⟩ c)) fullShare f) := by
      fin_cases o <;> rfl
    rw [hb, ysh_back, yof_ysh]
  rw [h]
  iintro H
  iexists f
  iexact H
theorem bsh_back : ∀ (o : Fin 7) (c : Dev nD), bsh ⟨7 - o.val, by omega⟩ (bsh ⟨o.val + 1, by omega⟩ c) = c := by decide +kernel
theorem give_b (o : Fin 7) (g) : (ptB c ((bof c + (o.val + 1)) % 8) fullShare g : sProp 𝕄) ⊢ barPay (F := F) (peer ⟨3 + o.val, by omega⟩ c) (pduty ⟨3 + o.val, by omega⟩) := by
  have h : barPay (F := F) (peer ⟨3 + o.val, by omega⟩ c) (pduty ⟨3 + o.val, by omega⟩) = iprop(∃ f, ptB c ((bof c + (o.val + 1)) % 8) fullShare f) := by
    have hb : barPay (F := F) (peer ⟨3 + o.val, by omega⟩ c) (pduty ⟨3 + o.val, by omega⟩)
        = iprop(∃ f, ptB (bsh ⟨7 - o.val, by omega⟩ (bsh ⟨o.val + 1, by omega⟩ c)) (bof (bsh ⟨o.val + 1, by omega⟩ c)) fullShare f) := by
      fin_cases o <;> rfl
    rw [hb, bsh_back, bof_bsh]
  rw [h]
  iintro H
  iexists g
  iexact H

/-- The ten tokens for the signals, with the slots they hand over, from the two whole buffers. -/
theorem start_sg {f g} :
    iprop((bigSep Finset.univ fun t : Fin 10 => dutyTok ER (cell (peer ⟨t.val, by omega⟩ c) 0) 0 (pduty ⟨t.val, by omega⟩))
      ∗ (((c : Thread nD τ).loc cc0_scratch4) ↦{fullShare} f) ∗ (((c : Thread nD τ).loc cc0_scratch5) ↦{fullShare} g))
      ⊢ (iprop(fam (sgIdle (F := F) c) (fun _ => iprop(emp)) 0 ∗ ptA c (yof c) fullShare f ∗ ptB c (bof c) fullShare g) : sProp 𝕄) := by
  have ea : (bigSep Finset.univ fun o : Fin 3 => ptA c ((yof c + (o.val + 1)) % 4) fullShare f : sProp 𝕄)
      ⊢ bigSep Finset.univ fun o : Fin 3 => barPay (F := F) (peer ⟨o.val, by omega⟩ c) (pduty ⟨o.val, by omega⟩) :=
    bigSep_mono fun o _ => give_a c o f
  have eb : (bigSep Finset.univ fun o : Fin 7 => ptB c ((bof c + (o.val + 1)) % 8) fullShare g : sProp 𝕄)
      ⊢ bigSep Finset.univ fun o : Fin 7 => barPay (F := F) (peer ⟨3 + o.val, by omega⟩ c) (pduty ⟨3 + o.val, by omega⟩) :=
    bigSep_mono fun o _ => give_b c o g
  have ej := join10 (F := F) (fun t : Fin 10 => barPay (F := F) (peer ⟨t.val, by omega⟩ c) (pduty ⟨t.val, by omega⟩))
  rw [fam_zero]
  iintro ⟨HT, HA, HB⟩
  ihave HA := (Entails.of_eq ((whole_a c f).trans (split_past4 (fun k => ptA c k fullShare f) (yof c) (yof_lt c)))) $$ HA
  ihave HB := (Entails.of_eq ((whole_b c g).trans (split_past8 (fun k => ptB c k fullShare g) (bof c) (bof_lt c)))) $$ HB
  icases HA with ⟨HA, HA'⟩
  icases HB with ⟨HB, HB'⟩
  isplitl [HT HA' HB']
  · iapply (Entails.of_eq (BI.bigSep_sep' Finset.univ (fun t : Fin 10 => dutyTok ER (cell (peer ⟨t.val, by omega⟩ c) 0) 0 (pduty ⟨t.val, by omega⟩))
      (fun t : Fin 10 => barPay (F := F) (peer ⟨t.val, by omega⟩ c) (pduty ⟨t.val, by omega⟩))).symm)
    isplitl [HT]; · iexact HT
    iapply ej
    isplitl [HA']
    · iapply ea; iexact HA'
    · iapply eb; iexact HB'
  isplitl [HA]; · iexact HA
  iexact HB

/-- What the barrier hands over: this device's slot on each of its peers. -/
theorem bar_gives :
    (bigSep (dutiesOf 0) (fun d => barPay (F := F) c d) : sProp 𝕄)
      ⊢ iprop((bigSep Finset.univ fun o : Fin 3 => iprop(∃ f, ptA (F := F) (ysh ⟨o.val + 1, by omega⟩ c) (yof c) fullShare f))
        ∗ bigSep Finset.univ fun o : Fin 7 => iprop(∃ f, ptB (F := F) (bsh ⟨o.val + 1, by omega⟩ c) (bof c) fullShare f)) := by
  rw [show dutiesOf 0 = Finset.univ.map dutyA ∪ Finset.univ.map dutyB from by decide,
    bigSep_union (by decide), bigSep_map, bigSep_map]
  refine Entails.of_eq (congrArg₂ BI.sep (bigSep_congr fun o _ => ?_) (bigSep_congr fun o _ => ?_))
  · fin_cases o <;> rfl
  · fin_cases o <;> rfl

end Cert.Att

end
-- ==== Proof.Glue2.lean ====
/-
# Splitting and joining around the two exchanges
-/
module

public import proofs.«01_k».proof.Proof.Glue
public import proofs.«01_k».proof.Proof.OpsWait
public import proofs.«01_k».proof.Proof.OpsLoadA
public import proofs.«01_k».proof.Proof.OpsLoadB

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

variable (c : Dev nD)

/-! ## Exchange A -/

theorem mkSA (o : Fin 3) :
    iprop((dutyTok ER (cell c (sixAA o)) 0 0 ∗ dutyTok ER (cell (ysh ⟨o.val + 1, by omega⟩ c) (rixAA o)) 0 0)
      ∗ (∃ f, ptA (F := F) (ysh ⟨o.val + 1, by omega⟩ c) (yof c) fullShare f) ∗ ptA c (yof c) (shareTokN fullShare o.val) (Ga m c)) ⊢ (sIA m c o : sProp 𝕄) := by
  unfold sIA
  iintro ⟨⟨H1, H2⟩, H3, H4⟩
  isplitl [H1]; · iexact H1
  isplitl [H2]; · iexact H2
  isplitl [H3]; · iexact H3
  iexact H4

/-- The copies' tokens, this device's slot on its peers, and shares of its own slot. -/
theorem start_sendA :
    iprop((bigSep Finset.univ fun o : Fin 3 => iprop(dutyTok ER (cell c (sixAA o)) 0 0 ∗ dutyTok ER (cell (ysh ⟨o.val + 1, by omega⟩ c) (rixAA o)) 0 0))
      ∗ (bigSep Finset.univ fun o : Fin 3 => iprop(∃ f, ptA (F := F) (ysh ⟨o.val + 1, by omega⟩ c) (yof c) fullShare f))
      ∗ ptA c (yof c) fullShare (Ga m c))
      ⊢ (iprop(fam (sIA m c) (sDA (F := F) c) 0 ∗ ptA c (yof c) (shareDrop fullShare 3) (Ga m c)) : sProp 𝕄) := by
  have e : iprop((bigSep Finset.univ fun o : Fin 3 => iprop(dutyTok ER (cell c (sixAA o)) 0 0 ∗ dutyTok ER (cell (ysh ⟨o.val + 1, by omega⟩ c) (rixAA o)) 0 0))
      ∗ (bigSep Finset.univ fun o : Fin 3 => iprop(∃ f, ptA (F := F) (ysh ⟨o.val + 1, by omega⟩ c) (yof c) fullShare f))
      ∗ bigSep Finset.univ fun o : Fin 3 => ptA c (yof c) (shareTokN fullShare o.val) (Ga m c)) ⊢ (bigSep Finset.univ (sIA m c) : sProp 𝕄) := by
    rw [← BI.bigSep_sep', ← BI.bigSep_sep']
    exact bigSep_mono fun o _ => mkSA m c o
  have et : (ptA c (yof c) fullShare (Ga m c) : sProp 𝕄) ⊢ iprop(ptA c (yof c) (shareDrop fullShare 3) (Ga m c)
      ∗ bigSep Finset.univ fun o : Fin 3 => ptA c (yof c) (shareTokN fullShare o.val) (Ga m c)) := by
    unfold ptA; exact pointsTo_toks_split fullShare 3
  rw [fam_zero]
  iintro ⟨HT, HP, HG⟩
  ihave HG := et $$ HG
  icases HG with ⟨HG, HS⟩
  isplitr [HG]
  · iapply e
    isplitl [HT]; · iexact HT
    isplitl [HP]; · iexact HP
    iexact HS
  · iexact HG

theorem end1A (o : Fin 3) : iprop(atPos ER (cell c (sixAA o)) 0 ∅ 0 ∗ sDA (F := F) c o) ⊢ (wI (F := F) c (sixAA o) : sProp 𝕄) := by
  unfold wI sDA; exact sep_comm.1

/-- What the waits for the copies' ends begin from. -/
theorem start_endsA :
    iprop((bigSep Finset.univ fun o : Fin 3 => atPos ER (cell c (sixAA o)) 0 ∅ 0) ∗ bigSep Finset.univ (sDA (F := F) c))
      ⊢ (bigSep Finset.univ (fun o : Fin 3 => wI (F := F) c (sixAA o)) : sProp 𝕄) := by
  rw [← BI.bigSep_sep']
  exact bigSep_mono fun o _ => end1A c o

theorem splitDA (ix : Fin 3 → Fin 21) (Φ : Fin 3 → sProp 𝕄) (h : ∀ o, pay m c (ix o).val 0 = Φ o) :
    (bigSep Finset.univ (fun o : Fin 3 => wD m c (ix o)) : sProp 𝕄)
      ⊢ iprop((bigSep Finset.univ fun o : Fin 3 => semVal (cell c (ix o)) 0) ∗ bigSep Finset.univ Φ) := by
  rw [← BI.bigSep_sep']
  exact bigSep_mono fun o _ => by unfold wD; rw [h]; exact Entails.refl _

/-- After the waits the whole buffer is back, and the semaphores are at zero. -/
theorem end_A :
    iprop(LA m c ∗ bigSep Finset.univ (fun o : Fin 3 => wD m c (sixAA o)))
      ⊢ (iprop((∃ f, ((c : Thread nD τ).loc cc0_scratch4) ↦{fullShare} f)
        ∗ (bigSep Finset.univ fun o : Fin 3 => semVal (cell c (sixAA o)) 0) ∗ bigSep Finset.univ fun o : Fin 3 => semVal (cell c (rixAA o)) 0) : sProp 𝕄) := by
  have e1 := splitDA m c rixAA _ (pay_recvA m c)
  have e2 := splitDA m c sixAA _ (pay_sendA m c)
  have et : iprop(ptA c (yof c) (shareDrop fullShare 3) (Ga m c)
      ∗ bigSep Finset.univ fun o : Fin 3 => ptA c (yof c) (shareTokN fullShare o.val) (Ga m c)) ⊢ (ptA c (yof c) fullShare (Ga m c) : sProp 𝕄) := by
    unfold ptA; exact pointsTo_toks_join fullShare 3
  have ew := (whole_a (F := F) c (Ga m c)).trans (split_from4 (fun k => ptA c k fullShare (Ga m c)) (yof c) (yof_lt c))
  unfold LA
  iintro ⟨⟨HD, HR⟩, HS⟩
  ihave HR := e1 $$ HR
  ihave HS := e2 $$ HS
  icases HR with ⟨Hr, HR⟩
  icases HS with ⟨Hs, HS⟩
  ihave HO := et $$ [HD HS]
  · isplitl [HD]; · iexact HD
    iexact HS
  isplitl [HO HR]
  · iexists (Ga m c)
    iapply (Entails.of_eq ew.symm)
    isplitl [HO]; · iexact HO
    iexact HR
  isplitl [Hs]; · iexact Hs
  iexact Hr

/-! ## Exchange B -/

theorem mkSB (o : Fin 7) :
    iprop((dutyTok ER (cell c (sixAB o)) 0 0 ∗ dutyTok ER (cell (bsh ⟨o.val + 1, by omega⟩ c) (rixAB o)) 0 0)
      ∗ (∃ f, ptB (F := F) (bsh ⟨o.val + 1, by omega⟩ c) (bof c) fullShare f) ∗ ptB c (bof c) (shareTokN fullShare o.val) (Gb m)) ⊢ (sIB m c o : sProp 𝕄) := by
  unfold sIB
  iintro ⟨⟨H1, H2⟩, H3, H4⟩
  isplitl [H1]; · iexact H1
  isplitl [H2]; · iexact H2
  isplitl [H3]; · iexact H3
  iexact H4

/-- The copies' tokens, this device's slot on its peers, and shares of its own slot. -/
theorem start_sendB :
    iprop((bigSep Finset.univ fun o : Fin 7 => iprop(dutyTok ER (cell c (sixAB o)) 0 0 ∗ dutyTok ER (cell (bsh ⟨o.val + 1, by omega⟩ c) (rixAB o)) 0 0))
      ∗ (bigSep Finset.univ fun o : Fin 7 => iprop(∃ f, ptB (F := F) (bsh ⟨o.val + 1, by omega⟩ c) (bof c) fullShare f))
      ∗ ptB c (bof c) fullShare (Gb m))
      ⊢ (iprop(fam (sIB m c) (sDB (F := F) c) 0 ∗ ptB c (bof c) (shareDrop fullShare 7) (Gb m)) : sProp 𝕄) := by
  have e : iprop((bigSep Finset.univ fun o : Fin 7 => iprop(dutyTok ER (cell c (sixAB o)) 0 0 ∗ dutyTok ER (cell (bsh ⟨o.val + 1, by omega⟩ c) (rixAB o)) 0 0))
      ∗ (bigSep Finset.univ fun o : Fin 7 => iprop(∃ f, ptB (F := F) (bsh ⟨o.val + 1, by omega⟩ c) (bof c) fullShare f))
      ∗ bigSep Finset.univ fun o : Fin 7 => ptB c (bof c) (shareTokN fullShare o.val) (Gb m)) ⊢ (bigSep Finset.univ (sIB m c) : sProp 𝕄) := by
    rw [← BI.bigSep_sep', ← BI.bigSep_sep']
    exact bigSep_mono fun o _ => mkSB m c o
  have et : (ptB c (bof c) fullShare (Gb m) : sProp 𝕄) ⊢ iprop(ptB c (bof c) (shareDrop fullShare 7) (Gb m)
      ∗ bigSep Finset.univ fun o : Fin 7 => ptB c (bof c) (shareTokN fullShare o.val) (Gb m)) := by
    unfold ptB; exact pointsTo_toks_split fullShare 7
  rw [fam_zero]
  iintro ⟨HT, HP, HG⟩
  ihave HG := et $$ HG
  icases HG with ⟨HG, HS⟩
  isplitr [HG]
  · iapply e
    isplitl [HT]; · iexact HT
    isplitl [HP]; · iexact HP
    iexact HS
  · iexact HG

theorem end1B (o : Fin 7) : iprop(atPos ER (cell c (sixAB o)) 0 ∅ 0 ∗ sDB (F := F) c o) ⊢ (wI (F := F) c (sixAB o) : sProp 𝕄) := by
  unfold wI sDB; exact sep_comm.1

/-- What the waits for the copies' ends begin from. -/
theorem start_endsB :
    iprop((bigSep Finset.univ fun o : Fin 7 => atPos ER (cell c (sixAB o)) 0 ∅ 0) ∗ bigSep Finset.univ (sDB (F := F) c))
      ⊢ (bigSep Finset.univ (fun o : Fin 7 => wI (F := F) c (sixAB o)) : sProp 𝕄) := by
  rw [← BI.bigSep_sep']
  exact bigSep_mono fun o _ => end1B c o

theorem splitDB (ix : Fin 7 → Fin 21) (Φ : Fin 7 → sProp 𝕄) (h : ∀ o, pay m c (ix o).val 0 = Φ o) :
    (bigSep Finset.univ (fun o : Fin 7 => wD m c (ix o)) : sProp 𝕄)
      ⊢ iprop((bigSep Finset.univ fun o : Fin 7 => semVal (cell c (ix o)) 0) ∗ bigSep Finset.univ Φ) := by
  rw [← BI.bigSep_sep']
  exact bigSep_mono fun o _ => by unfold wD; rw [h]; exact Entails.refl _

/-- After the waits the whole buffer is back, and the semaphores are at zero. -/
theorem end_B :
    iprop(LB m c ∗ bigSep Finset.univ (fun o : Fin 7 => wD m c (sixAB o)))
      ⊢ (iprop((∃ f, ((c : Thread nD τ).loc cc0_scratch5) ↦{fullShare} f)
        ∗ (bigSep Finset.univ fun o : Fin 7 => semVal (cell c (sixAB o)) 0) ∗ bigSep Finset.univ fun o : Fin 7 => semVal (cell c (rixAB o)) 0) : sProp 𝕄) := by
  have e1 := splitDB m c rixAB _ (pay_recvB m c)
  have e2 := splitDB m c sixAB _ (pay_sendB m c)
  have et : iprop(ptB c (bof c) (shareDrop fullShare 7) (Gb m)
      ∗ bigSep Finset.univ fun o : Fin 7 => ptB c (bof c) (shareTokN fullShare o.val) (Gb m)) ⊢ (ptB c (bof c) fullShare (Gb m) : sProp 𝕄) := by
    unfold ptB; exact pointsTo_toks_join fullShare 7
  have ew := (whole_b (F := F) c (Gb m)).trans (split_from8 (fun k => ptB c k fullShare (Gb m)) (bof c) (bof_lt c))
  unfold LB
  iintro ⟨⟨HD, HR⟩, HS⟩
  ihave HR := e1 $$ HR
  ihave HS := e2 $$ HS
  icases HR with ⟨Hr, HR⟩
  icases HS with ⟨Hs, HS⟩
  ihave HO := et $$ [HD HS]
  · isplitl [HD]; · iexact HD
    iexact HS
  isplitl [HO HR]
  · iexists (Gb m)
    iapply (Entails.of_eq ew.symm)
    isplitl [HO]; · iexact HO
    iexact HR
  isplitl [Hs]; · iexact Hs
  iexact Hr

end Cert.Att

end
-- ==== Proof.Body.lean ====
/-
# The body of one device
-/
module

public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF
public import proofs.«01_k».proof.Proof.PartsG
public import proofs.«01_k».proof.Proof.Glue2

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

variable (c : Dev nD)

theorem wp_then {α β : Type} (p : Prog (TpuEff nD τ sig (Elt F) Λ₀ .tc) α) (k : α → Prog (TpuEff nD τ sig (Elt F) Λ₀ .tc) β) (Q : β → sProp 𝕄) :
    WP c p (fun a => WP c (k a) Q) ⊢ WP c (p >>= k) Q := by
  unfold WP
  exact Entails.of_eq (wp_bind _ _ _ p k Q).symm

/-- The tokens and the positions a device's body starts with. -/
def lin : sProp 𝕄 :=
  iprop((bigSep Finset.univ fun t : Fin 10 => dutyTok ER (cell (peer ⟨t.val, by omega⟩ c) 0) 0 (pduty ⟨t.val, by omega⟩))
    ∗ (bigSep Finset.univ fun o : Fin 3 => iprop(dutyTok ER (cell c (sixAA o)) 0 0 ∗ dutyTok ER (cell (ysh ⟨o.val + 1, by omega⟩ c) (rixAA o)) 0 0))
    ∗ (bigSep Finset.univ fun o : Fin 7 => iprop(dutyTok ER (cell c (sixAB o)) 0 0 ∗ dutyTok ER (cell (bsh ⟨o.val + 1, by omega⟩ c) (rixAB o)) 0 0))
    ∗ cred (tallyAt (cell c 0) () 10) ∗ atPos ER (cell c 0) 0 ∅ 0
    ∗ (bigSep Finset.univ fun o : Fin 3 => wI (F := F) c (rixAA o)) ∗ (bigSep Finset.univ fun o : Fin 7 => wI (F := F) c (rixAB o))
    ∗ (bigSep Finset.univ fun o : Fin 3 => atPos ER (cell c (sixAA o)) 0 ∅ 0) ∗ bigSep Finset.univ fun o : Fin 7 => atPos ER (cell c (sixAB o)) 0 ∅ 0)

/-- The copies' own semaphores at zero. -/
def semsK : sProp 𝕄 := bigSep Finset.univ fun h : Fin 16 => semVal ((c : Thread nD τ), .dma (kSem h)) 0
def semsV : sProp 𝕄 := bigSep Finset.univ fun h : Fin 16 => semVal ((c : Thread nD τ), .dma (vSem h)) 0
/-- The protocol's semaphores at zero. -/
def semsP : sProp 𝕄 :=
  iprop(semVal (cell c 0) 0 ∗ (bigSep Finset.univ fun o : Fin 3 => semVal (cell c (sixAA o)) 0) ∗ (bigSep Finset.univ fun o : Fin 3 => semVal (cell c (rixAA o)) 0)
    ∗ (bigSep Finset.univ fun o : Fin 7 => semVal (cell c (sixAB o)) 0) ∗ bigSep Finset.univ fun o : Fin 7 => semVal (cell c (rixAB o)) 0)
/-- The scratch buffers, at any contents. -/
def scratch : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f) ∗ (∃ f, ((c : Thread nD τ).loc cc0_scratch5) ↦{fullShare} f))
def argK : sProp 𝕄 := iprop(((c : Thread nD τ).loc main_arg1) ↦{fullShare} m ((c : Thread nD τ).loc main_arg1))
def argV : sProp 𝕄 := iprop(((c : Thread nD τ).loc main_arg2) ↦{fullShare} m ((c : Thread nD τ).loc main_arg2))

/-- What the body starts from. -/
def bodyIn : sProp 𝕄 :=
  iprop(records m K ∗ OW (F := F) c 0 ∗ lin (F := F) c ∗ semsK (F := F) c ∗ semsV (F := F) c ∗ argK m c ∗ argV m c ∗ scratch (F := F) c ∗ QS m fullShare c
    ∗ ∃ f, ((c : Thread nD τ).loc cc0_stg1_0) ↦{fullShare} f)
/-- What it ends with. -/
def bodyOut : sProp 𝕄 :=
  iprop(OW (F := F) c 20 ∗ semsP (F := F) c ∗ semsK (F := F) c ∗ semsV (F := F) c ∗ argK m c ∗ argV m c ∗ scratch (F := F) c ∗ QS m fullShare c
    ∗ ((c : Thread nD τ).loc cc0_stg1_0) ↦{fullShare} outv m)

theorem start_op : iprop(∃ f, ((c : Thread nD τ).loc cc0_scratch2) ↦{fullShare} f) ⊢ (opS m c 0 : sProp 𝕄) := by
  unfold opS
  iintro ⟨%f, H⟩
  iexists f
  isplitr; · ipureintro; exact fun i h => absurd h (Nat.not_lt_zero _)
  iexact H
theorem start_lb : iprop(∃ f, ((c : Thread nD τ).loc cc0_scratch3) ↦{fullShare} f) ⊢ (lbS m c 0 : sProp 𝕄) := by
  unfold lbS
  iintro ⟨%f, H⟩
  iexists f
  isplitr; · ipureintro; exact fun i h => absurd h (Nat.not_lt_zero _)
  iexact H
theorem start_out : iprop(∃ f, ((c : Thread nD τ).loc cc0_stg1_0) ↦{fullShare} f) ⊢ (outS m c 0 : sProp 𝕄) := by
  unfold outS
  iintro ⟨%f, H⟩
  iexists f
  isplitr; · ipureintro; exact fun i h => absurd h (Nat.not_lt_zero _)
  iexact H
theorem end_op {n : ℕ} : opS m c n ⊢ (iprop(∃ f, ((c : Thread nD τ).loc cc0_scratch2) ↦{fullShare} f) : sProp 𝕄) := by
  unfold opS
  iintro ⟨%f, -, H⟩
  iexists f
  iexact H
theorem end_lb {n : ℕ} : lbS m c n ⊢ (iprop(∃ f, ((c : Thread nD τ).loc cc0_scratch3) ↦{fullShare} f) : sProp 𝕄) := by
  unfold lbS
  iintro ⟨%f, -, H⟩
  iexists f
  iexact H
theorem end_out : outS m c 8 ⊢ (iprop(((c : Thread nD τ).loc cc0_stg1_0) ↦{fullShare} outv m) : sProp 𝕄) := by
  unfold outS
  iintro ⟨%f, %hf, H⟩
  have e : f = outv m := funext fun i => hf i (i 0).isLt
  subst e
  iexact H

set_option maxHeartbeats 4000000 in
/-- The whole body: the parts in order. -/
theorem body_run {Q : PUnit → sProp 𝕄} :
    bodyIn m K c ⊢ iprop((bodyOut m c -∗ Q ⟨⟩) -∗ WP c (cc0__body (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11) Q) := by
  rw [cc0__body_eq_skeleton]; unfold cc0__body_skel
  rw [k0_part60_eq_skeleton]; unfold k0_part60_skel
  simp only [Prog.lift, Prog.bind_assoc, Prog.bind_op, Prog.bind_ret, Prog.pure_eq_ret]
  unfold bodyIn lin scratch semsK semsV argK argV
  iintro ⟨#HR, HO, ⟨Ht, HtA, HtB, Hbc, Hbp, HwA, HwB, HpA, HpB⟩, HsK, HsV, HaK, HaV, ⟨Hk0, Hv0, Hop, Hlb, ⟨%fa, HA⟩, ⟨%fb, HB⟩⟩, HQ, Hout⟩ Hk
  ihave Hop := (start_op m c) $$ Hop
  ihave Hlb := (start_lb m c) $$ Hlb
  ihave Hout := (start_out m c) $$ Hout
  ihave HG := (start_sg (F := F) c) $$ [Ht HA HB]
  · isplitl [Ht]; · iexact Ht
    isplitl [HA]; · iexact HA
    iexact HB
  icases HG with ⟨HT, HA, HB⟩
  ihave HK := (idleK m c) $$ [HaK Hk0 HsK]
  · isplitl [HaK]; · iexact HaK
    isplitl [Hk0]; · iexact Hk0
    iexact HsK
  icases HK with ⟨HK, HrK⟩
  ihave HV := (idleV m c) $$ [HaV Hv0 HsV]
  · isplitl [HaV]; · iexact HaV
    isplitl [Hv0]; · iexact Hv0
    iexact HsV
  icases HV with ⟨HV, HrV⟩
  ihave H : CP m c 0 0 $$ [HK HV]
  · unfold CP
    isplitl [HK]; · iexact HK
    iexact HV
  iapply wp_then
  iapply (part_1 m c) $$ H
  iintro %_ %_ %_ %_ H
  iapply wp_then
  iapply (part_2 m c) $$ H
  iintro  H
  iapply wp_then
  iapply (part_3 m c) $$ H
  iintro  H
  iapply wp_then
  iapply (part_4 m c) $$ H
  iintro  H
  iapply wp_then
  iapply (part_5 m c) $$ H
  iintro  H
  iapply wp_then
  iapply (part_6 m c) $$ H
  iintro  H
  iapply wp_then
  iapply (part_7 m c) $$ H
  iintro  H
  iapply wp_then
  iapply (part_8 m c _) $$ H
  iintro %_ %_ %_ %_ H
  ihave HG : SG m K c 0 $$ [HO HT]
  · unfold SG
    isplitr; · iexact HR
    isplitl [HO]; · iexact HO
    iexact HT
  iapply wp_then
  iapply (part_9 m K c _ _ _ _ _ _ _) $$ HG
  iintro %_ %_ %_ %_ HG
  iapply wp_then
  iapply (part_10 m K c _ _ _ _ _ _ _) $$ HG
  iintro %_ %_ HG
  iapply wp_then
  iapply (part_11 m K c _ _ _ _) $$ HG
  iintro %_ %_ %_ %_ %_ %_ HG
  iapply wp_then
  iapply (part_12 m K c _ _ _ _ _ _ _ _) $$ HG
  iintro %_ %_ %_ %_ HG
  iapply wp_then
  iapply (part_13 m K c _ _ _ _ _ _) $$ HG
  iintro %_ %_ %_ %_ HG
  iapply wp_then
  iapply (part_14 m K c _ _ _ _ _ _) $$ HG
  iintro %_ HG
  iapply wp_then
  iapply (part_15 c _)
  iintro %_ %_ %_
  iapply wp_then
  iapply (part_16 m K c _ _ _ _ _) $$ HG
  iintro %_ %_ %_ %_ %_ HG
  iapply wp_then
  iapply (part_17 m K c _ _ _ _ _ _ _) $$ HG
  iintro %_ %_ HG
  iapply wp_then
  iapply (part_18 m K c fullShare _ _ _ _) $$ [HG Hbc Hbp HQ H Hop Hlb]
  · isplitl [HG]; · iexact HG
    isplitl [Hbc]; · iexact Hbc
    isplitl [Hbp]; · iexact Hbp
    isplitl [HQ]; · iexact HQ
    isplitl [H]; · iexact H
    isplitl [Hop]; · iexact Hop
    iexact Hlb
  iintro  ⟨H, HQ, Hsb, Hb⟩
  ihave Hb := (bar_gives (F := F) c) $$ Hb
  icases Hb with ⟨HbA, HbB⟩
  iapply wp_then
  iapply (part_19 m K c) $$ H
  iintro  H
  iapply wp_then
  iapply (part_20 m K c) $$ H
  iintro  H
  iapply wp_then
  iapply (part_21 m K c) $$ H
  iintro  H
  iapply wp_then
  iapply (part_22 m K c) $$ H
  iintro  H
  iapply wp_then
  iapply (part_23 m K c) $$ H
  iintro %_ H
  iapply wp_then
  iapply (part_24 m K c _) $$ H
  iintro  H
  iapply wp_then
  iapply (part_25 m K c) $$ H
  iintro  H
  iapply wp_then
  iapply (part_26 m K c) $$ H
  iintro  H
  iapply wp_then
  iapply (part_27 m K c) $$ H
  iintro  H
  iapply wp_then
  iapply (part_28 m K c) $$ H
  iintro  H
  iapply wp_then
  iapply (part_29 m K c) $$ H
  iintro  H
  iapply wp_then
  iapply (part_30 m K c) $$ H
  iintro  H
  iapply wp_then
  iapply (part_31 m K c) $$ H
  iintro  H
  iapply wp_then
  iapply (part_32 m K c) $$ H
  iintro  H
  iapply wp_then
  iapply (part_33 m K c) $$ H
  iintro  H
  iapply wp_then
  iapply (part_34 m K c) $$ H
  iintro  H
  iapply wp_then
  iapply (part_35 m K c) $$ H
  iintro  H
  iapply wp_then
  iapply (part_36 m K c _) $$ [H HA]
  · isplitl [H]; · iexact H
    iexact HA
  iintro %_ %_ %_ ⟨H, HA⟩
  unfold HD
  icases H with ⟨-, HO, HKd, HVd, Hop, Hlb⟩
  ihave HA := (start_sendA m c) $$ [HtA HbA HA]
  · isplitl [HtA]; · iexact HtA
    isplitl [HbA]; · iexact HbA
    iexact HA
  icases HA with ⟨HF, HA⟩
  ihave H : SXA m K c 0 $$ [HO HF]
  · unfold SXA
    isplitr; · iexact HR
    isplitl [HO]; · iexact HO
    iexact HF
  iapply wp_then
  iapply (part_37 m K c _ _ _ _ _ _) $$ H
  iintro %_ %_ H
  iapply wp_then
  iapply (part_38 m K c _ _ _ _ _) $$ H
  iintro  H
  iapply wp_then
  iapply (part_39 m K c _ _ _) $$ [H HwA]
  · isplitl [H]; · iexact H
    iexact HwA
  iintro %_ %_ %_ %_ ⟨H, HsdA⟩
  iapply wp_then
  iapply (part_40 m K c _ _ _ _ _ _ _) $$ H
  iintro %_ %_ H
  iapply wp_then
  iapply (part_41 m K c _ _ _ _) $$ [H HA HB]
  · isplitl [H]; · iexact H
    isplitl [HA]; · iexact HA
    iexact HB
  iintro %_ %_ %_ ⟨-, HO, HLA, HB⟩
  iapply wp_then
  iapply (part_42 c _ _ _ _)
  iintro %_ %_
  ihave HB := (start_sendB m c) $$ [HtB HbB HB]
  · isplitl [HtB]; · iexact HtB
    isplitl [HbB]; · iexact HbB
    iexact HB
  icases HB with ⟨HF, HB⟩
  ihave H : SXB m K c 0 $$ [HO HF]
  · unfold SXB
    isplitr; · iexact HR
    isplitl [HO]; · iexact HO
    iexact HF
  iapply wp_then
  iapply (part_43 m K c _ _ _) $$ H
  iintro %_ %_ %_ %_ %_ H
  iapply wp_then
  iapply (part_44 m K c _ _ _ _ _ _ _) $$ H
  iintro %_ %_ %_ %_ H
  iapply wp_then
  iapply (part_45 m K c _ _ _ _ _) $$ H
  iintro  H
  iapply wp_then
  iapply (part_46 c _)
  iintro %_ %_
  iapply wp_then
  iapply (part_47 m K c _ _ _ _) $$ H
  iintro %_ %_ %_ %_ %_ H
  iapply wp_then
  iapply (part_48 m K c _ _ _ _ _ _ _) $$ H
  iintro %_ %_ %_ %_ %_ H
  iapply wp_then
  iapply (part_49 c _ _ _ _ _ _)
  iapply wp_then
  iapply (part_50 m K c _) $$ H
  iintro %_ %_ %_ %_ %_ H
  iapply wp_then
  iapply (part_51 m K c _ _ _ _ _ _ _ _) $$ H
  iintro %_ %_ H
  unfold SXB
  icases H with ⟨-, HO, HF⟩
  ihave HsdB := (Entails.of_eq (fam_full (sIB m c) (sDB (F := F) c) 7 (le_refl _))) $$ HF
  ihave H : WT m K rixAB c 20 0 $$ [HO HwB]
  · unfold WT
    rw [fam_zero]
    isplitr; · iexact HR
    isplitl [HO]; · iexact HO
    iexact HwB
  iapply wp_then
  iapply (part_52 m K c _ _ _ _ _ _) $$ H
  iintro %_ H
  iapply wp_then
  iapply (part_53 m K c _ _ _ _ _) $$ H
  iintro %_ %_ %_ H
  iapply wp_then
  iapply (part_54 m K c _ _ _ _ _ _ _) $$ H
  iintro  H
  iapply wp_then
  iapply (part_55 m K c _ _ _ _) $$ H
  iintro %_ %_ H
  iapply wp_then
  iapply (part_56 m K c _ _ _ _ _) $$ [H HB Hout]
  · isplitl [H]; · iexact H
    isplitl [HB]; · iexact HB
    iexact Hout
  iintro  ⟨HO, HLB, Hout⟩
  iapply wp_then
  iapply (part_57 m c) $$ [HLB Hout]
  · isplitl [HLB]; · iexact HLB
    iexact Hout
  iintro  ⟨HLB, Hout⟩
  ihave HwA := (start_endsA (F := F) c) $$ [HpA HsdA]
  · isplitl [HpA]; · iexact HpA
    iexact HsdA
  ihave H : WT m K sixAA c 20 0 $$ [HO HwA]
  · unfold WT
    rw [fam_zero]
    isplitr; · iexact HR
    isplitl [HO]; · iexact HO
    iexact HwA
  iapply wp_then
  iapply (part_58 m K c) $$ [H HLB Hout]
  · isplitl [H]; · iexact H
    isplitl [HLB]; · iexact HLB
    iexact Hout
  iintro  ⟨H, HLB, Hout⟩
  unfold WT
  icases H with ⟨-, HO, HF⟩
  ihave HwA := (Entails.of_eq (fam_full (fun o => wI (F := F) c (sixAA o)) (fun o => wD m c (sixAA o)) 3 (le_refl _))) $$ HF
  ihave HwB := (start_endsB (F := F) c) $$ [HpB HsdB]
  · isplitl [HpB]; · iexact HpB
    iexact HsdB
  ihave H : WT m K sixAB c 20 0 $$ [HO HwB]
  · unfold WT
    rw [fam_zero]
    isplitr; · iexact HR
    isplitl [HO]; · iexact HO
    iexact HwB
  iapply wp_then
  iapply (part_59 m K c) $$ H
  iintro  H
  iapply (wp_waitFB m K sixAB c 20 4 (by decide) (by decide) (by decide) rfl (sendSemB_eq 4 (by decide) _)) $$ H; iintro H
  iapply (wp_waitFB m K sixAB c 20 5 (by decide) (by decide) (by decide) rfl (sendSemB_eq 5 (by decide) _)) $$ H; iintro H
  iapply (wp_waitFB m K sixAB c 20 6 (by decide) (by decide) (by decide) rfl (sendSemB_eq 6 (by decide) _)) $$ H; iintro H
  unfold WT
  icases H with ⟨-, HO, HF⟩
  ihave HwB := (Entails.of_eq (fam_full (fun o => wI (F := F) c (sixAB o)) (fun o => wD m c (sixAB o)) 7 (le_refl _))) $$ HF
  ihave HA := (end_A m c) $$ [HLA HwA]
  · isplitl [HLA]; · iexact HLA
    iexact HwA
  ihave HB := (end_B m c) $$ [HLB HwB]
  · isplitl [HLB]; · iexact HLB
    iexact HwB
  ihave HK := (doneK m c) $$ [HKd HrK]
  · isplitl [HKd]; · iexact HKd
    iexact HrK
  ihave HV := (doneV m c) $$ [HVd HrV]
  · isplitl [HVd]; · iexact HVd
    iexact HrV
  ihave Hop := (end_op m c) $$ Hop
  ihave Hlb := (end_lb m c) $$ Hlb
  ihave Hout := (end_out m c) $$ Hout
  icases HA with ⟨HA, HsA, HrA⟩
  icases HB with ⟨HB, HsB, HrB⟩
  icases HK with ⟨HaK, HK, HsK⟩
  icases HV with ⟨HaV, HV, HsV⟩
  iapply wp_done
  iapply Hk
  unfold bodyOut semsP semsK semsV argK argV scratch
  isplitl [HO]; · iexact HO
  isplitl [Hsb HsA HrA HsB HrB]
  · isplitl [Hsb]; · iexact Hsb
    isplitl [HsA]; · iexact HsA
    isplitl [HrA]; · iexact HrA
    isplitl [HsB]; · iexact HsB
    iexact HrB
  isplitl [HsK]; · iexact HsK
  isplitl [HsV]; · iexact HsV
  isplitl [HaK]; · iexact HaK
  isplitl [HaV]; · iexact HaV
  isplitl [HK HV Hop Hlb HA HB]
  · isplitl [HK]; · iexact HK
    isplitl [HV]; · iexact HV
    isplitl [Hop]; · iexact Hop
    isplitl [Hlb]; · iexact Hlb
    isplitl [HA]; · iexact HA
    iexact HB
  isplitl [HQ]; · iexact HQ
  iexact Hout

end Cert.Att

end
-- ==== Proof.Deal.lean ====
/-
# What the launch deals each device

The duty tokens and positions of the cells are minted per device; each token goes to the device that pays its duty.
The cells' credit at launch is what the devices owe them: ten units on a barrier, one copy on each receive cell.
-/
module

public import proofs.«01_k».proof.Proof.Body
public import proofs.«01_k».proof.Proof.Gen.KernelIdeal.Launch

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

/-! ## The tokens -/

/-- A device's duty tokens, by who pays: barrier signals, copies landing, copies leaving. -/
abbrev TI : Type := Fin 10 ⊕ Fin 3 ⊕ Fin 7 ⊕ Fin 3 ⊕ Fin 7
def tcell : TI → Fin 21 := Sum.elim (fun _ => 0) (Sum.elim rixAA (Sum.elim rixAB (Sum.elim sixAA sixAB)))
def tduty : TI → Fin 16 := Sum.elim (fun t => pduty ⟨t.val, by omega⟩) (fun _ => 0)
def tpeer : TI → (Dev nD ≃ Dev nD) :=
  Sum.elim (fun t => peer ⟨t.val, by omega⟩)
    (Sum.elim (fun o => ysh ⟨o.val + 1, by omega⟩) (Sum.elim (fun o => bsh ⟨o.val + 1, by omega⟩) (fun _ => Equiv.refl _)))

theorem tok_inj : ∀ s t : TI, tcell s = tcell t → tduty s = tduty t → s = t := by decide

def tokOf (ct : Dev nD × TI) : GSem nD τ sig × ℕ × Fin 16 := (cell ct.1 (tcell ct.2), 0, tduty ct.2)
theorem tokOf_inj : Function.Injective tokOf := by
  rintro ⟨c, s⟩ ⟨d, t⟩ h
  have h1 := cell_inj (congrArg Prod.fst h)
  have h2 : tduty s = tduty t := congrArg (fun x : GSem nD τ sig × ℕ × Fin 16 => x.2.2) h
  exact Prod.ext h1.1 (tok_inj s t h1.2 h2)
def toks : Finset (GSem nD τ sig × ℕ × Fin 16) := Finset.univ.map ⟨tokOf, tokOf_inj⟩

/-! ## The cells -/

def kcell (ci : Dev nD × Fin 21) : GSem nD τ sig := cell ci.1 ci.2
theorem kcell_inj : Function.Injective kcell := by
  rintro ⟨c, i⟩ ⟨d, j⟩ h
  have h1 := cell_inj h
  exact Prod.ext h1.1 h1.2
def cells : Finset (GSem nD τ sig) := Finset.univ.map ⟨kcell, kcell_inj⟩

/-- The cells by kind: the barrier, then the receive and the send semaphores of the two exchanges. -/
abbrev CI : Type := Fin 1 ⊕ Fin 3 ⊕ Fin 7 ⊕ Fin 3 ⊕ Fin 7
def ccell : CI → Fin 21 := Sum.elim (fun _ => 0) (Sum.elim rixAA (Sum.elim rixAB (Sum.elim sixAA sixAB)))
theorem ccell_bij : Function.Bijective ccell := by
  refine ⟨?_, ?_⟩
  · have h : ∀ s t : CI, ccell s = ccell t → s = t := by decide
    exact fun s t => h s t
  · have h : ∀ i : Fin 21, ∃ s : CI, ccell s = i := by decide
    exact h
def ceq : CI ≃ Fin 21 := Equiv.ofBijective ccell ccell_bij

omit [FloatOps F] in
/-- A family over the cells, kind by kind. -/
theorem by_kind (Φ : Fin 21 → sProp 𝕄) :
    bigSep Finset.univ Φ = iprop(Φ 0 ∗ (bigSep Finset.univ fun o => Φ (rixAA o)) ∗ (bigSep Finset.univ fun o => Φ (rixAB o))
      ∗ (bigSep Finset.univ fun o => Φ (sixAA o)) ∗ bigSep Finset.univ fun o => Φ (sixAB o)) := by
  rw [bigSep_univ_equiv ceq, bigSep_univ_sum, bigSep_univ_sum, bigSep_univ_sum, bigSep_univ_sum, bigSep_univ_of_subsingleton (0 : Fin 1)]
  rfl

/-- The semaphores the kernel allocates: the copies' twenty and the loads' thirty-two. -/
abbrev OI : Type := (Fin 3 ⊕ Fin 7 ⊕ Fin 3 ⊕ Fin 7) ⊕ Fin 16 ⊕ Fin 16
def osem : OI → SemLoc sig :=
  Sum.elim (fun s => csem (ccell (.inr s))) (Sum.elim (fun h => .dma (kSem h)) (fun h => .dma (vSem h)))

set_option maxRecDepth 100000 in
theorem ownSemFacts : Pipeline.OwnSemFacts cfg0.spec osem := by decide

omit [FloatOps F] in
theorem ownSems0_eq (c : Dev nD) : (Pipeline.ownSems0 (Ix := Unit) (Name := ℕ) (U := UU) (Lvl := ℕ) (Val := Elt F) (τ := τ) osem c : sProp 𝕄)
    = iprop(((bigSep Finset.univ fun o : Fin 3 => semVal (cell c (rixAA o)) 0) ∗ (bigSep Finset.univ fun o : Fin 7 => semVal (cell c (rixAB o)) 0)
        ∗ (bigSep Finset.univ fun o : Fin 3 => semVal (cell c (sixAA o)) 0) ∗ bigSep Finset.univ fun o : Fin 7 => semVal (cell c (sixAB o)) 0)
      ∗ semsK (F := F) c ∗ semsV (F := F) c) := by
  unfold Pipeline.ownSems0
  rw [bigSep_univ_sum, bigSep_univ_sum, bigSep_univ_sum, bigSep_univ_sum, bigSep_univ_sum]
  rfl

omit [FloatOps F] in
theorem unscopedSems0_eq (c : Dev nD) : (unscopedSems0 c : sProp 𝕄) = semVal (cell c 0) 0 := by
  unfold unscopedSems0; rw [bigSep_eq_bigSepL_of_eq [csem 0] (by decide) (by decide)]; rfl

/-! ## The resources at launch -/

def u₀ : UU :=
  (initOf (Pipeline.cells cfgs cellOf_inj) (Pipeline.launchToks cfgs cellOf_inj), (initOf cells toks, 1))

/-- The duty tokens of device `c`'s own cells. -/
def minted (c : Dev nD) : sProp 𝕄 := bigSep Finset.univ fun t : TI => dutyTok ER (cell c (tcell t)) 0 (tduty t)
/-- The duty tokens device `c` pays with. -/
def paying (c : Dev nD) : sProp 𝕄 := bigSep Finset.univ fun t : TI => dutyTok ER (cell (tpeer t c) (tcell t)) 0 (tduty t)

omit [FloatOps F] in
/-- Every token goes to the device that pays it. -/
theorem dealt : (bigSep Finset.univ fun c : Dev nD => (minted (F := F) c : sProp 𝕄)) = bigSep Finset.univ fun c : Dev nD => paying (F := F) c := by
  unfold minted paying
  rw [bigSep_univ_comm, bigSep_univ_comm (fun (c : Dev nD) (t : TI) => (dutyTok ER (cell (tpeer t c) (tcell t)) 0 (tduty t) : sProp 𝕄))]
  exact bigSep_congr fun t _ => bigSep_univ_equiv (tpeer t) (fun c : Dev nD => (dutyTok ER (cell c (tcell t)) 0 (tduty t) : sProp 𝕄))

/-- What the launch gives device `c`. -/
def G (c : Dev nD) : sProp 𝕄 :=
  iprop((bigSep Finset.univ fun i : Fin 21 => roundState ER (Rd m) (cell c i) 0)
    ∗ (bigSep Finset.univ fun i : Fin 21 => atPos ER (cell c i) 0 ∅ 0) ∗ (bigSep Finset.univ fun i : Fin 21 => reached ER (cell c i) 0) ∗ minted (F := F) c)

omit [FloatOps F] in
theorem cells_sum (Φ : GSem nD τ sig → sProp 𝕄) :
    bigSep cells Φ = bigSep Finset.univ fun c : Dev nD => bigSep Finset.univ fun i : Fin 21 => Φ (cell c i) := by
  unfold cells; rw [bigSep_map, bigSep_univ_prod]; rfl
omit [FloatOps F] in
theorem toks_sum : bigSep toks (fun x => (dutyTok ER x.1 x.2.1 x.2.2 : sProp 𝕄)) = bigSep Finset.univ fun c : Dev nD => minted (F := F) c := by
  unfold toks minted; rw [bigSep_map, bigSep_univ_prod]; rfl

theorem fund_all : BI.own (ER (initOf cells toks)) ⊢ (|==> bigSep Finset.univ (G m) : sProp 𝕄) := by
  iintro HX
  imod (Rounds.fund ER (Rd m) cells toks) $$ HX with ⟨Hst, Hr, Hat, Htok⟩
  imodintro
  ihave Hst' := (Entails.of_eq (cells_sum (F := F) fun g => roundState ER (Rd m) g 0)) $$ Hst
  ihave Hat' := (Entails.of_eq (cells_sum (F := F) fun g => atPos ER g 0 ∅ 0)) $$ Hat
  ihave Hr' := (Entails.of_eq (cells_sum (F := F) fun g => reached ER g 0)) $$ Hr
  ihave Htok' := (Entails.of_eq (toks_sum (F := F))) $$ Htok
  unfold G; simp only [bigSep_sep']
  isplitl [Hst']; · iexact Hst'
  isplitl [Hat']; · iexact Hat'
  isplitl [Hr']; · iexact Hr'
  iexact Htok'

/-! ## The cells' invariants -/

omit [FloatOps F] in
theorem sems_cells (c : Dev nD) :
    iprop(Pipeline.ownSems0 (Ix := Unit) (Name := ℕ) (U := UU) (Lvl := ℕ) (Val := Elt F) (τ := τ) osem c ∗ unscopedSems0 c)
      ⊢ (iprop((bigSep Finset.univ fun i : Fin 21 => semVal (cell c i) 0) ∗ semsK (F := F) c ∗ semsV (F := F) c) : sProp 𝕄) := by
  rw [ownSems0_eq, unscopedSems0_eq, by_kind]
  iintro ⟨⟨⟨H1, H2, H3, H4⟩, HK, HV⟩, HB⟩
  isplitr [HK HV]
  · isplitl [HB]; · iexact HB
    isplitl [H1]; · iexact H1
    isplitl [H2]; · iexact H2
    isplitl [H3] <;> iassumption
  isplitl [HK] <;> iassumption

/-- The positions, the tokens and the loads' semaphores device `c` takes. -/
def own0 (c : Dev nD) (tk : sProp 𝕄) : sProp 𝕄 :=
  iprop((bigSep Finset.univ fun i : Fin 21 => atPos ER (cell c i) 0 ∅ 0) ∗ tk ∗ semsK (F := F) c ∗ semsV (F := F) c)

theorem core_alloc (c : Dev nD) :
    iprop(Pipeline.ownSems0 (Ix := Unit) (Name := ℕ) (U := UU) (Lvl := ℕ) (Val := Elt F) (τ := τ) osem c ∗ unscopedSems0 c ∗ G m c)
      ⊢ (|={Set.univ}=> iprop((bigSep Finset.univ fun i : Fin 21 => iprop(∃ κ : ℕ, cellInv ER (Rd m) κ (cell c i)))
          ∗ (bigSep Finset.univ fun i : Fin 21 => reached ER (cell c i) 0) ∗ own0 (F := F) c (minted (F := F) c)) : sProp 𝕄) := by
  unfold G own0
  iintro ⟨Hos, Hus, Hst, Hat, Hr, Htok⟩
  ihave Hv := (sems_cells (F := F) c) $$ [Hos Hus]
  · isplitl [Hos] <;> iassumption
  icases Hv with ⟨Hv, HK, HV⟩
  imod (show iprop((bigSep Finset.univ fun i : Fin 21 => semVal (cell c i) 0) ∗ bigSep Finset.univ fun i : Fin 21 => roundState ER (Rd m) (cell c i) 0)
      ⊢ (|={Set.univ}=> bigSep Finset.univ fun i : Fin 21 => iprop(∃ κ : ℕ, cellInv ER (Rd m) κ (cell c i)) : sProp 𝕄) from by
        rw [← bigSep_sep']
        exact (bigSep_mono fun i _ => (Rounds.body_intro ER (Rd m) (cell c i)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  isplitl [HK] <;> iassumption

/-- What all devices know, but for the levels. -/
def known (K : Dev nD × Fin 21 → ℕ) : sProp 𝕄 :=
  iprop((bigSep Finset.univ fun ck : Dev nD × Fin 21 => cellInv ER (Rd m) (K ck) (cell ck.1 ck.2))
    ∗ (bigSep Finset.univ fun ck : Dev nD × Fin 21 => reached ER (cell ck.1 ck.2) 0))
instance known_persistent : BI.Persistent (known m K) := by unfold known; infer_instance

/-- What device `c` starts from. -/
def G' (c : Dev nD) : sProp 𝕄 := iprop(∃ K, known m K ∗ own0 (F := F) c (paying (F := F) c))

omit [FloatOps F] in
theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ (bigSep S Ψ : sProp 𝕄) :=
  (sep_mono_left (BI.bigSep_of_persistent S R)).trans (by rw [← bigSep_sep']; exact bigSep_mono h)

theorem give (c : Dev nD) : iprop(known m K ∗ own0 (F := F) c (paying (F := F) c)) ⊢ (G' m c : sProp 𝕄) := by
  unfold G'
  iintro H
  iexists K
  iexact H

omit [FloatOps F] in
theorem own0_dealt : (bigSep Finset.univ fun c : Dev nD => (own0 (F := F) c (minted (F := F) c) : sProp 𝕄))
    = bigSep Finset.univ fun c : Dev nD => own0 (F := F) c (paying (F := F) c) := by
  unfold own0
  simp only [bigSep_sep']
  rw [dealt]

theorem regroup :
    (bigSep Finset.univ fun c : Dev nD => iprop((bigSep Finset.univ fun i : Fin 21 => iprop(∃ κ : ℕ, cellInv ER (Rd m) κ (cell c i)))
          ∗ (bigSep Finset.univ fun i : Fin 21 => reached ER (cell c i) 0) ∗ own0 (F := F) c (minted (F := F) c)) : sProp 𝕄)
      ⊢ (bigSep Finset.univ (G' m) : sProp 𝕄) := by
  rw [bigSep_sep', bigSep_sep', ← bigSep_univ_prod (fun ck : Dev nD × Fin 21 => iprop(∃ κ : ℕ, cellInv ER (Rd m) κ (cell ck.1 ck.2))),
    ← bigSep_univ_prod (fun ck : Dev nD × Fin 21 => (reached ER (cell ck.1 ck.2) 0 : sProp 𝕄)), own0_dealt]
  iintro ⟨HI, #HR, Hown⟩
  ihave HK := (BI.bigSep_exists_pi Finset.univ (fun (ck : Dev nD × Fin 21) (κ : ℕ) => (cellInv ER (Rd m) κ (cell ck.1 ck.2) : sProp 𝕄))) $$ HI
  icases HK with ⟨%K, #HI⟩
  iapply (with_known (R := known m K) fun c _ => give m K c)
  isplitr
  · unfold known; isplitl; · iexact HI
    iexact HR
  · iexact Hown

/-- All devices' semaphores become cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ (|={Set.univ}=> bigSep Finset.univ (G' m) : sProp 𝕄) :=
  ((bigSep_mono fun c _ => core_alloc m c).trans (bigSep_fupd _ _)).trans (BI.fupd_mono (regroup m))

/-! ## The credit -/

/-- What all devices owe a cell at launch. -/
theorem owed_total (c : Dev nD) (i : Fin 21) :
    ∑ d : Dev nD, owedFrom d 0 (cell c i) () = ∑ t : Fin 20, if pidx t = i then amt i.val else 0 := by
  simp only [owedFrom_apply]
  rw [Finset.sum_comm' (t' := Finset.univ) (s' := fun _ => Finset.univ) (by intro x y; simp)]
  refine Finset.sum_congr rfl fun t _ => ?_
  by_cases h : pidx t = i
  · rw [if_pos h, Finset.sum_eq_single ((peer t).symm c)]
    · rw [if_pos (by unfold pcell; rw [Equiv.apply_symm_apply, h]), h]
    · intro d _ hd
      exact if_neg fun hc => hd (by rw [← (cell_inj hc).1, Equiv.symm_apply_apply])
    · intro hc; exact absurd (Finset.mem_univ _) hc
  · rw [if_neg h]
    exact Finset.sum_eq_zero fun d _ => if_neg fun hc => h (cell_inj hc).2

def units (i : Fin 21) : ℕ := (Finset.univ.filter fun t : Fin 20 => pidx t = i).card

theorem owed_units (c : Dev nD) (i : Fin 21) : ∑ d : Dev nD, owedFrom d 0 (cell c i) () = units i * amt i.val := by
  rw [owed_total, ← Finset.sum_filter, Finset.sum_const, smul_eq_mul]; rfl

theorem launch_cell (c : Dev nD) (i : Fin 21) :
    tallyOn (cell c i) (launchCredit (Pipeline.owing fun d => owedFrom d 0) 0 (cell c i)) = (tallyAt (cell c i) () (units i * amt i.val) : CellTallies nD τ sig Unit) := by
  unfold tallyAt; refine congrArg _ (Finsupp.ext fun u => ?_); cases u
  rw [Pipeline.launchCredit_owing, Finsupp.single_eq_same, owed_units]

theorem units_bar : units 0 * amt (0 : Fin 21).val = 10 := by decide
theorem units_rA : ∀ o : Fin 3, units (rixAA o) = 1 := by decide
theorem units_rB : ∀ o : Fin 7, units (rixAB o) = 1 := by decide

omit [FloatOps F] in
theorem creds (c : Dev nD) :
    (Pipeline.launchCred (fun d => owedFrom d 0) c : sProp 𝕄)
      ⊢ (iprop(cred (tallyAt (cell c 0) () 10) ∗ (bigSep Finset.univ fun o : Fin 3 => cred (tallyAt (cell c (rixAA o)) () (amt (rixAA o).val)))
        ∗ (bigSep Finset.univ fun o : Fin 7 => cred (tallyAt (cell c (rixAB o)) () (amt (rixAB o).val)))) : sProp 𝕄) := by
  unfold Pipeline.launchCred
  refine (bigSep_subset (Finset.subset_univ ((Finset.univ : Finset (Fin 21)).map ⟨csem, csem_inj⟩))).trans ?_
  rw [bigSep_map]
  show bigSep (Finset.univ : Finset (Fin 21)) (fun i => (cred (tallyOn (cell c i) (launchCredit (Pipeline.owing fun d => owedFrom d 0) 0 (cell c i))) : sProp 𝕄)) ⊢ _
  rw [bigSep_congr (s := (Finset.univ : Finset (Fin 21))) (fun i _ => congrArg (fun x => (cred x : sProp 𝕄)) (launch_cell c i)), by_kind, units_bar]
  simp only [units_rA, units_rB, one_mul]
  iintro ⟨H0, HA, HB, -, -⟩
  isplitl [H0]; · iexact H0
  isplitl [HA] <;> iassumption

omit [FloatOps F] in
/-- Tokens, credit and positions as the body takes them. -/
theorem lin_intro (c : Dev nD) :
    iprop((cred (tallyAt (cell c 0) () 10) ∗ (bigSep Finset.univ fun o : Fin 3 => cred (tallyAt (cell c (rixAA o)) () (amt (rixAA o).val)))
        ∗ (bigSep Finset.univ fun o : Fin 7 => cred (tallyAt (cell c (rixAB o)) () (amt (rixAB o).val))))
      ∗ paying (F := F) c ∗ bigSep Finset.univ fun i : Fin 21 => atPos ER (cell c i) 0 ∅ 0)
      ⊢ (lin (F := F) c : sProp 𝕄) := by
  have e : (paying (F := F) c : sProp 𝕄) = iprop((bigSep Finset.univ fun t : Fin 10 => dutyTok ER (cell (peer ⟨t.val, by omega⟩ c) 0) 0 (pduty ⟨t.val, by omega⟩))
      ∗ (bigSep Finset.univ fun o : Fin 3 => dutyTok ER (cell (ysh ⟨o.val + 1, by omega⟩ c) (rixAA o)) 0 0)
      ∗ (bigSep Finset.univ fun o : Fin 7 => dutyTok ER (cell (bsh ⟨o.val + 1, by omega⟩ c) (rixAB o)) 0 0)
      ∗ (bigSep Finset.univ fun o : Fin 3 => dutyTok ER (cell c (sixAA o)) 0 0)
      ∗ bigSep Finset.univ fun o : Fin 7 => dutyTok ER (cell c (sixAB o)) 0 0) := by
    unfold paying; rw [bigSep_univ_sum, bigSep_univ_sum, bigSep_univ_sum, bigSep_univ_sum]; rfl
  unfold lin wI
  rw [e, by_kind]
  simp only [bigSep_sep']
  iintro ⟨⟨C0, CA, CB⟩, ⟨T, TrA, TrB, TsA, TsB⟩, P0, PrA, PrB, PsA, PsB⟩
  isplitl [T]; · iexact T
  isplitl [TsA TrA]
  · isplitl [TsA] <;> iassumption
  isplitl [TsB TrB]
  · isplitl [TsB] <;> iassumption
  isplitl [C0]; · iexact C0
  isplitl [P0]; · iexact P0
  isplitl [CA PrA]
  · isplitl [CA] <;> iassumption
  isplitl [CB PrB]
  · isplitl [CB] <;> iassumption
  isplitl [PsA] <;> iassumption

end Cert.Att

end
-- ==== Proof.Launch.lean ====
/-
# The launch

The pipeline's proof data, the body's obligation, and the run of the whole mesh.
-/
module

public import proofs.«01_k».proof.Proof.Deal
public import Idealize.ShloMosaic.Lib.Pipeline.CollectiveSegs

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 21 → ℕ)

open Idealize.ShloMosaic.Pipeline (Dat Cfg Window BodyObligation cellOf)

/-! ## The proof data -/

/-- What device `c` starts from: what all know, its tokens and credit, its loads' semaphores, its keys and values. -/
def start (c : Dev nD) : sProp 𝕄 :=
  iprop(∃ K, records m K ∗ lin (F := F) c ∗ semsK (F := F) c ∗ semsV (F := F) c ∗ argK m c ∗ argV m c)
def Φ₀ (c : Dev nD) : sProp 𝕄 := iprop(start m c ∗ scratch (F := F) c)
def Φ₁ (c : Dev nD) : sProp 𝕄 :=
  iprop(semsP (F := F) c ∗ semsK (F := F) c ∗ semsV (F := F) c ∗ argK m c ∗ argV m c ∗ scratch (F := F) c)

def dats (_ : Fin 1) (c : Dev nD) : Dat τ (Elt F) Unit ℕ UU ℕ cfg0 c where
  A w := m ((cfg0.win w).arr.view.loc (c : Thread nD τ))
  after w _ := match w with
    | ⟨0, _⟩ => qstg m c
    | ⟨1, _⟩ => outv m
  Φ t := match t with
    | ⟨0, _⟩ => Φ₀ m c
    | ⟨_ + 1, _⟩ => Φ₁ m c
  q _ := fullShare
  owed t := match t with
    | ⟨0, _⟩ => owedFrom c 0
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_0 (t : Fin cfg0.N) : (cfg0.win (0 : Fin 2)).fetch t = true := by rw [fin_N0 t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Φ₁ m c ∗ (dats m 0 c).owesAt () t0_0.succ ∗ stg c cc0_stg0_0 (qstg m c) ∗ stg c cc0_stg1_0 (outv m))

/-- The body between the two boundaries the pipeline gives it. -/
theorem body_at (c : Dev nD) :
    bodyPre m c ⊢ WP c (cc0__body (F := F) qM (Memref.isWhole_whole _) argKM (Memref.isWhole_whole _) argVM (Memref.isWhole_whole _) oM (Memref.isWhole_whole _) kM (Memref.isWhole_whole _) vM (Memref.isWhole_whole _) opM (Memref.isWhole_whole _) lbM (Memref.isWhole_whole _) aM (Memref.isWhole_whole _) bM (Memref.isWhole_whole _) cc0_scratch6 cc0_scratch7 cc0_scratch8 cc0_scratch9 cc0_scratch10 cc0_scratch11) (fun _ => bodyPost m c) := by
  unfold bodyPre Φ₀ start
  iintro ⟨⟨⟨%K, HR, Hlin, HK, HV, HaK, HaV⟩, Hscr⟩, Ho, ⟨%d0, %g0, %hg0, Hx⟩, ⟨%d1, %g1, %hg1, Hout⟩⟩
  have hx : g0 = qstg m c := by rw [hg0]; unfold Dat.before; rw [if_pos (fetch_0 t0_0)]; rfl
  subst hx
  unfold Dat.owesAt Pipeline.owesWithin
  icases Ho with ⟨%W, %hW, HO⟩
  ihave HO : OW (F := F) c 0 $$ [HO]
  · unfold OW
    iexists W
    iexact HO
  ihave Hin : bodyIn m K c $$ [HR HO Hlin HK HV HaK HaV Hscr Hx Hout]
  · unfold bodyIn QS
    isplitl [HR]; · iexact HR
    isplitl [HO]; · iexact HO
    isplitl [Hlin]; · iexact Hlin
    isplitl [HK]; · iexact HK
    isplitl [HV]; · iexact HV
    isplitl [HaK]; · iexact HaK
    isplitl [HaV]; · iexact HaV
    isplitl [Hscr]; · iexact Hscr
    isplitl [Hx]; · iexact Hx
    iexists g1
    iexact Hout
  iapply (body_run m K c) $$ Hin
  unfold bodyOut bodyPost Φ₁ OW QS Dat.owesAt Pipeline.owesWithin
  iintro ⟨⟨%W', HO⟩, HP, HK, HV, HaK, HaV, Hscr, Hx, Hout⟩
  isplitl [HP HK HV HaK HaV Hscr]
  · isplitl [HP]; · iexact HP
    isplitl [HK]; · iexact HK
    isplitl [HV]; · iexact HV
    isplitl [HaK]; · iexact HaK
    isplitl [HaV]; · iexact HaV
    iexact Hscr
  isplitl [HO]
  · iexists W'
    isplitr; · ipureintro; exact fun _ _ => Or.inl trivial
    iapply (Entails.of_eq (congrArg (fun x => (owes (c : Thread nD τ) x W' : sProp 𝕄)) (owedFrom_end c)))
    iexact HO
  isplitl [Hx]
  · iexists _; isplitr; · (ipureintro; rfl)
    iexact Hx
  iexists _; isplitr; · (ipureintro; rfl)
  iexact Hout

/-- The body's obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_at m c

/-! ## The side conditions -/

theorem share_eq (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => owedFrom d 0) c ∗ prngReg c (ρ c) ∗ G' m c)
      ⊢ (|={Set.univ}=> iprop(start m c ∗ emp) : sProp 𝕄) := by
  rw [Pipeline.unscopedRestP_none, unscopedRest0_eq]
  unfold start G' own0 known records argK argV
  iintro ⟨⟨HaK, HaV⟩, Hlev, Hcr, -, ⟨%K, ⟨HI, HRe⟩, Hat, Htok, HK, HV⟩⟩
  ihave Hc := (creds (F := F) c) $$ Hcr
  ihave Hlin := (lin_intro (F := F) c) $$ [Hc Htok Hat]
  · isplitl [Hc]; · iexact Hc
    isplitl [Htok] <;> iassumption
  imodintro
  isplitl
  · iexists K
    isplitl [HI HRe Hlev]
    · isplitl [HI]; · iexact HI
      isplitl [HRe] <;> iassumption
    isplitl [Hlin]; · iexact Hlin
    isplitl [HK]; · iexact HK
    isplitl [HV]; · iexact HV
    isplitl [HaK] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What a device keeps past its scoped memory: its barrier at zero, its keys and values. -/
def kept (c : Dev nD) : sProp 𝕄 := iprop(unscopedSems0 c ∗ argK m c ∗ argV m c)

theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl, scopedRest0_eq, ownSems0_eq]
  unfold kept
  rw [unscopedSems0_eq]
  unfold Φ₁ semsP scratch
  iintro ⟨⟨HB, HsA, HrA, HsB, HrB⟩, HK, HV, HaK, HaV, Hscr⟩
  isplitl [HB HaK HaV]
  · isplitl [HB]; · iexact HB
    isplitl [HaK] <;> iassumption
  isplitl [HsA HrA HsB HrB HK HV]
  · isplitl [HsA HrA HsB HrB]
    · isplitl [HrA]; · iexact HrA
      isplitl [HrB]; · iexact HrB
      isplitl [HsA] <;> iassumption
    isplitl [HK] <;> iassumption
  iexact Hscr

theorem stage_low : ∀ (w : Fin cfg0.W) (s : Fin (cfg0.win w).nbuf), lvn (num (.dma ((cfg0.win w).sem s))) = 0 := by decide
theorem pays_high : ∀ t : Fin 20, 0 < lvn (pidx t).val := by decide

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ 0 fun t _ => by rw [stage_low w s]; exact pays_high t
    · show (levAts L lv : sProp 𝕄) ⊢ MayWait (c : Thread nD τ) _ () 0
      rw [MayWait_zero]; iintro -; iempintro

/-! ## The run -/

def finalA (c : Dev nD) (w : Fin cfg0.W) : Buf (Elt F) ((cfg0.win w).arr.view.loc (c : Thread nD τ)) := (dats m 0 c).arrAt w cfg0.N

/-- What device `c`'s memory holds beside the windows' arrays. -/
def Rest (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)
    ∧ s.mem ((c : Thread nD τ).loc main_arg2) = m ((c : Thread nD τ).loc main_arg2)

theorem kept_read (c : Dev nD) (s' : Phys nD τ sig (Elt F)) :
    iprop(kept m c ∗ emp ∗ SI s') ⊢ (|={Set.univ}=> iprop(⌜Rest m c s'.mem⌝ ∗ SI s') : sProp 𝕄) := by
  unfold kept argK argV
  iintro ⟨⟨Hu, HK, HV⟩, -, HSI⟩
  ihave %hK := (SI_pointsTo_agree (st := s')) $$ [HSI HK]
  · isplitl [HSI] <;> iassumption
  ihave %hV := (SI_pointsTo_agree (st := s')) $$ [HSI HV]
  · isplitl [HSI] <;> iassumption
  imod (Pipeline.unscopedSems0_read (X := unscopedSems0 c) (c := c) fupd_intro s') $$ [Hu HSI] with ⟨%hu, HSI⟩
  · isplitl [Hu] <;> iassumption
  imodintro
  isplitr
  · ipureintro
    exact ⟨hu, funext fun i => hK i (Finset.mem_univ i), funext fun i => hV i (Finset.mem_univ i)⟩
  iexact HSI

theorem funded : (BI.own (embR (initOf cells toks, (1 : Counters))) : sProp 𝕄) = BI.own (ER (initOf cells toks)) := rfl

/-- Every fair run of the mesh ends, with every device's arrays as computed, its keys and values as they were and every
    semaphore at zero. -/
theorem run_main (ρ : Dev nD → PrngReg) :
    θ_run defs (onTc (τ := τ) (main (F := F))) ⟨m, fun _ => 0, ρ⟩
      (fun r => (∀ c : Dev nD, (∀ w : Fin cfg0.W, r.2.mem ((cfg0.win w).arr.view.loc (c : Thread nD τ)) = finalA m c w) ∧ Rest m c r.2)
        ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := fun d => owedFrom d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (Entails.of_eq (funded (F := F))) $$ HX
      imod (fund_all m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m) (hout := phi1_exit m)
    (QY := Rest m)
    (hY := kept_read m)
    (hQ := fun _ h hs => ⟨fun c => ⟨(h c).1, (h c).2.2⟩, sem_eq_zero hs fun c => (h c).2.2.1⟩)

end Cert.Att

end
-- ==== Proof.Frames.lean ====
/-
# The frames

What the result array and the arguments hold at the end of a run of the kernel, and the same of the reference.

-/
module

public import proofs.«01_k».proof.Defs
public import proofs.«01_k».proof.Proof.Launch
public import proofs.«01_k».proof.Proof.Gen.ReferenceIdeal.Run
public import proofs.«01_k».proof.Proof.Gen.Kernel
public import proofs.«01_k».proof.Proof.Gen.KernelIdeal.Points

@[expose] public section

set_option maxRecDepth 16384

noncomputable section

namespace Cert.Att

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat)

variable {F : FTy → Type} [FloatOps F]

local notation "𝕄" => MT nD τ sig Unit (Elt F) ℕ UU ℕ

variable (m : (ℓ : Loc nD τ sig) → Buf (Elt F) ℓ) (K : Dev nD × Fin 21 → ℕ)

theorem qstg_eq (c : Dev nD) : qstg m c = m ((c : Thread nD τ).loc main_arg0) := by
  unfold qstg
  exact Memref.read_access_unit_zero (Elt F) main_arg0 (funext fun a => Nat.zero_mul _) _ (m ((c : Thread nD τ).loc main_arg0))

theorem finalA_one (c : Dev nD) : finalA m c (1 : Fin 2) = outv m := by
  unfold finalA
  show (dats m 0 c).arrAt (1 : Fin 2) (0 + 1) = outv m
  rw [Dat.arrAt]
  rw [dif_pos (show 0 < cfg0.N by decide), if_pos (flush0_1 _)]
  exact Memref.write_access_unit_zero_univ (Elt F) main_v1 (funext fun a => Nat.zero_mul _) _ _ _

/-- Every run of the kernel ends with the attention in the result array, its arguments as they were and every
semaphore at zero. -/
theorem kernel_run (ρ : Dev nD → PrngReg) :
    θ_run defs (onTc (τ := τ) (main (F := F))) ⟨m, fun _ => 0, ρ⟩
      (fun r => (∀ c : Dev nD, r.2.mem ((c.tc : Thread nD τ).loc main_v1) = outv m
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
        ∧ r.2.sem = fun _ => 0) :=
  (θ_run defs _ _).mono (fun _ h => ⟨fun c => ⟨((h.1 c).1 (1 : Fin 2)).trans (finalA_one m c),
      ((h.1 c).1 (0 : Fin 2)).trans ((dats m 0 c).arrAt_in (0 : Fin 2) rfl _), (h.1 c).2.2.1, (h.1 c).2.2.2⟩, h.2⟩)
    (run_main m ρ)

theorem frame_kernelIdeal : @Cert.quiescent_KernelIdeal Cert.KernelIdeal.Gen.facts := fun m ρ _ =>
  (θ_run defs _ _).mono (fun _ h => ⟨fun c => (h.1 c).2, h.2⟩) (kernel_run (F := Ideal) m ρ)

/-! The kernel over bit patterns and over ideal values is one text, so the run serves both. -/

section
attribute [local instance] Cert.Kernel.Gen.facts Cert.KernelIdeal.Gen.facts

theorem bodies_eq : Cert.Kernel.defs₀ (F := Bits) = Cert.KernelIdeal.defs₀ (F := Bits) := by
  unfold Cert.Kernel.defs₀ Cert.KernelIdeal.defs₀
  refine congrArg Defs.onTc (funext fun a => funext fun b => ?_)
  match a, b with
  | 0, (t, s) => rfl
  | ⟨_ + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  rw [bodies_eq]
  rfl
end

theorem frame_kernel : @Cert.quiescent_Kernel Cert.Kernel.Gen.facts := by
  intro m ρ _
  have h := (θ_run (defs (F := Bits)) (onTc (τ := τ) (main (F := Bits))) ⟨m, fun _ => 0, ρ⟩).mono
    (Q' := fun r => (∀ c : Dev nD, r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
        ∧ r.2.sem = fun _ => 0)
    (fun _ h => ⟨fun c => (h.1 c).2, h.2⟩) (kernel_run (F := Bits) m ρ)
  rw [defs_eq]
  exact h

/-- The reference has no semaphore. -/
theorem reference_sem (s : MemSt Cert.ReferenceIdeal.nD Cert.ReferenceIdeal.τ Cert.ReferenceIdeal.sig (Elt Ideal)) : s.sem = fun _ => 0 :=
  funext fun x => match x.2 with
    | .reg s => s.elim0
    | .dma s => s.elim0

theorem frame_referenceIdeal : @Cert.quiescent_ReferenceIdeal Cert.ReferenceIdeal.Gen.facts := fun m ρ _ =>
  (θ_run Cert.ReferenceIdeal.defs _ _).mono (fun _ h => ⟨fun c => (h c).2, reference_sem _⟩)
    (Cert.ReferenceIdeal.Value.run (F := Ideal) m ρ)

end Cert.Att

end
-- ==== Proof.Softmax.lean ====
/-
# The equation over the extended reals

A quotient of sums of exponentials is the sum of the normalised exponentials, shifted by any real number, where the
scores are real. The values beside them may be any extended reals.

-/
module

public import Idealize.ShloMosaic.Lib.ValueIdx
public import Idealize.ShloMosaic.PureOps.Ideal.Laws

@[expose] public section

set_option maxRecDepth 16384

noncomputable section

namespace Cert.Att

open Idealize.ShloMosaic
open scoped BigOperators

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type} (s : Finset ι) (f : ι → EReal) (hf : ∀ k, IsReal (f k)) : IsReal (∑ k ∈ s, f k) :=
  Finset.sum_induction f IsReal (fun _ _ => IsReal.add) ⟨0, rfl⟩ fun k _ => hf k

theorem IsReal.of_lt {x : EReal} (h : max x (-x) < ⊤) : IsReal x := by
  have h1 : x ≠ ⊤ := fun e => by subst e; simp at h
  have h2 : x ≠ ⊥ := fun e => by subst e; simp at h
  exact ⟨x.toReal, (EReal.coe_toReal h1 h2).symm⟩

/-- The largest of finitely many real numbers, one at least, is real. -/
theorem IsReal.fold_max {ι : Type} (s : Finset ι) (k₀ : ι) (h₀ : k₀ ∈ s) (f : ι → EReal) (hf : ∀ k, IsReal (f k)) :
    IsReal (s.fold max ⊥ f) := by
  have h1 : s.fold max ⊥ f < ⊤ := (Finset.fold_max_lt _).2 ⟨bot_lt_top, fun k _ => by
    obtain ⟨r, hr⟩ := hf k
    rw [hr]; exact EReal.coe_lt_top r⟩
  have h2 : ⊥ < s.fold max ⊥ f := (Finset.lt_fold_max _).2 (.inr ⟨k₀, h₀, by
    obtain ⟨r, hr⟩ := hf k₀
    rw [hr]; exact EReal.bot_lt_coe r⟩)
  exact ⟨_, (EReal.coe_toReal h1.ne h2.ne').symm⟩

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A nonnegative real factor goes into a sum of extended reals. -/
theorem sum_mul_real {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- The attention of one query: shifted and normalised first, or normalised last and not shifted. -/
theorem softmax_eq {ι : Type} [Fintype ι] [Nonempty ι] (s : ι → EReal) (hs : ∀ k, IsReal (s k)) (m : EReal) (hm : IsReal m)
    (v : ι → EReal) :
    ∑ k, v k * Ideal.div (Ideal.exp (s k - m)) (0 + ∑ j, Ideal.exp (s j - m))
      = Ideal.div (∑ k, Ideal.exp (s k) * v k) (∑ k, Ideal.exp (s k)) := by
  choose r hr using hs
  obtain ⟨b, rfl⟩ := hm
  have e1 : ∀ k, Ideal.exp (s k) = ((Real.exp (r k) : ℝ) : EReal) := fun k => by rw [hr k]; rfl
  have e2 : ∀ k, Ideal.exp (s k - (b : EReal)) = ((Real.exp (r k - b) : ℝ) : EReal) := fun k => by
    rw [hr k, ← EReal.coe_sub]; rfl
  have hL : (0 : ℝ) < ∑ k, Real.exp (r k) := Finset.sum_pos (fun k _ => Real.exp_pos _) Finset.univ_nonempty
  have hl : (0 : ℝ) < ∑ k, Real.exp (r k - b) := Finset.sum_pos (fun k _ => Real.exp_pos _) Finset.univ_nonempty
  have key : (∑ k, Real.exp (r k - b)) * Real.exp b = ∑ k, Real.exp (r k) := by
    rw [Finset.sum_mul]
    exact Finset.sum_congr rfl fun k _ => by rw [← Real.exp_add, sub_add_cancel]
  simp only [e1, e2]
  rw [zero_add, ← coe_sum, ← coe_sum, Ideal.div_coe hL.ne', sum_mul_real _ _ _ (by positivity)]
  refine Finset.sum_congr rfl fun k _ => ?_
  rw [Ideal.div_coe hl.ne', ← EReal.coe_mul, mul_comm ((Real.exp (r k) : ℝ) : EReal) (v k), mul_assoc, ← EReal.coe_mul]
  congr 2
  rw [← key, Real.exp_sub]
  have := Real.exp_pos b
  field_simp

end Cert.Att

end
-- ==== Proof.Precondition.lean ====
/-
# The precondition read back

A device whose finiteness predicate holds has real query and key entries.

-/
module

public import proofs.«01_k».proof.Defs
public import proofs.«01_k».proof.Proof.Softmax
public import Idealize.ShloMosaic.Lib.ReduceAll
public import Idealize.ShloMosaic.Lib.IdealHost

@[expose] public section

set_option maxRecDepth 16384

noncomputable section

namespace Cert.Att

open Idealize.ShloMosaic Idealize.ShloMosaic.ValueIdx

theorem pre_facts : Cert.Pre_finite_qk_KernelIdeal.Facts where
  bcast_S_S8x8x16x128 := by decide
  reducesTo_S8x8x16x128_S_d0_1_2_3 := by decide
  h_S_ := by decide
  bcast_S_S8x1024x16x128 := by decide
  reducesTo_S8x1024x16x128_S_d0_1_2_3 := by decide

theorem pre_facts_ref : Cert.Pre_finite_qk_ReferenceIdeal.Facts where
  bcast_S_S8x8x16x128 := by decide
  reducesTo_S8x8x16x128_S_d0_1_2_3 := by decide
  h_S_ := by decide
  bcast_S_S8x4096x16x128 := by decide
  reducesTo_S8x4096x16x128_S_d0_1_2_3 := by decide

/-- A magnitude that compares below the infinity is a real number's. -/
theorem real_of_cmp (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  refine IsReal.of_lt ?_
  by_contra hn
  simp [Ideal.cmp, hn] at h

/-- An array whose entries all compare below the infinity has real entries. -/
theorem real_of_all {s t u : Shape} {axes : List (Fin s.rank)} [Subsingleton t.Idx] (x : FVec Ideal s .f32)
    (hb : (⟨0, ![]⟩ : Shape).BroadcastsInDim s ![]) (init : u.Idx → BitVec 1) (hr : s.ReducesTo axes t) (hu : 0 < u.numel) (j : t.Idx)
    (h : Host.reduce IntOp.andi (cmpf .olt (Host.absf x) (broadcastInDim s ![] hb (constant ⟨0, ![]⟩ .f32 0x7F800000#32))) init hr hu j
      = 1#1) (i : s.Idx) : IsReal (x i) := by
  have e := Host.reduce_andi_all _ _ _ _ _ h i
  refine real_of_cmp (x i) ?_
  exact (congrArg (Ideal.cmp .olt (max (x i : EReal) (-(x i : EReal))))
    (broadcastInDim_scalar_apply hb (constant (F := Ideal) ⟨0, ![]⟩ .f32 0x7F800000#32) i)).symm.trans e

instance : Subsingleton Cert.Pre_finite_qk_KernelIdeal.S_.Idx := ⟨fun a b => funext fun k => k.elim0⟩

theorem real_of_pre (q : FVec Ideal Cert.Pre_finite_qk_KernelIdeal.S8x8x16x128 .f32)
    (k v : FVec Ideal Cert.Pre_finite_qk_KernelIdeal.S8x1024x16x128 .f32)
    (h : @Cert.Pre_finite_qk_KernelIdeal.fn pre_facts Ideal _ q k v = fun _ => 1#1) :
    (∀ i, IsReal (q i)) ∧ ∀ i, IsReal (k i) := by
  have h0 := congrFun h (fun k => k.elim0)
  obtain ⟨h1, h2⟩ := IntOp.andi_eq_one.1 h0
  exact ⟨fun i => real_of_all q _ _ _ _ _ h1 i, fun i => real_of_all k _ _ _ _ _ h2 i⟩

end Cert.Att

end
-- ==== Proof.ValueHead.lean ====
/-
# One head at an index

Over the extended reals one head's exponentials, numerators and denominators, read at an index.

-/
module

public import proofs.«01_k».proof.Proof.Frames
public import proofs.«01_k».proof.Proof.Softmax
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value

@[expose] public section

set_option maxRecDepth 16384

noncomputable section

namespace Cert.Att

open Cert.KernelIdeal Cert.KernelIdeal.Gen
open Idealize.ShloMosaic Idealize.ShloMosaic.TcCoe Idealize.ShloMosaic.ValueIdx
open scoped BigOperators

/-- The scale of the scores, one over the square root of the head's width, as both programs spell it. -/
def scl : EReal := Ideal.ofBits .f32 0x3DB504F3#32

theorem scl_real : IsReal scl := by
  unfold scl
  simp [Ideal.ofBits, Ideal.ieee]
  exact ⟨_, rfl⟩

theorem headP_apply (h : Fin 16) (q : FVec Ideal S8x16x128 .f32) (k : Vec Ideal S1x1024x128 .f32) (a : Fin 8) (j : Fin 1024) :
    headP h q k (ix2 a j) = Ideal.exp ((∑ d : Fin 128, q (ix3 a h d) * k (ix3 (0 : Fin 1) j d)) * scl) := by
  have e : matmul (φ₂ := .f32) dot_S8x128_S1024x128_S8x1024_1_1_0_0_n_n none
      (shapeCast S8x128 (extractStridedSlice S8x1x128 ![0, h.val, 0] q (slices_head h)) shapeCasts_S8x1x128_S8x128)
      (shapeCast S1024x128 k shapeCasts_S1x1024x128_S1024x128) (constant S8x1024 .f32 0x00000000#32) (ix2 a j)
      = ∑ d : Fin 128, q (ix3 a h d) * k (ix3 (0 : Fin 1) j d) := by
    refine (Ideal.matmul_transposedRhs_apply (M := 8) (K := 128) (N := 1024) none _ _ _ a j).trans ?_
    rw [show constant (F := Ideal) S8x1024 .f32 0x00000000#32 (ix2 a j) = (0 : EReal) from Ideal.ofBits_zero_f32, zero_add]
    refine Finset.sum_congr rfl fun d _ => ?_
    congr 1
    · rw [shapeCast_apply _ _ (ix2 a d) (ix3 a (0 : Fin 1) d : S8x1x128.Idx) (by
        simp [Shape.rowMajor_val_two, Shape.rowMajor_val_three, S8x1x128, S8x128])]
      exact slice3_axis1_apply h.val q (slices_head h) a (0 : Fin 1) d h (by simp)
    · exact shapeCast_1ab_ab_apply k _ j d
  show Ideal.exp (_ * scl) = _
  exact congrArg (fun t => Ideal.exp (t * scl)) e

theorem headO_apply (h : Fin 16) (q : FVec Ideal S8x16x128 .f32) (k v : Vec Ideal S1x1024x128 .f32) (a : Fin 8) (d : Fin 128) :
    headO h q k v (ix3 a (0 : Fin 1) d) = ∑ j : Fin 1024, headP h q k (ix2 a j) * v (ix3 (0 : Fin 1) j d) := by
  unfold headO
  rw [shapeCast_apply _ _ (ix3 a (0 : Fin 1) d : S8x1x128.Idx) (ix2 a d) (by
    simp [Shape.rowMajor_val_two, Shape.rowMajor_val_three, S8x1x128, S8x128])]
  refine (Ideal.matmul_plain_apply (M := 8) (K := 1024) (N := 128) none _ _ _ a d).trans ?_
  rw [show constant (F := Ideal) S8x128 .f32 0x00000000#32 (ix2 a d) = (0 : EReal) from Ideal.ofBits_zero_f32, zero_add]
  exact Finset.sum_congr rfl fun j _ => congrArg _ (shapeCast_1ab_ab_apply v _ j d)

theorem headL_apply (h : Fin 16) (q : FVec Ideal S8x16x128 .f32) (k : Vec Ideal S1x1024x128 .f32) (a : Fin 8) (d : Fin 128) :
    headL h q k (ix3 a (0 : Fin 1) d) = ∑ j : Fin 1024, headP h q k (ix2 a j) := by
  unfold headL
  rw [shapeCast_apply _ _ (ix3 a (0 : Fin 1) d : S8x1x128.Idx) (ix2 a d) (by
    simp [Shape.rowMajor_val_two, Shape.rowMajor_val_three, S8x1x128, S8x128])]
  rw [broadcastTo_apply _ _ (ix2 a d) (ix2 a (0 : Fin 1) : S8x1.Idx) (by intro b; fin_cases b <;> simp [S8x1, S8x128, ix2])]
  rw [shapeCast_self, shapeCast_a_a1_apply]
  refine (Ideal.multiReduction_add_single _ _ _ _ _ _).trans ?_
  refine Finset.sum_congr rfl fun j _ => congrArg _ ?_
  funext b; apply Fin.ext
  match b with
  | ⟨0, _⟩ => rfl
  | ⟨1, _⟩ => rfl

end Cert.Att

end
-- ==== Proof.ValueKernel.lean ====
/-
# The kernel's result at an index

Over the extended reals the result of the kernel is, at every query, head and lane, the sum over the four key blocks
of the numerators divided by the sum over the four key blocks of the denominators.

-/
module

public import proofs.«01_k».proof.Proof.ValueHead

@[expose] public section

set_option maxRecDepth 16384

noncomputable section

namespace Cert.Att

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ)

/-- The batch entry of device `c`. -/
abbrev bix (c : Dev nD) : Fin 8 := ⟨bof c, bof_lt c⟩

/-- A query entry, a key entry and a value entry of device `c`, as extended reals. -/
def Qe (c : Dev nD) (q : Fin 8) (h : Fin 16) (d : Fin 128) : EReal :=
  m ((c : Thread nD τ).loc main_arg0) (ix4 (bix c) q h d : S8x8x16x128.Idx)
def Ke (c : Dev nD) (j : Fin 1024) (h : Fin 16) (d : Fin 128) : EReal :=
  m ((c : Thread nD τ).loc main_arg1) (ix4 (bix c) j h d : S8x1024x16x128.Idx)
def Ve (c : Dev nD) (j : Fin 1024) (h : Fin 16) (d : Fin 128) : EReal :=
  m ((c : Thread nD τ).loc main_arg2) (ix4 (bix c) j h d : S8x1024x16x128.Idx)

/-- One scaled score of device `c`: query `q` and key `j` of head `h`. -/
def sc (c : Dev nD) (q : Fin 8) (h : Fin 16) (j : Fin 1024) : EReal :=
  (∑ d : Fin 128, Qe m c q h d * Ke m c j h d) * scl

theorem qb_apply (c : Dev nD) (q : Fin 8) (h : Fin 16) (d : Fin 128) :
    qb m c (ix3 q h d) = Qe m c q h d := by
  unfold qb k0_pay1
  rw [qstg_eq]
  refine (shapeCast_1abc_abc_apply _ _ q h d).trans ?_
  show m ((c : Thread nD τ).loc main_arg0) _ = m ((c : Thread nD τ).loc main_arg0) _
  refine congrArg (m ((c : Thread nD τ).loc main_arg0)) ?_
  funext a; apply Fin.ext
  match a with
  | ⟨0, _⟩ => show bof c + 1 * 0 = bof c; omega
  | ⟨1, _⟩ => show 0 + 1 * q.val = q.val; omega
  | ⟨2, _⟩ => show 0 + 1 * h.val = h.val; omega
  | ⟨3, _⟩ => show 0 + 1 * d.val = d.val; omega

theorem kh_apply (c : Dev nD) (h : Fin 16) (j : Fin 1024) (d : Fin 128) :
    kh m c h (ix3 (0 : Fin 1) j d) = Ke m c j h d := by
  show m ((c : Thread nD τ).loc main_arg1) _ = m ((c : Thread nD τ).loc main_arg1) _
  refine congrArg (m ((c : Thread nD τ).loc main_arg1)) ?_
  funext a; apply Fin.ext
  match a with
  | ⟨0, _⟩ => rfl
  | ⟨1, _⟩ => show 0 + 1 * j.val = j.val; omega
  | ⟨2, _⟩ => show h.val + 1 * 0 = h.val; omega
  | ⟨3, _⟩ => show 0 + 1 * d.val = d.val; omega

theorem vh_apply (c : Dev nD) (h : Fin 16) (j : Fin 1024) (d : Fin 128) :
    vh m c h (ix3 (0 : Fin 1) j d) = Ve m c j h d := by
  show m ((c : Thread nD τ).loc main_arg2) _ = m ((c : Thread nD τ).loc main_arg2) _
  refine congrArg (m ((c : Thread nD τ).loc main_arg2)) ?_
  funext a; apply Fin.ext
  match a with
  | ⟨0, _⟩ => rfl
  | ⟨1, _⟩ => show 0 + 1 * j.val = j.val; omega
  | ⟨2, _⟩ => show h.val + 1 * 0 = h.val; omega
  | ⟨3, _⟩ => show 0 + 1 * d.val = d.val; omega

theorem headP_sc (c : Dev nD) (h : Fin 16) (q : Fin 8) (j : Fin 1024) :
    headP h (qb m c) (kh m c h) (ix2 q j) = Ideal.exp (sc m c q h j) := by
  rw [headP_apply]
  unfold sc
  refine congrArg (fun t => Ideal.exp (t * scl)) (Finset.sum_congr rfl fun d _ => ?_)
  rw [qb_apply, kh_apply]

theorem opv_apply (c : Dev nD) (q : Fin 8) (h : Fin 16) (d : Fin 128) :
    opv m c (ix3 q h d : S8x16x128.Idx) = ∑ j : Fin 1024, Ideal.exp (sc m c q h j) * Ve m c j h d := by
  refine (headO_apply h (qb m c) (kh m c h) (vh m c h) q d).trans (Finset.sum_congr rfl fun j _ => ?_)
  rw [headP_sc, vh_apply]

theorem lbv_apply (c : Dev nD) (q : Fin 8) (h : Fin 16) (d : Fin 128) :
    lbv m c (ix3 q h d : S8x16x128.Idx) = ∑ j : Fin 1024, Ideal.exp (sc m c q h j) := by
  refine (headL_apply h (qb m c) (kh m c h) q d).trans (Finset.sum_congr rfl fun j _ => ?_)
  rw [headP_sc]

/-! ## The blocks exchanged -/

/-- The row of query `q` and head `h`. -/
abbrev row (q : Fin 8) (h : Fin 16) : Fin 128 := ⟨q.val * 16 + h.val, by omega⟩

/-- The row's place among the numerators, and among the denominators below them. -/
abbrev rowN (q : Fin 8) (h : Fin 16) : Fin 256 := ⟨q.val * 16 + h.val, by omega⟩
abbrev rowD (q : Fin 8) (h : Fin 16) : Fin 256 := ⟨128 + (q.val * 16 + h.val), by omega⟩

theorem pay60_apply (x : Vec Ideal S8x16x128 .f32) (q : Fin 8) (h : Fin 16) (d : Fin 128) :
    k0_pay60 x (ix3 (0 : Fin 1) (row q h) d) = x (ix3 q h d) := by
  unfold k0_pay60
  refine (shapeCast_ab_1ab_apply _ _ (0 : Fin 1) (row q h) d).trans ?_
  show shapeCast S128x128 x _ (ix2 (row q h) d) = _
  exact shapeCast_apply _ _ (ix2 (row q h) d) (ix3 q h d : S8x16x128.Idx) (by
    simp [Shape.rowMajor_val_two, Shape.rowMajor_val_three, S8x16x128, S128x128])

theorem pay61_apply (x : Vec Ideal S8x16x128 .f32) (q : Fin 8) (h : Fin 16) (d : Fin 128) :
    k0_pay61 x (ix3 (0 : Fin 1) (row q h) d) = x (ix3 q h d) := by
  unfold k0_pay61
  refine (shapeCast_ab_1ab_apply _ _ (0 : Fin 1) (row q h) d).trans ?_
  show shapeCast S128x128 x _ (ix2 (row q h) d) = _
  exact shapeCast_apply _ _ (ix2 (row q h) d) (ix3 q h d : S8x16x128.Idx) (by
    simp [Shape.rowMajor_val_two, Shape.rowMajor_val_three, S8x16x128, S128x128])

theorem chunk_num (c : Dev nD) (q : Fin 8) (h : Fin 16) (d : Fin 128) :
    chunk m c (rowN q h) d = opv m c (ix3 q h d : S8x16x128.Idx) := by
  unfold chunk
  rw [dif_pos (show (rowN q h).val < 128 from (row q h).isLt)]
  exact pay60_apply (opv m c) q h d

theorem chunk_den (c : Dev nD) (q : Fin 8) (h : Fin 16) (d : Fin 128) :
    chunk m c (rowD q h) d = lbv m c (ix3 q h d : S8x16x128.Idx) := by
  unfold chunk
  rw [dif_neg (show ¬ (rowD q h).val < 128 from by show ¬ (128 + (q.val * 16 + h.val) < 128); omega)]
  refine Eq.trans (congrArg (k0_pay61 (lbv m c)) (congrArg (fun r => ix3 (0 : Fin 1) r d) (Fin.ext ?_))) (pay61_apply (lbv m c) q h d)
  show 128 + (q.val * 16 + h.val) - 128 = q.val * 16 + h.val
  omega

theorem rowA_apply (b : ℕ) (y : Fin 4) (r : Fin 256) (d : Fin 128) :
    rowA m b y (ix3 (0 : Fin 1) r d) = chunk m (dv b y.val) r d := by
  show Gx m b _ = Gx m b (ix3 y r d : S4x256x128.Idx)
  refine congrArg (Gx m b) ?_
  funext a; apply Fin.ext
  match a with
  | ⟨0, _⟩ => show y.val + 1 * 0 = y.val; omega
  | ⟨1, _⟩ => show 0 + 1 * r.val = r.val; omega
  | ⟨2, _⟩ => show 0 + 1 * d.val = d.val; omega

/-! ## The result -/

theorem pay62_apply (x0 x1 x2 x3 : Vec Ideal S1x256x128 .bf16) (q : Fin 8) (h : Fin 16) (d : Fin 128) :
    k0_pay62 x0 x1 x2 x3 (ix3 (0 : Fin 1) (row q h) d)
      = Ideal.div (x0 (ix3 (0 : Fin 1) (rowN q h) d) + x1 (ix3 (0 : Fin 1) (rowN q h) d) + x2 (ix3 (0 : Fin 1) (rowN q h) d)
          + x3 (ix3 (0 : Fin 1) (rowN q h) d) : EReal)
        (x0 (ix3 (0 : Fin 1) (rowD q h) d) + x1 (ix3 (0 : Fin 1) (rowD q h) d) + x2 (ix3 (0 : Fin 1) (rowD q h) d)
          + x3 (ix3 (0 : Fin 1) (rowD q h) d) : EReal) := by
  unfold k0_pay62
  refine (shapeCast_ab_1ab_apply _ _ (0 : Fin 1) (row q h) d).trans ?_
  refine congrArg₂ Ideal.div ((slice2_axis0_apply 0 _ _ (row q h) d (rowN q h) (by simp)).trans ?_)
    ((slice2_axis0_apply 128 _ _ (row q h) d (rowD q h) rfl).trans ?_)
  all_goals
    refine congrArg₂ (· + ·) (congrArg₂ (· + ·) (congrArg₂ (· + ·) ?_ ?_) ?_) ?_ <;>
      exact shapeCast_1ab_ab_apply _ _ _ d

theorem rowB_apply (b : Fin 8) (r : Fin 128) (d : Fin 128) :
    rowB m b (ix3 (0 : Fin 1) r d) = nrm m b.val (ix3 (0 : Fin 1) r d) := by
  show Gb m _ = Gb m (ix3 b r d : S8x128x128.Idx)
  refine congrArg (Gb m) ?_
  funext a; apply Fin.ext
  match a with
  | ⟨0, _⟩ => show b.val + 1 * 0 = b.val; omega
  | ⟨1, _⟩ => show 0 + 1 * r.val = r.val; omega
  | ⟨2, _⟩ => show 0 + 1 * d.val = d.val; omega

theorem pay63_apply (x : Vec Ideal S1x128x128 .bf16) (r d : Fin 128) :
    k0_pay63 x (ix3 (0 : Fin 1) r d) = x (ix3 (0 : Fin 1) r d) := by
  unfold k0_pay63
  refine (shapeCast_ab_1ab_apply _ _ (0 : Fin 1) r d).trans ?_
  exact shapeCast_1ab_ab_apply x _ r d

/-- The kernel's result at batch entry `b`, query `q`, head `h` and lane `d`. -/
theorem outv_apply (b : Fin 8) (q : Fin 8) (h : Fin 16) (d : Fin 128) :
    outv m (ix3 b (row q h) d : S8x128x128.Idx)
      = Ideal.div (∑ y : Fin 4, (opv m (dv b.val y.val) (ix3 q h d : S8x16x128.Idx) : EReal))
          (∑ y : Fin 4, (lbv m (dv b.val y.val) (ix3 q h d : S8x16x128.Idx) : EReal)) := by
  show k0_pay63 (rowB m b) (ix3 (0 : Fin 1) (row q h) d) = _
  rw [pay63_apply, rowB_apply]
  unfold nrm
  rw [pay62_apply]
  simp only [rowA_apply, chunk_num, chunk_den, Fin.sum_univ_four]

end Cert.Att

end
-- ==== Proof.ValueReference.lean ====
/-
# The reference's result at an index

Over the extended reals the reference's result is, at every query, head and lane, the sum over all keys of the value
times the normalised shifted exponential of the score.

-/
module

public import proofs.«01_k».proof.Proof.Gen.ReferenceIdeal.Run
public import proofs.«01_k».proof.Proof.ValueHead
public import Idealize.ShloMosaic.Lib.IdealHost

@[expose] public section

set_option maxRecDepth 16384

noncomputable section

namespace Cert.Att

open Cert.ReferenceIdeal Cert.ReferenceIdeal.Gen
open Idealize.ShloMosaic Idealize.ShloMosaic.TcCoe Idealize.ShloMosaic.ValueIdx
open scoped BigOperators

variable (Q : FVec Ideal S8x8x16x128 .f32) (K V : FVec Ideal S8x4096x16x128 .f32)

/-- The scaled scores. -/
def refS : FVec Ideal S8x16x8x4096 .f32 :=
  mulf (Host.dotGeneral dot_S8x8x16x128_S8x4096x16x128_S8x16x8x4096_3_3_1_1_02_02 none Q K)
    (broadcastInDim S8x16x8x4096 ![] bcast_S_S8x16x8x4096 (constant S_ .f32 0x3DB504F3#32))

/-- The largest score of every query. -/
def refM : FVec Ideal S8x16x8 .f32 :=
  Host.reduce FloatOps.maximumf (refS Q K) (constant S_ .f32 0xFF800000#32) reducesTo_S8x16x8x4096_S8x16x8_d3 h_S_

/-- The exponentials of the shifted scores. -/
def refE : FVec Ideal S8x16x8x4096 .f32 :=
  Host.exp (subf (refS Q K) (broadcastInDim S8x16x8x4096 ![0, 1, 2, 3] bcast_S8x16x8x1_S8x16x8x4096_0_1_2_3
    (broadcastInDim S8x16x8x1 ![0, 1, 2] bcast_S8x16x8_S8x16x8x1_0_1_2 (refM Q K))))

/-- The normalised exponentials. -/
def refP : FVec Ideal S8x16x8x4096 .f32 :=
  Host.divf (refE Q K) (broadcastInDim S8x16x8x4096 ![0, 1, 2, 3] bcast_S8x16x8x1_S8x16x8x4096_0_1_2_3
    (broadcastInDim S8x16x8x1 ![0, 1, 2] bcast_S8x16x8_S8x16x8x1_0_1_2
      (Host.reduceAdd (refE Q K) (constant S_ .f32 0x00000000#32) reducesTo_S8x16x8x4096_S8x16x8_d3 h_S_)))

/-- The result. -/
def refO : FVec Ideal S8x128x128 .f32 :=
  shapeCast S8x128x128 (transpose S8x8x16x128 [0, 3, 1, 2]
    (Host.dotGeneral dot_S8x4096x16x128_S8x16x8x4096_S8x16x128x8_1_3_3_2_02_01 none V (refP Q K))
    transposes_S8x16x128x8_S8x8x16x128_0_3_1_2) shapeCasts_S8x8x16x128_S8x128x128

theorem dotQK_apply (b : Fin 8) (h : Fin 16) (q : Fin 8) (k : Fin 4096) :
    Host.dotGeneral dot_S8x8x16x128_S8x4096x16x128_S8x16x8x4096_3_3_1_1_02_02 none Q K (ix4 b h q k)
      = ∑ d : Fin 128, (Q (ix4 b q h d) : EReal) * K (ix4 b k h d) := by
  unfold Host.dotGeneral
  rw [Ideal.dotGeneral_apply,
    ← Equiv.sum_comp (contrEquiv1 dot_S8x8x16x128_S8x4096x16x128_S8x16x8x4096_3_3_1_1_02_02 128 rfl rfl).symm]
  refine Finset.sum_congr rfl fun d _ => ?_
  have hk := contrEquiv1_symm_val dot_S8x8x16x128_S8x4096x16x128_S8x16x8x4096_3_3_1_1_02_02 128 rfl rfl d
  refine congrArg₂ (· * ·) (congrArg Q ?_) (congrArg K ?_)
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => rfl
    | ⟨3, _⟩ => exact hk

theorem dotVP_apply (P : FVec Ideal S8x16x8x4096 .f32) (b : Fin 8) (h : Fin 16) (d : Fin 128) (q : Fin 8) :
    Host.dotGeneral dot_S8x4096x16x128_S8x16x8x4096_S8x16x128x8_1_3_3_2_02_01 none V P (ix4 b h d q)
      = ∑ k : Fin 4096, (V (ix4 b k h d) : EReal) * P (ix4 b h q k) := by
  unfold Host.dotGeneral
  rw [Ideal.dotGeneral_apply,
    ← Equiv.sum_comp (contrEquiv1 dot_S8x4096x16x128_S8x16x8x4096_S8x16x128x8_1_3_3_2_02_01 4096 rfl rfl).symm]
  refine Finset.sum_congr rfl fun k _ => ?_
  have hk := contrEquiv1_symm_val dot_S8x4096x16x128_S8x16x8x4096_S8x16x128x8_1_3_3_2_02_01 4096 rfl rfl k
  refine congrArg₂ (· * ·) (congrArg V ?_) (congrArg P ?_)
  · funext a; apply Fin.ext
    match a with
    | ⟨0, _⟩ => rfl
    | ⟨1, _⟩ => exact hk
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => exact hk

theorem refS_apply (b : Fin 8) (h : Fin 16) (q : Fin 8) (k : Fin 4096) :
    refS Q K (ix4 b h q k) = (∑ d : Fin 128, (Q (ix4 b q h d) : EReal) * K (ix4 b k h d)) * scl := by
  unfold refS
  rw [mulf_apply, dotQK_apply, broadcastInDim_scalar_apply]
  rfl

/-- One value per query, spread over the keys. -/
theorem spread_apply (x : FVec Ideal S8x16x8 .f32) (b : Fin 8) (h : Fin 16) (q : Fin 8) (k : Fin 4096) :
    broadcastInDim S8x16x8x4096 ![0, 1, 2, 3] bcast_S8x16x8x1_S8x16x8x4096_0_1_2_3
      (broadcastInDim S8x16x8x1 ![0, 1, 2] bcast_S8x16x8_S8x16x8x1_0_1_2 x) (ix4 b h q k) = x (ix3 b h q) := by
  rw [broadcastInDim_apply _ _ _ (ix4 b h q k) (ix4 b h q (0 : Fin 1) : S8x16x8x1.Idx)
    (by intro a; match a with | ⟨0, _⟩ => rfl | ⟨1, _⟩ => rfl | ⟨2, _⟩ => rfl | ⟨3, _⟩ => rfl)]
  exact broadcastInDim_apply _ _ _ (ix4 b h q (0 : Fin 1)) (ix3 b h q : S8x16x8.Idx)
    (by intro a; match a with | ⟨0, _⟩ => rfl | ⟨1, _⟩ => rfl | ⟨2, _⟩ => rfl)

theorem reduces_keys : S8x16x8x4096.Reduces [3] S8x16x8 := by decide

theorem lift_keys (b : Fin 8) (h : Fin 16) (q : Fin 8) (k : Fin 4096) :
    reduces_keys.lift (ix3 b h q) k = ix4 b h q k := by
  funext a; apply Fin.ext
  match a with
  | ⟨0, _⟩ => rfl
  | ⟨1, _⟩ => rfl
  | ⟨2, _⟩ => rfl
  | ⟨3, _⟩ => rfl

theorem refM_real (b : Fin 8) (h : Fin 16) (q : Fin 8) (hs : ∀ k : Fin 4096, IsReal (refS Q K (ix4 b h q k))) :
    IsReal (refM Q K (ix3 b h q)) := by
  unfold refM
  show IsReal (Host.reduce (max : EReal → EReal → EReal) (refS Q K) (constant (F := Ideal) S_ .f32 0xFF800000#32)
    reducesTo_S8x16x8x4096_S8x16x8_d3 h_S_ (ix3 b h q))
  rw [Host.reduce_eq_fold_single max _ _ _ reduces_keys]
  have e : (constant (F := Ideal) S_ .f32 0xFF800000#32 (Shape.Idx.first h_S_)) = (⊥ : EReal) := by
    show Ideal.ofBits .f32 0xFF800000#32 = ⊥
    simp [Ideal.ofBits, Ideal.ieee]
  rw [e]
  refine IsReal.fold_max _ (0 : Fin 4096) (Finset.mem_univ _) _ fun k => ?_
  show IsReal (refS Q K (reduces_keys.lift (ix3 b h q) k))
  rw [lift_keys]
  exact hs k

theorem refE_apply (b : Fin 8) (h : Fin 16) (q : Fin 8) (k : Fin 4096) :
    refE Q K (ix4 b h q k) = Ideal.exp (refS Q K (ix4 b h q k) - refM Q K (ix3 b h q) : EReal) := by
  refine congrArg Ideal.exp (congrArg (fun t : EReal => (refS Q K (ix4 b h q k) : EReal) - t) ?_)
  exact spread_apply (refM Q K) b h q k

theorem refP_apply (b : Fin 8) (h : Fin 16) (q : Fin 8) (k : Fin 4096) :
    refP Q K (ix4 b h q k) = Ideal.div (Ideal.exp (refS Q K (ix4 b h q k) - refM Q K (ix3 b h q) : EReal))
      (0 + ∑ j : Fin 4096, Ideal.exp (refS Q K (ix4 b h q j) - refM Q K (ix3 b h q) : EReal)) := by
  unfold refP
  rw [hostDivf_apply, refE_apply, spread_apply, hostReduceAdd_apply, Ideal.hostReduceAdd_single _ reduces_keys]
  refine congrArg (Ideal.div _) (congrArg₂ (· + ·) Ideal.ofBits_zero_f32 (Finset.sum_congr rfl fun j _ => ?_))
  exact (congrArg (refE Q K) (lift_keys b h q j)).trans (refE_apply Q K b h q j)

/-- The result at batch entry `b`, query `q`, head `h` and lane `d`. -/
theorem refO_apply (b : Fin 8) (q : Fin 8) (h : Fin 16) (d : Fin 128) (r : Fin 128) (hr : r.val = q.val * 16 + h.val) :
    refO Q K V (ix3 b r d) = ∑ k : Fin 4096, (V (ix4 b k h d) : EReal)
      * Ideal.div (Ideal.exp (refS Q K (ix4 b h q k) - refM Q K (ix3 b h q) : EReal))
          (0 + ∑ j : Fin 4096, Ideal.exp (refS Q K (ix4 b h q j) - refM Q K (ix3 b h q) : EReal)) := by
  unfold refO
  rw [shapeCast_apply _ _ (ix3 b r d : S8x128x128.Idx) (ix4 b q h d : S8x8x16x128.Idx) (by
    rw [Shape.rowMajor_val_four, Shape.rowMajor_val_three]
    show ((b.val * 8 + q.val) * 16 + h.val) * 128 + d.val = (b.val * 128 + r.val) * 128 + d.val
    rw [hr]; ring)]
  rw [transpose_apply _ _ _ (ix4 b q h d : S8x8x16x128.Idx) (ix4 b h d q : S8x16x128x8.Idx)
    (by intro a; match a with | ⟨0, _⟩ => rfl | ⟨1, _⟩ => rfl | ⟨2, _⟩ => rfl | ⟨3, _⟩ => rfl)]
  rw [dotVP_apply]
  exact Finset.sum_congr rfl fun k _ => congrArg _ (refP_apply Q K b h q k)

end Cert.Att

end
-- ==== Proof.ValueEq.lean ====
/-
# The kernel's result is the reference's

With real queries and keys the kernel's result on every device is the reference's: the four key blocks together are
the reference's keys, and dividing the summed numerators by the summed denominators is normalising every exponential.

-/
module

public import proofs.«01_k».proof.Proof.ValueKernel
public import proofs.«01_k».proof.Proof.ValueReference
public import Idealize.ShloMosaic.Lib.Layout

@[expose] public section

set_option maxRecDepth 16384

noncomputable section

namespace Cert.Att

open Idealize.ShloMosaic Idealize.ShloMosaic.TcCoe Idealize.ShloMosaic.ValueIdx
open scoped BigOperators

/-- Key `j` of block `y` among all keys. -/
abbrev kix (y : Fin 4) (j : Fin 1024) : Fin 4096 := ⟨y.val * 1024 + j.val, by omega⟩

/-- A sum over the four key blocks is the sum over all keys. -/
theorem sum_keys (f : Fin 4096 → EReal) : ∑ y : Fin 4, ∑ j : Fin 1024, f (kix y j) = ∑ k : Fin 4096, f k := by
  refine Eq.trans ?_ (Equiv.sum_comp (finProdFinEquiv : Fin 4 × Fin 1024 ≃ Fin (4 * 1024)) f)
  rw [Fintype.sum_prod_type]
  refine Finset.sum_congr rfl fun y _ => Finset.sum_congr rfl fun j _ => congrArg f (Fin.ext ?_)
  show y.val * 1024 + j.val = j.val + 1024 * y.val
  omega

/-- The block a device holds of an array cut along the keys. -/
theorem block_apply (X : (⟨4, ![8, 4096, 16, 128]⟩ : Shape).Idx → EReal) (c : Dev Cert.KernelIdeal.nD) (y : Fin 4)
    (hy : yof c = y.val) (b : Fin 8) (j : Fin 1024) (h : Fin 16) (d : Fin 128) :
    (Layout.blockN ⟨4, ![8, 1024, 16, 128]⟩ ⟨4, ![8, 4096, 16, 128]⟩ (Layout.meshBlock [2, 4, 4] ![[], [1], [], []] c) X)
      (ix4 b j h d) = X (ix4 b (kix y j) h d) := by
  rw [Layout.blockN_apply]
  refine congrArg X ?_
  funext a; apply Fin.ext
  match a with
  | ⟨0, _⟩ => show 0 * 8 + b.val = b.val; omega
  | ⟨1, _⟩ =>
    show ((c.val / 4) % 4 * 1 + 0) * 1024 + j.val = y.val * 1024 + j.val
    have e : (c.val / 4) % 4 = y.val := hy
    rw [e]; omega
  | ⟨2, _⟩ => show 0 * 16 + h.val = h.val; omega
  | ⟨3, _⟩ => show 0 * 128 + d.val = d.val; omega

section
variable (m : (ℓ : Loc Cert.KernelIdeal.nD Cert.KernelIdeal.τ Cert.KernelIdeal.sig) → Buf (Elt Ideal) ℓ)
variable (Q : FVec Ideal Cert.ReferenceIdeal.S8x8x16x128 .f32) (K V : FVec Ideal Cert.ReferenceIdeal.S8x4096x16x128 .f32)

/-- Every device's arrays are its part of the whole ones. -/
def Parts : Prop := ∀ c : Dev Cert.KernelIdeal.nD,
  m ((c.tc : Thread Cert.KernelIdeal.nD Cert.KernelIdeal.τ).loc Cert.KernelIdeal.main_arg0) = Q
  ∧ m ((c.tc : Thread Cert.KernelIdeal.nD Cert.KernelIdeal.τ).loc Cert.KernelIdeal.main_arg1)
      = Layout.blockN ⟨4, ![8, 1024, 16, 128]⟩ ⟨4, ![8, 4096, 16, 128]⟩ (Layout.meshBlock [2, 4, 4] ![[], [1], [], []] c) K
  ∧ m ((c.tc : Thread Cert.KernelIdeal.nD Cert.KernelIdeal.τ).loc Cert.KernelIdeal.main_arg2)
      = Layout.blockN ⟨4, ![8, 1024, 16, 128]⟩ ⟨4, ![8, 4096, 16, 128]⟩ (Layout.meshBlock [2, 4, 4] ![[], [1], [], []] c) V

variable {m Q K V}

theorem bix_dv (b : Fin 8) (y : Fin 4) : bix (dv b.val y.val) = b := Fin.ext (bof_dv b y)

theorem Qe_eq (hp : Parts m Q K V) (b : Fin 8) (y : Fin 4) (q : Fin 8) (h : Fin 16) (d : Fin 128) :
    Qe m (dv b.val y.val) q h d = Q (ix4 b q h d) := by
  unfold Qe
  rw [bix_dv]
  exact congrFun (hp (dv b.val y.val)).1 _

theorem Ke_eq (hp : Parts m Q K V) (b : Fin 8) (y : Fin 4) (j : Fin 1024) (h : Fin 16) (d : Fin 128) :
    Ke m (dv b.val y.val) j h d = K (ix4 b (kix y j) h d) := by
  unfold Ke
  rw [bix_dv]
  exact (congrFun (hp (dv b.val y.val)).2.1 _).trans (block_apply K _ y (yof_dv b y) b j h d)

theorem Ve_eq (hp : Parts m Q K V) (b : Fin 8) (y : Fin 4) (j : Fin 1024) (h : Fin 16) (d : Fin 128) :
    Ve m (dv b.val y.val) j h d = V (ix4 b (kix y j) h d) := by
  unfold Ve
  rw [bix_dv]
  exact (congrFun (hp (dv b.val y.val)).2.2 _).trans (block_apply V _ y (yof_dv b y) b j h d)

theorem sc_eq (hp : Parts m Q K V) (b : Fin 8) (y : Fin 4) (q : Fin 8) (h : Fin 16) (j : Fin 1024) :
    sc m (dv b.val y.val) q h j = refS Q K (ix4 b h q (kix y j)) := by
  rw [refS_apply]
  unfold sc
  refine congrArg (· * scl) (Finset.sum_congr rfl fun d _ => ?_)
  rw [Qe_eq hp, Ke_eq hp]

/-- Real queries and keys have real scores. -/
theorem refS_real (hq : ∀ i, IsReal (Q i)) (hk : ∀ i, IsReal (K i)) (b : Fin 8) (h : Fin 16) (q : Fin 8) (k : Fin 4096) :
    IsReal (refS Q K (ix4 b h q k)) := by
  rw [refS_apply]
  exact (IsReal.sum _ _ fun d => (hq _).mul (hk _)).mul scl_real

/-- The two results, entry by entry. -/
theorem out_eq (hp : Parts m Q K V) (hq : ∀ i, IsReal (Q i)) (hk : ∀ i, IsReal (K i)) : outv m = refO Q K V := by
  funext i
  obtain ⟨b, r, d, rfl⟩ : ∃ (b : Fin 8) (r d : Fin 128), i = ix3 b r d := ⟨i 0, i 1, i 2, eq_ix3 i⟩
  obtain ⟨q, h, rfl⟩ : ∃ (q : Fin 8) (h : Fin 16), r = row q h :=
    ⟨⟨r.val / 16, by omega⟩, ⟨r.val % 16, by omega⟩, Fin.ext (by show r.val = r.val / 16 * 16 + r.val % 16; omega)⟩
  refine (outv_apply m b q h d).trans (Eq.trans ?_ (refO_apply Q K V b q h d (row q h) rfl).symm)
  rw [softmax_eq (fun k => (refS Q K (ix4 b h q k) : EReal)) (refS_real hq hk b h q) _
    (refM_real Q K b h q (refS_real hq hk b h q)) (fun k => (V (ix4 b k h d) : EReal))]
  refine congrArg₂ Ideal.div ?_ ?_
  · rw [← sum_keys]
    refine Finset.sum_congr rfl fun y _ => ?_
    rw [opv_apply]
    exact Finset.sum_congr rfl fun j _ => by rw [sc_eq hp, Ve_eq hp]
  · rw [← sum_keys]
    refine Finset.sum_congr rfl fun y _ => ?_
    rw [lbv_apply]
    exact Finset.sum_congr rfl fun j _ => by rw [sc_eq hp]

end

end Cert.Att

end
-- ==== Proof.Algebraic.lean ====
/-
# The two programs compute the same

The kernel on 32 devices and the reference on one, from memories that agree, end with the same result.

-/
module

public import proofs.«01_k».proof.Proof.ValueEq
public import proofs.«01_k».proof.Proof.Precondition

@[expose] public section

set_option maxRecDepth 16384

noncomputable section

namespace Cert.Att

open Idealize.ShloMosaic Idealize.ShloMosaic.TcCoe Idealize.ShloMosaic.ValueIdx
open Idealize.SL.Sem

/-- Every key of the whole array is a key of some device's block. -/
theorem real_keys (m : (ℓ : Loc Cert.KernelIdeal.nD Cert.KernelIdeal.τ Cert.KernelIdeal.sig) → Buf (Elt Ideal) ℓ)
    (Q : FVec Ideal Cert.ReferenceIdeal.S8x8x16x128 .f32) (K V : FVec Ideal Cert.ReferenceIdeal.S8x4096x16x128 .f32)
    (hp : Parts m Q K V)
    (hk : ∀ (c : Dev Cert.KernelIdeal.nD) i,
      IsReal (m ((c.tc : Thread Cert.KernelIdeal.nD Cert.KernelIdeal.τ).loc Cert.KernelIdeal.main_arg1) i)) (i) : IsReal (K i) := by
  obtain ⟨b, k, h, d, rfl⟩ : ∃ (b : Fin 8) (k : Fin 4096) (h : Fin 16) (d : Fin 128), i = ix4 b k h d :=
    ⟨i 0, i 1, i 2, i 3, eq_ix4 i⟩
  obtain ⟨y, j, rfl⟩ : ∃ (y : Fin 4) (j : Fin 1024), k = kix y j :=
    ⟨⟨k.val / 1024, by omega⟩, ⟨k.val % 1024, by omega⟩, Fin.ext (by show k.val = k.val / 1024 * 1024 + k.val % 1024; omega)⟩
  rw [← Ke_eq hp b y j h d]
  exact hk (dv b.val y.val) _

theorem algebraic : @Cert.algebraic_KernelIdeal_ReferenceIdeal_pre_finite_qk_KernelIdeal Cert.KernelIdeal.Gen.facts
    Cert.ReferenceIdeal.Gen.facts pre_facts := by
  intro m g m' g' hpre hin
  have hp : Parts m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) := hin
  have hr := fun c => real_of_pre _ _ _ (hpre c)
  have e := out_eq hp (fun i => by
      have e0 := congrFun (hp (0 : Dev Cert.KernelIdeal.nD)).1 i
      exact e0 ▸ (hr (0 : Dev Cert.KernelIdeal.nD)).1 i)
    (real_keys m _ _ _ hp fun c => (hr c).2)
  refine ⟨outv m, (θ_run _ _ _).mono (fun _ h => h.1) (kernel_run m g), ?_⟩
  refine (θ_run _ _ _).mono (fun r h => ?_) (Cert.ReferenceIdeal.Value.run (F := Ideal) m' g')
  exact ⟨(h 0).1.trans e.symm, (h 0).2⟩

end Cert.Att

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Frames
public import proofs.«01_k».proof.Proof.Precondition
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Att.pre_facts, Cert.Att.pre_facts_ref,
  Cert.Att.frame_kernel, Cert.Att.frame_kernelIdeal, fun m g _ => Cert.Att.frame_kernelIdeal m g trivial,
  Cert.Att.frame_referenceIdeal, fun m g _ => Cert.Att.frame_referenceIdeal m g trivial, trivial, Cert.Att.algebraic⟩

end Cert.Proof

end
